-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x64 : Shape := ⟨2, ![1, 64]⟩
abbrev S16384x512 : Shape := ⟨2, ![16384, 512]⟩
abbrev S1x128 : Shape := ⟨2, ![1, 128]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn_part2 {F : FTy → Type} [FloatOps F] (main_v29 : IVec S_ 1) (main_v32 : IVec S16384x512 1) (main_c_12 : IVec S_ 1) : IVec S_ 1 :=
  let main_v33 : IVec S_ 1 := (fun x v => Host.reduce IntOp.andi x v reducesTo_S16384x512_S_d0_1 h_S_) main_v32 main_c_12
  let main_v34 : IVec S_ 1 := andi main_v29 main_v33
  main_v34

def fn_part1 {F : FTy → Type} [FloatOps F] (main_arg4 : FVec F S16384x512 .f32) (main_arg5 : FVec F S16384x512 .f32) (main_arg6 : FVec F S16384x512 .f32) (main_v14 : IVec S_ 1) (main_v15 : FVec F S1x64 .f32) (main_cst_5 : FVec F S_ .f32) : IVec S_ 1 :=
  let main_v16 : FVec F S1x64 .f32 := broadcastInDim S1x64 ![] bcast_S_S1x64 main_cst_5
  let main_v17 : IVec S1x64 1 := cmpf .olt main_v15 main_v16
  let main_c_6 : IVec S_ 1 := constantI S_ 1 1#1
  let main_v18 : IVec S_ 1 := (fun x v => Host.reduce IntOp.andi x v reducesTo_S1x64_S_d0_1 h_S_) main_v17 main_c_6
  let main_v19 : IVec S_ 1 := andi main_v14 main_v18
  let main_v20 : FVec F S16384x512 .f32 := Host.absf main_arg4
  let main_cst_7 : FVec F S_ .f32 := constant S_ .f32 0x7F800000#32
  let main_v21 : FVec F S16384x512 .f32 := broadcastInDim S16384x512 ![] bcast_S_S16384x512 main_cst_7
  let main_v22 : IVec S16384x512 1 := cmpf .olt main_v20 main_v21
  let main_c_8 : IVec S_ 1 := constantI S_ 1 1#1
  let main_v23 : IVec S_ 1 := (fun x v => Host.reduce IntOp.andi x v reducesTo_S16384x512_S_d0_1 h_S_) main_v22 main_c_8
  let main_v24 : IVec S_ 1 := andi main_v19 main_v23
  let main_v25 : FVec F S16384x512 .f32 := Host.absf main_arg5
  let main_cst_9 : FVec F S_ .f32 := constant S_ .f32 0x7F800000#32
  let main_v26 : FVec F S16384x512 .f32 := broadcastInDim S16384x512 ![] bcast_S_S16384x512 main_cst_9
  let main_v27 : IVec S16384x512 1 := cmpf .olt main_v25 main_v26
  let main_c_10 : IVec S_ 1 := constantI S_ 1 1#1
  let main_v28 : IVec S_ 1 := (fun x v => Host.reduce IntOp.andi x v reducesTo_S16384x512_S_d0_1 h_S_) main_v27 main_c_10
  let main_v29 : IVec S_ 1 := andi main_v24 main_v28
  let main_v30 : FVec F S16384x512 .f32 := Host.absf main_arg6
  let main_cst_11 : FVec F S_ .f32 := constant S_ .f32 0x7F800000#32
  let main_v31 : FVec F S16384x512 .f32 := broadcastInDim S16384x512 ![] bcast_S_S16384x512 main_cst_11
  let main_v32 : IVec S16384x512 1 := cmpf .olt main_v30 main_v31
  let main_c_12 : IVec S_ 1 := constantI S_ 1 1#1
  fn_part2 (F := F) main_v29 main_v32 main_c_12

def fn {F : FTy → Type} [FloatOps F] (main_arg0 : FVec F S1x64 .f32) (main_arg1 : FVec F S1x64 .f32) (main_arg2 : FVec F S1x64 .f32) (main_arg3 : FVec F S1x64 .f32) (main_arg4 : FVec F S16384x512 .f32) (main_arg5 : FVec F S16384x512 .f32) (main_arg6 : FVec F S16384x512 .f32) (main_arg7 : FVec F S1x128 .f32) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_c_0 : IVec S_ 1 := constantI S_ 1 1#1
  let main_v4 : IVec S_ 1 := andi main_c_0 main_v3
  let main_v5 : FVec F S1x64 .f32 := Host.absf main_arg1
  let main_cst_1 : FVec F S_ .f32 := constant S_ .f32 0x7F800000#32
  let main_v6 : FVec F S1x64 .f32 := broadcastInDim S1x64 ![] bcast_S_S1x64 main_cst_1
  let main_v7 : IVec S1x64 1 := cmpf .olt main_v5 main_v6
  let main_c_2 : IVec S_ 1 := constantI S_ 1 1#1
  let main_v8 : IVec S_ 1 := (fun x v => Host.reduce IntOp.andi x v reducesTo_S1x64_S_d0_1 h_S_) main_v7 main_c_2
  let main_v9 : IVec S_ 1 := andi main_v4 main_v8
  let main_v10 : FVec F S1x64 .f32 := Host.absf main_arg2
  let main_cst_3 : FVec F S_ .f32 := constant S_ .f32 0x7F800000#32
  let main_v11 : FVec F S1x64 .f32 := broadcastInDim S1x64 ![] bcast_S_S1x64 main_cst_3
  let main_v12 : IVec S1x64 1 := cmpf .olt main_v10 main_v11
  let main_c_4 : IVec S_ 1 := constantI S_ 1 1#1
  let main_v13 : IVec S_ 1 := (fun x v => Host.reduce IntOp.andi x v reducesTo_S1x64_S_d0_1 h_S_) main_v12 main_c_4
  let main_v14 : IVec S_ 1 := andi main_v9 main_v13
  let main_v15 : FVec F S1x64 .f32 := Host.absf main_arg3
  let main_cst_5 : FVec F S_ .f32 := constant S_ .f32 0x7F800000#32
  fn_part1 (F := F) main_arg4 main_arg5 main_arg6 main_v14 main_v15 main_cst_5
-- ==== Kernel.lean ====
abbrev S1x64 : Shape := ⟨2, ![1, 64]⟩
abbrev S16384x512 : Shape := ⟨2, ![16384, 512]⟩
abbrev S1x128 : Shape := ⟨2, ![1, 128]⟩
abbrev S_ : Shape := ⟨0, ![]⟩
abbrev S512x16384 : Shape := ⟨2, ![512, 16384]⟩
abbrev S4x128x16384 : Shape := ⟨3, ![4, 128, 16384]⟩
abbrev S4x16x16384 : Shape := ⟨3, ![4, 16, 16384]⟩
abbrev S4x144x16384 : Shape := ⟨3, ![4, 144, 16384]⟩
abbrev S16384x128 : Shape := ⟨2, ![16384, 128]⟩
abbrev S1x144x16384 : Shape := ⟨3, ![1, 144, 16384]⟩
abbrev S2x2x512x512 : Shape := ⟨4, ![2, 2, 512, 512]⟩
abbrev S2x2x1x512 : Shape := ⟨4, ![2, 2, 1, 512]⟩
abbrev S2x2x144x512 : Shape := ⟨4, ![2, 2, 144, 512]⟩
abbrev S1x1x64 : Shape := ⟨3, ![1, 1, 64]⟩
abbrev S1 : Shape := ⟨1, ![1]⟩
abbrev S1x1x1 : Shape := ⟨3, ![1, 1, 1]⟩
abbrev S512x128 : Shape := ⟨2, ![512, 128]⟩
abbrev S1x256 : Shape := ⟨2, ![1, 256]⟩
abbrev S256x128 : Shape := ⟨2, ![256, 128]⟩
abbrev S512x256 : Shape := ⟨2, ![512, 256]⟩
abbrev S1x1x512x256 : Shape := ⟨4, ![1, 1, 512, 256]⟩
abbrev S256 : Shape := ⟨1, ![256]⟩
abbrev S1x1x1x256 : Shape := ⟨4, ![1, 1, 1, 256]⟩
abbrev S1x144x512 : Shape := ⟨3, ![1, 144, 512]⟩
abbrev S144x512 : Shape := ⟨2, ![144, 512]⟩
abbrev S1x1x512x512 : Shape := ⟨4, ![1, 1, 512, 512]⟩
abbrev S512x512 : Shape := ⟨2, ![512, 512]⟩
abbrev S1x1x1x512 : Shape := ⟨4, ![1, 1, 1, 512]⟩
abbrev S1x512 : Shape := ⟨2, ![1, 512]⟩
abbrev S1x1x144x512 : Shape := ⟨4, ![1, 1, 144, 512]⟩
abbrev S128x512 : Shape := ⟨2, ![128, 512]⟩
abbrev S512 : Shape := ⟨1, ![512]⟩
abbrev S512x1 : Shape := ⟨2, ![512, 1]⟩

abbrev nBuf : Space → Nat
  | .hbm => 25
  | .vmem => 17
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .bf16⟩
  | .hbm, ⟨17, _⟩ => ⟨S16384x512, .bf16⟩
  | .hbm, ⟨18, _⟩ => ⟨S512x16384, .f32⟩
  | .hbm, ⟨19, _⟩ => ⟨S512x16384, .bf16⟩
  | .hbm, ⟨20, _⟩ => ⟨S4x128x16384, .bf16⟩
  | .hbm, ⟨21, _⟩ => ⟨S_, .bf16⟩
  | .hbm, ⟨22, _⟩ => ⟨S4x16x16384, .bf16⟩
  | .hbm, ⟨23, _⟩ => ⟨S4x144x16384, .bf16⟩
  | .hbm, ⟨24, _⟩ => ⟨S16384x512, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S1x144x16384, .bf16⟩
  | .local _ .vmem, ⟨9, _⟩ => ⟨S1x144x16384, .bf16⟩
  | .local _ .vmem, ⟨10, _⟩ => ⟨S1x128, .f32⟩
  | .local _ .vmem, ⟨11, _⟩ => ⟨S16384x128, .f32⟩
  | .local _ .vmem, ⟨12, _⟩ => ⟨S16384x128, .f32⟩
  | .local _ .vmem, ⟨13, _⟩ => ⟨S2x2x512x512, .f32⟩
  | .local _ .vmem, ⟨14, _⟩ => ⟨S2x2x512x512, .bf16⟩
  | .local _ .vmem, ⟨15, _⟩ => ⟨S2x2x1x512, .f32⟩
  | .local _ .vmem, ⟨16, _⟩ => ⟨S2x2x144x512, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def k0_mult1 : BitVec 32 :=
  let c0_i32_28 : BitVec 32 := 0#32
  let c512_i32 : BitVec 32 := 512#32
  let v40 : BitVec 32 := Scalar.muli c0_i32_28 c512_i32
  v40
def k0_off1 : Fin 2 → Nat :=
  let c0_i32_28 : BitVec 32 := 0#32
  let c512_i32 : BitVec 32 := 512#32
  let v40 : BitVec 32 := Scalar.muli c0_i32_28 c512_i32
  let v41 : BitVec 32 := v40
  let v42 : Index := Scalar.indexCast v41
  let c0_29 : Index := 0#32
  ![v42.toNat, 0]
def k0_mult2 : BitVec 32 :=
  let c0_i32_30 : BitVec 32 := 0#32
  let c512_i32_31 : BitVec 32 := 512#32
  let v45 : BitVec 32 := Scalar.muli c0_i32_30 c512_i32_31
  v45
def k0_mult3 : BitVec 32 :=
  let c0_i32 : BitVec 32 := 0#32
  let c0_i32_15 : BitVec 32 := 0#32
  let v24 : BitVec 1 := Scalar.cmpi .eq c0_i32 c0_i32_15
  let c0_i32_16 : BitVec 32 := 0#32
  let c1_i32 : BitVec 32 := 1#32
  let v25 : BitVec 32 := Scalar.addi c0_i32_16 c1_i32
  let c0_i32_17 : BitVec 32 := 0#32
  let v26 : BitVec 32 := Scalar.select v24 v25 c0_i32_17
  let c32_i32 : BitVec 32 := 32#32
  let v29 : BitVec 1 := Scalar.cmpi .eq v26 c32_i32
  let c31_i32 : BitVec 32 := 31#32
  let v30 : BitVec 32 := Scalar.select v29 c31_i32 v26
  let c512_i32_80 : BitVec 32 := 512#32
  let v133 : BitVec 32 := Scalar.muli v30 c512_i32_80
  v133
def k0_off2 : Fin 2 → Nat :=
  let c0_i32 : BitVec 32 := 0#32
  let c0_i32_15 : BitVec 32 := 0#32
  let v24 : BitVec 1 := Scalar.cmpi .eq c0_i32 c0_i32_15
  let c0_i32_16 : BitVec 32 := 0#32
  let c1_i32 : BitVec 32 := 1#32
  let v25 : BitVec 32 := Scalar.addi c0_i32_16 c1_i32
  let c0_i32_17 : BitVec 32 := 0#32
  let v26 : BitVec 32 := Scalar.select v24 v25 c0_i32_17
  let c32_i32 : BitVec 32 := 32#32
  let v29 : BitVec 1 := Scalar.cmpi .eq v26 c32_i32
  let c31_i32 : BitVec 32 := 31#32
  let v30 : BitVec 32 := Scalar.select v29 c31_i32 v26
  let c512_i32_80 : BitVec 32 := 512#32
  let v133 : BitVec 32 := Scalar.muli v30 c512_i32_80
  let v134 : BitVec 32 := v133
  let v135 : Index := Scalar.indexCast v134
  let c0_81 : Index := 0#32
  ![v135.toNat, 0]
def k0_mult4 : BitVec 32 :=
  let c0_i32 : BitVec 32 := 0#32
  let c0_i32_15 : BitVec 32 := 0#32
  let v24 : BitVec 1 := Scalar.cmpi .eq c0_i32 c0_i32_15
  let c0_i32_16 : BitVec 32 := 0#32
  let c1_i32 : BitVec 32 := 1#32
  let v25 : BitVec 32 := Scalar.addi c0_i32_16 c1_i32
  let c0_i32_17 : BitVec 32 := 0#32
  let v26 : BitVec 32 := Scalar.select v24 v25 c0_i32_17
  let c32_i32 : BitVec 32 := 32#32
  let v29 : BitVec 1 := Scalar.cmpi .eq v26 c32_i32
  let c31_i32_21 : BitVec 32 := 31#32
  let c0_i32_20 : BitVec 32 := 0#32
  let c0_i32_18 : BitVec 32 := 0#32
  let c1_i32_19 : BitVec 32 := 1#32
  let v27 : BitVec 32 := Scalar.addi c0_i32_18 c1_i32_19
  let v28 : BitVec 32 := Scalar.select v24 c0_i32_20 v27
  let v31 : BitVec 32 := Scalar.select v29 c31_i32_21 v28
  let c512_i32_82 : BitVec 32 := 512#32
  let v138 : BitVec 32 := Scalar.muli v31 c512_i32_82
  v138
def k0_off3 : Fin 2 → Nat :=
  let c0_i32 : BitVec 32 := 0#32
  let c0_i32_15 : BitVec 32 := 0#32
  let v24 : BitVec 1 := Scalar.cmpi .eq c0_i32 c0_i32_15
  let c0_i32_16 : BitVec 32 := 0#32
  let c1_i32 : BitVec 32 := 1#32
  let v25 : BitVec 32 := Scalar.addi c0_i32_16 c1_i32
  let c0_i32_17 : BitVec 32 := 0#32
  let v26 : BitVec 32 := Scalar.select v24 v25 c0_i32_17
  let c32_i32 : BitVec 32 := 32#32
  let v29 : BitVec 1 := Scalar.cmpi .eq v26 c32_i32
  let c31_i32_21 : BitVec 32 := 31#32
  let c0_i32_20 : BitVec 32 := 0#32
  let c0_i32_18 : BitVec 32 := 0#32
  let c1_i32_19 : BitVec 32 := 1#32
  let v27 : BitVec 32 := Scalar.addi c0_i32_18 c1_i32_19
  let v28 : BitVec 32 := Scalar.select v24 c0_i32_20 v27
  let v31 : BitVec 32 := Scalar.select v29 c31_i32_21 v28
  let c512_i32_82 : BitVec 32 := 512#32
  let v138 : BitVec 32 := Scalar.muli v31 c512_i32_82
  let v139 : BitVec 32 := v138
  let v140 : Index := Scalar.indexCast v139
  let c0_83 : Index := 0#32
  ![v140.toNat, 0]
@[reducible] def k0_t1_loop : Scf.Loop 32 :=
  let c0_i32_163 : BitVec 32 := 0#32
  let c264_i32 : BitVec 32 := 264#32
  let v243 : BitVec 32 := Scalar.addi c0_i32_163 c264_i32
  let c1_i32_164 : BitVec 32 := 1#32
  ⟨c0_i32_163, v243, c1_i32_164⟩
def k0_mult5 (arg15 : BitVec 32) : BitVec 32 :=
  let c512_i32_207 : BitVec 32 := 512#32
  let v311 : BitVec 32 := Scalar.muli arg15 c512_i32_207
  v311
def k0_cond1 (arg15 : BitVec 32) (arg16 : BitVec 32) : BitVec 1 :=
  let v269 : BitVec 1 := Scalar.cmpi .eq arg15 arg16
  let v270 : BitVec 32 := Scalar.extui v269
  let c2_i32 : BitVec 32 := 2#32
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_169 : BitVec 32 := 31#32
  let v251 : BitVec 32 := Scalar.select v250 c31_i32_169 v247
  let c31_i32_170 : BitVec 32 := 31#32
  let c0_i32_167 : BitVec 32 := 0#32
  let c1_i32_166 : BitVec 32 := 1#32
  let v248 : BitVec 32 := Scalar.addi arg16 c1_i32_166
  let v249 : BitVec 32 := Scalar.select v245 c0_i32_167 v248
  let v252 : BitVec 32 := Scalar.select v250 c31_i32_170 v249
  let v271 : BitVec 1 := Scalar.cmpi .eq v251 v252
  let v272 : BitVec 32 := Scalar.extui v271
  let v273 : BitVec 32 := Scalar.muli c2_i32 v272
  let v274 : BitVec 32 := Scalar.addi v270 v273
  let c0_i32_183 : BitVec 32 := 0#32
  let v275 : BitVec 32 := Scalar.maxsi v274 c0_i32_183
  let c2_i32_184 : BitVec 32 := 2#32
  let v276 : BitVec 32 := Scalar.minsi v275 c2_i32_184
  let c0_i32_185 : BitVec 32 := 0#32
  let v277 : BitVec 1 := Scalar.cmpi .ne v276 c0_i32_185
  v277

def k0_cond2 (arg15 : BitVec 32) (arg16 : BitVec 32) : BitVec 1 :=
  let v269 : BitVec 1 := Scalar.cmpi .eq arg15 arg16
  let v270 : BitVec 32 := Scalar.extui v269
  let c2_i32 : BitVec 32 := 2#32
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_169 : BitVec 32 := 31#32
  let v251 : BitVec 32 := Scalar.select v250 c31_i32_169 v247
  let c31_i32_170 : BitVec 32 := 31#32
  let c0_i32_167 : BitVec 32 := 0#32
  let c1_i32_166 : BitVec 32 := 1#32
  let v248 : BitVec 32 := Scalar.addi arg16 c1_i32_166
  let v249 : BitVec 32 := Scalar.select v245 c0_i32_167 v248
  let v252 : BitVec 32 := Scalar.select v250 c31_i32_170 v249
  let v271 : BitVec 1 := Scalar.cmpi .eq v251 v252
  let v272 : BitVec 32 := Scalar.extui v271
  let v273 : BitVec 32 := Scalar.muli c2_i32 v272
  let v274 : BitVec 32 := Scalar.addi v270 v273
  let c0_i32_183 : BitVec 32 := 0#32
  let v275 : BitVec 32 := Scalar.maxsi v274 c0_i32_183
  let c2_i32_184 : BitVec 32 := 2#32
  let v276 : BitVec 32 := Scalar.minsi v275 c2_i32_184
  let c1_i32_205 : BitVec 32 := 1#32
  let v308 : BitVec 32 := Scalar.subi v276 c1_i32_205
  let c0_i32_206 : BitVec 32 := 0#32
  let v309 : BitVec 1 := Scalar.cmpi .ne v308 c0_i32_206
  v309

def k0_off4 (arg15 : BitVec 32) : Fin 2 → Nat :=
  let c512_i32_207 : BitVec 32 := 512#32
  let v311 : BitVec 32 := Scalar.muli arg15 c512_i32_207
  let v312 : BitVec 32 := v311
  let v313 : Index := Scalar.indexCast v312
  let c0_208 : Index := 0#32
  ![v313.toNat, 0]
def k0_mult6 (arg16 : BitVec 32) : BitVec 32 :=
  let c512_i32_209 : BitVec 32 := 512#32
  let v316 : BitVec 32 := Scalar.muli arg16 c512_i32_209
  v316
def k0_off5 (arg16 : BitVec 32) : Fin 2 → Nat :=
  let c512_i32_209 : BitVec 32 := 512#32
  let v316 : BitVec 32 := Scalar.muli arg16 c512_i32_209
  let v317 : BitVec 32 := v316
  let v318 : Index := Scalar.indexCast v317
  let c0_210 : Index := 0#32
  ![v318.toNat, 0]
def k0_mult7 (arg20 : BitVec 32) : BitVec 32 :=
  let c512_i32_287 : BitVec 32 := 512#32
  let v421 : BitVec 32 := Scalar.muli arg20 c512_i32_287
  v421

def k0_off6 (arg20 : BitVec 32) : Fin 3 → Nat :=
  let c0_288 : Index := 0#32
  let c0_289 : Index := 0#32
  let c512_i32_287 : BitVec 32 := 512#32
  let v421 : BitVec 32 := Scalar.muli arg20 c512_i32_287
  let v422 : BitVec 32 := v421
  let v423 : Index := Scalar.indexCast v422
  ![0, 0, v423.toNat]
def k0_off7 (arg19 : BitVec 32) : Fin 4 → Nat :=
  let c2_i32_299 : BitVec 32 := 2#32
  let c0_i32_300 : BitVec 32 := 0#32
  let v431 : BitVec 1 := Scalar.cmpi .eq c2_i32_299 c0_i32_300
  let c1_i32_301 : BitVec 32 := 1#32
  let v432 : BitVec 32 := Scalar.select v431 c1_i32_301 c2_i32_299
  let v433 : BitVec 32 := Scalar.remsi arg19 v432
  let c0_i32_303 : BitVec 32 := 0#32
  let v435 : BitVec 1 := Scalar.cmpi .slt v433 c0_i32_303
  let c0_i32_304 : BitVec 32 := 0#32
  let v436 : BitVec 1 := Scalar.cmpi .slt v432 c0_i32_304
  let v437 : BitVec 1 := Scalar.xori v435 v436
  let c0_i32_302 : BitVec 32 := 0#32
  let v434 : BitVec 1 := Scalar.cmpi .ne v433 c0_i32_302
  let v438 : BitVec 1 := Scalar.andi v437 v434
  let v439 : BitVec 32 := Scalar.addi v433 v432
  let v440 : BitVec 32 := Scalar.select v438 v439 v433
  let v441 : Index := Scalar.indexCast v440
  let c0_305 : Index := 0#32
  let c0_306 : Index := 0#32
  let c0_307 : Index := 0#32
  ![v441.toNat, 0, 0, 0]

def k0_off8 (arg19 : BitVec 32) : Fin 4 → Nat :=
  let c2_i32_326 : BitVec 32 := 2#32
  let c0_i32_327 : BitVec 32 := 0#32
  let v466 : BitVec 1 := Scalar.cmpi .eq c2_i32_326 c0_i32_327
  let c1_i32_328 : BitVec 32 := 1#32
  let v467 : BitVec 32 := Scalar.select v466 c1_i32_328 c2_i32_326
  let v468 : BitVec 32 := Scalar.remsi arg19 v467
  let c0_i32_330 : BitVec 32 := 0#32
  let v470 : BitVec 1 := Scalar.cmpi .slt v468 c0_i32_330
  let c0_i32_331 : BitVec 32 := 0#32
  let v471 : BitVec 1 := Scalar.cmpi .slt v467 c0_i32_331
  let v472 : BitVec 1 := Scalar.xori v470 v471
  let c0_i32_329 : BitVec 32 := 0#32
  let v469 : BitVec 1 := Scalar.cmpi .ne v468 c0_i32_329
  let v473 : BitVec 1 := Scalar.andi v472 v469
  let v474 : BitVec 32 := Scalar.addi v468 v467
  let v475 : BitVec 32 := Scalar.select v473 v474 v468
  let v476 : Index := Scalar.indexCast v475
  let c1_332 : Index := 1#32
  let c0_333 : Index := 0#32
  let c0_334 : Index := 0#32
  ![v476.toNat, 1, 0, 0]
def k0_mult8 (arg15 : BitVec 32) (arg16 : BitVec 32) : BitVec 32 :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_169 : BitVec 32 := 31#32
  let v251 : BitVec 32 := Scalar.select v250 c31_i32_169 v247
  let c512_i32_344 : BitVec 32 := 512#32
  let v496 : BitVec 32 := Scalar.muli v251 c512_i32_344
  v496
def k0_off9 (arg15 : BitVec 32) (arg16 : BitVec 32) : Fin 2 → Nat :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_169 : BitVec 32 := 31#32
  let v251 : BitVec 32 := Scalar.select v250 c31_i32_169 v247
  let c512_i32_344 : BitVec 32 := 512#32
  let v496 : BitVec 32 := Scalar.muli v251 c512_i32_344
  let v497 : BitVec 32 := v496
  let v498 : Index := Scalar.indexCast v497
  let c0_345 : Index := 0#32
  ![v498.toNat, 0]
def k0_mult9 (arg15 : BitVec 32) (arg16 : BitVec 32) : BitVec 32 :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_170 : BitVec 32 := 31#32
  let c0_i32_167 : BitVec 32 := 0#32
  let c1_i32_166 : BitVec 32 := 1#32
  let v248 : BitVec 32 := Scalar.addi arg16 c1_i32_166
  let v249 : BitVec 32 := Scalar.select v245 c0_i32_167 v248
  let v252 : BitVec 32 := Scalar.select v250 c31_i32_170 v249
  let c512_i32_346 : BitVec 32 := 512#32
  let v501 : BitVec 32 := Scalar.muli v252 c512_i32_346
  v501
def k0_off10 (arg15 : BitVec 32) (arg16 : BitVec 32) : Fin 2 → Nat :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_170 : BitVec 32 := 31#32
  let c0_i32_167 : BitVec 32 := 0#32
  let c1_i32_166 : BitVec 32 := 1#32
  let v248 : BitVec 32 := Scalar.addi arg16 c1_i32_166
  let v249 : BitVec 32 := Scalar.select v245 c0_i32_167 v248
  let v252 : BitVec 32 := Scalar.select v250 c31_i32_170 v249
  let c512_i32_346 : BitVec 32 := 512#32
  let v501 : BitVec 32 := Scalar.muli v252 c512_i32_346
  let v502 : BitVec 32 := v501
  let v503 : Index := Scalar.indexCast v502
  let c0_347 : Index := 0#32
  ![v503.toNat, 0]
def k0_mult10 (arg19 : BitVec 32) (arg20 : BitVec 32) : BitVec 32 :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_182 : BitVec 32 := 31#32
  let c0_i32_179 : BitVec 32 := 0#32
  let c1_i32_178 : BitVec 32 := 1#32
  let v264 : BitVec 32 := Scalar.addi arg20 c1_i32_178
  let v265 : BitVec 32 := Scalar.select v261 c0_i32_179 v264
  let v268 : BitVec 32 := Scalar.select v266 c31_i32_182 v265
  let c512_i32_440 : BitVec 32 := 512#32
  let v654 : BitVec 32 := Scalar.muli v268 c512_i32_440
  v654
def k0_off11 (arg19 : BitVec 32) (arg20 : BitVec 32) : Fin 3 → Nat :=
  let c0_441 : Index := 0#32
  let c0_442 : Index := 0#32
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_182 : BitVec 32 := 31#32
  let c0_i32_179 : BitVec 32 := 0#32
  let c1_i32_178 : BitVec 32 := 1#32
  let v264 : BitVec 32 := Scalar.addi arg20 c1_i32_178
  let v265 : BitVec 32 := Scalar.select v261 c0_i32_179 v264
  let v268 : BitVec 32 := Scalar.select v266 c31_i32_182 v265
  let c512_i32_440 : BitVec 32 := 512#32
  let v654 : BitVec 32 := Scalar.muli v268 c512_i32_440
  let v655 : BitVec 32 := v654
  let v656 : Index := Scalar.indexCast v655
  ![0, 0, v656.toNat]
def k0_off12 (arg19 : BitVec 32) (arg20 : BitVec 32) : Fin 4 → Nat :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let c2_i32_452 : BitVec 32 := 2#32
  let c0_i32_453 : BitVec 32 := 0#32
  let v664 : BitVec 1 := Scalar.cmpi .eq c2_i32_452 c0_i32_453
  let c1_i32_454 : BitVec 32 := 1#32
  let v665 : BitVec 32 := Scalar.select v664 c1_i32_454 c2_i32_452
  let v666 : BitVec 32 := Scalar.remsi v267 v665
  let c0_i32_456 : BitVec 32 := 0#32
  let v668 : BitVec 1 := Scalar.cmpi .slt v666 c0_i32_456
  let c0_i32_457 : BitVec 32 := 0#32
  let v669 : BitVec 1 := Scalar.cmpi .slt v665 c0_i32_457
  let v670 : BitVec 1 := Scalar.xori v668 v669
  let c0_i32_455 : BitVec 32 := 0#32
  let v667 : BitVec 1 := Scalar.cmpi .ne v666 c0_i32_455
  let v671 : BitVec 1 := Scalar.andi v670 v667
  let v672 : BitVec 32 := Scalar.addi v666 v665
  let v673 : BitVec 32 := Scalar.select v671 v672 v666
  let v674 : Index := Scalar.indexCast v673
  let c0_458 : Index := 0#32
  let c0_459 : Index := 0#32
  let c0_460 : Index := 0#32
  ![v674.toNat, 0, 0, 0]
def k0_off13 (arg19 : BitVec 32) (arg20 : BitVec 32) : Fin 4 → Nat :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let c2_i32_479 : BitVec 32 := 2#32
  let c0_i32_480 : BitVec 32 := 0#32
  let v699 : BitVec 1 := Scalar.cmpi .eq c2_i32_479 c0_i32_480
  let c1_i32_481 : BitVec 32 := 1#32
  let v700 : BitVec 32 := Scalar.select v699 c1_i32_481 c2_i32_479
  let v701 : BitVec 32 := Scalar.remsi v267 v700
  let c0_i32_483 : BitVec 32 := 0#32
  let v703 : BitVec 1 := Scalar.cmpi .slt v701 c0_i32_483
  let c0_i32_484 : BitVec 32 := 0#32
  let v704 : BitVec 1 := Scalar.cmpi .slt v700 c0_i32_484
  let v705 : BitVec 1 := Scalar.xori v703 v704
  let c0_i32_482 : BitVec 32 := 0#32
  let v702 : BitVec 1 := Scalar.cmpi .ne v701 c0_i32_482
  let v706 : BitVec 1 := Scalar.andi v705 v702
  let v707 : BitVec 32 := Scalar.addi v701 v700
  let v708 : BitVec 32 := Scalar.select v706 v707 v701
  let v709 : Index := Scalar.indexCast v708
  let c1_485 : Index := 1#32
  let c0_486 : Index := 0#32
  let c0_487 : Index := 0#32
  ![v709.toNat, 1, 0, 0]
def k0_mult11 (arg15 : BitVec 32) : BitVec 32 :=
  let c512_i32_207 : BitVec 32 := 512#32
  let v311 : BitVec 32 := Scalar.muli arg15 c512_i32_207
  v311
def k0_off14 (arg15 : BitVec 32) : Fin 2 → Nat :=
  let c512_i32_207 : BitVec 32 := 512#32
  let v311 : BitVec 32 := Scalar.muli arg15 c512_i32_207
  let v312 : BitVec 32 := v311
  let v313 : Index := Scalar.indexCast v312
  let c0_208 : Index := 0#32
  ![v313.toNat, 0]
def k0_mult12 (arg16 : BitVec 32) : BitVec 32 :=
  let c512_i32_209 : BitVec 32 := 512#32
  let v316 : BitVec 32 := Scalar.muli arg16 c512_i32_209
  v316
def k0_off15 (arg16 : BitVec 32) : Fin 2 → Nat :=
  let c512_i32_209 : BitVec 32 := 512#32
  let v316 : BitVec 32 := Scalar.muli arg16 c512_i32_209
  let v317 : BitVec 32 := v316
  let v318 : Index := Scalar.indexCast v317
  let c0_210 : Index := 0#32
  ![v318.toNat, 0]
def k0_mult13 (arg20 : BitVec 32) : BitVec 32 :=
  let c512_i32_303 : BitVec 32 := 512#32
  let v469 : BitVec 32 := Scalar.muli arg20 c512_i32_303
  v469
def k0_off16 (arg20 : BitVec 32) : Fin 3 → Nat :=
  let c0_304 : Index := 0#32
  let c0_305 : Index := 0#32
  let c512_i32_303 : BitVec 32 := 512#32
  let v469 : BitVec 32 := Scalar.muli arg20 c512_i32_303
  let v470 : BitVec 32 := v469
  let v471 : Index := Scalar.indexCast v470
  ![0, 0, v471.toNat]
def k0_off17 (arg19 : BitVec 32) : Fin 4 → Nat :=
  let c2_i32_315 : BitVec 32 := 2#32
  let c0_i32_316 : BitVec 32 := 0#32
  let v479 : BitVec 1 := Scalar.cmpi .eq c2_i32_315 c0_i32_316
  let c1_i32_317 : BitVec 32 := 1#32
  let v480 : BitVec 32 := Scalar.select v479 c1_i32_317 c2_i32_315
  let v481 : BitVec 32 := Scalar.remsi arg19 v480
  let c0_i32_319 : BitVec 32 := 0#32
  let v483 : BitVec 1 := Scalar.cmpi .slt v481 c0_i32_319
  let c0_i32_320 : BitVec 32 := 0#32
  let v484 : BitVec 1 := Scalar.cmpi .slt v480 c0_i32_320
  let v485 : BitVec 1 := Scalar.xori v483 v484
  let c0_i32_318 : BitVec 32 := 0#32
  let v482 : BitVec 1 := Scalar.cmpi .ne v481 c0_i32_318
  let v486 : BitVec 1 := Scalar.andi v485 v482
  let v487 : BitVec 32 := Scalar.addi v481 v480
  let v488 : BitVec 32 := Scalar.select v486 v487 v481
  let v489 : Index := Scalar.indexCast v488
  let c0_321 : Index := 0#32
  let c0_322 : Index := 0#32
  let c0_323 : Index := 0#32
  ![v489.toNat, 0, 0, 0]
def k0_off18 (arg19 : BitVec 32) : Fin 4 → Nat :=
  let c2_i32_342 : BitVec 32 := 2#32
  let c0_i32_343 : BitVec 32 := 0#32
  let v514 : BitVec 1 := Scalar.cmpi .eq c2_i32_342 c0_i32_343
  let c1_i32_344 : BitVec 32 := 1#32
  let v515 : BitVec 32 := Scalar.select v514 c1_i32_344 c2_i32_342
  let v516 : BitVec 32 := Scalar.remsi arg19 v515
  let c0_i32_346 : BitVec 32 := 0#32
  let v518 : BitVec 1 := Scalar.cmpi .slt v516 c0_i32_346
  let c0_i32_347 : BitVec 32 := 0#32
  let v519 : BitVec 1 := Scalar.cmpi .slt v515 c0_i32_347
  let v520 : BitVec 1 := Scalar.xori v518 v519
  let c0_i32_345 : BitVec 32 := 0#32
  let v517 : BitVec 1 := Scalar.cmpi .ne v516 c0_i32_345
  let v521 : BitVec 1 := Scalar.andi v520 v517
  let v522 : BitVec 32 := Scalar.addi v516 v515
  let v523 : BitVec 32 := Scalar.select v521 v522 v516
  let v524 : Index := Scalar.indexCast v523
  let c1_348 : Index := 1#32
  let c0_349 : Index := 0#32
  let c0_350 : Index := 0#32
  ![v524.toNat, 1, 0, 0]
def k0_mult14 (arg15 : BitVec 32) (arg16 : BitVec 32) : BitVec 32 :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_169 : BitVec 32 := 31#32
  let v251 : BitVec 32 := Scalar.select v250 c31_i32_169 v247
  let c512_i32_360 : BitVec 32 := 512#32
  let v544 : BitVec 32 := Scalar.muli v251 c512_i32_360
  v544
def k0_off19 (arg15 : BitVec 32) (arg16 : BitVec 32) : Fin 2 → Nat :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_169 : BitVec 32 := 31#32
  let v251 : BitVec 32 := Scalar.select v250 c31_i32_169 v247
  let c512_i32_360 : BitVec 32 := 512#32
  let v544 : BitVec 32 := Scalar.muli v251 c512_i32_360
  let v545 : BitVec 32 := v544
  let v546 : Index := Scalar.indexCast v545
  let c0_361 : Index := 0#32
  ![v546.toNat, 0]
def k0_mult15 (arg15 : BitVec 32) (arg16 : BitVec 32) : BitVec 32 :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_170 : BitVec 32 := 31#32
  let c0_i32_167 : BitVec 32 := 0#32
  let c1_i32_166 : BitVec 32 := 1#32
  let v248 : BitVec 32 := Scalar.addi arg16 c1_i32_166
  let v249 : BitVec 32 := Scalar.select v245 c0_i32_167 v248
  let v252 : BitVec 32 := Scalar.select v250 c31_i32_170 v249
  let c512_i32_362 : BitVec 32 := 512#32
  let v549 : BitVec 32 := Scalar.muli v252 c512_i32_362
  v549
def k0_off20 (arg15 : BitVec 32) (arg16 : BitVec 32) : Fin 2 → Nat :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_170 : BitVec 32 := 31#32
  let c0_i32_167 : BitVec 32 := 0#32
  let c1_i32_166 : BitVec 32 := 1#32
  let v248 : BitVec 32 := Scalar.addi arg16 c1_i32_166
  let v249 : BitVec 32 := Scalar.select v245 c0_i32_167 v248
  let v252 : BitVec 32 := Scalar.select v250 c31_i32_170 v249
  let c512_i32_362 : BitVec 32 := 512#32
  let v549 : BitVec 32 := Scalar.muli v252 c512_i32_362
  let v550 : BitVec 32 := v549
  let v551 : Index := Scalar.indexCast v550
  let c0_363 : Index := 0#32
  ![v551.toNat, 0]
def k0_mult16 (arg19 : BitVec 32) (arg20 : BitVec 32) : BitVec 32 :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_182 : BitVec 32 := 31#32
  let c0_i32_179 : BitVec 32 := 0#32
  let c1_i32_178 : BitVec 32 := 1#32
  let v264 : BitVec 32 := Scalar.addi arg20 c1_i32_178
  let v265 : BitVec 32 := Scalar.select v261 c0_i32_179 v264
  let v268 : BitVec 32 := Scalar.select v266 c31_i32_182 v265
  let c512_i32_440 : BitVec 32 := 512#32
  let v654 : BitVec 32 := Scalar.muli v268 c512_i32_440
  v654
def k0_off21 (arg19 : BitVec 32) (arg20 : BitVec 32) : Fin 3 → Nat :=
  let c0_441 : Index := 0#32
  let c0_442 : Index := 0#32
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_182 : BitVec 32 := 31#32
  let c0_i32_179 : BitVec 32 := 0#32
  let c1_i32_178 : BitVec 32 := 1#32
  let v264 : BitVec 32 := Scalar.addi arg20 c1_i32_178
  let v265 : BitVec 32 := Scalar.select v261 c0_i32_179 v264
  let v268 : BitVec 32 := Scalar.select v266 c31_i32_182 v265
  let c512_i32_440 : BitVec 32 := 512#32
  let v654 : BitVec 32 := Scalar.muli v268 c512_i32_440
  let v655 : BitVec 32 := v654
  let v656 : Index := Scalar.indexCast v655
  ![0, 0, v656.toNat]
def k0_off22 (arg19 : BitVec 32) (arg20 : BitVec 32) : Fin 4 → Nat :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let c2_i32_452 : BitVec 32 := 2#32
  let c0_i32_453 : BitVec 32 := 0#32
  let v664 : BitVec 1 := Scalar.cmpi .eq c2_i32_452 c0_i32_453
  let c1_i32_454 : BitVec 32 := 1#32
  let v665 : BitVec 32 := Scalar.select v664 c1_i32_454 c2_i32_452
  let v666 : BitVec 32 := Scalar.remsi v267 v665
  let c0_i32_456 : BitVec 32 := 0#32
  let v668 : BitVec 1 := Scalar.cmpi .slt v666 c0_i32_456
  let c0_i32_457 : BitVec 32 := 0#32
  let v669 : BitVec 1 := Scalar.cmpi .slt v665 c0_i32_457
  let v670 : BitVec 1 := Scalar.xori v668 v669
  let c0_i32_455 : BitVec 32 := 0#32
  let v667 : BitVec 1 := Scalar.cmpi .ne v666 c0_i32_455
  let v671 : BitVec 1 := Scalar.andi v670 v667
  let v672 : BitVec 32 := Scalar.addi v666 v665
  let v673 : BitVec 32 := Scalar.select v671 v672 v666
  let v674 : Index := Scalar.indexCast v673
  let c0_458 : Index := 0#32
  let c0_459 : Index := 0#32
  let c0_460 : Index := 0#32
  ![v674.toNat, 0, 0, 0]
def k0_off23 (arg19 : BitVec 32) (arg20 : BitVec 32) : Fin 4 → Nat :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let c2_i32_479 : BitVec 32 := 2#32
  let c0_i32_480 : BitVec 32 := 0#32
  let v699 : BitVec 1 := Scalar.cmpi .eq c2_i32_479 c0_i32_480
  let c1_i32_481 : BitVec 32 := 1#32
  let v700 : BitVec 32 := Scalar.select v699 c1_i32_481 c2_i32_479
  let v701 : BitVec 32 := Scalar.remsi v267 v700
  let c0_i32_483 : BitVec 32 := 0#32
  let v703 : BitVec 1 := Scalar.cmpi .slt v701 c0_i32_483
  let c0_i32_484 : BitVec 32 := 0#32
  let v704 : BitVec 1 := Scalar.cmpi .slt v700 c0_i32_484
  let v705 : BitVec 1 := Scalar.xori v703 v704
  let c0_i32_482 : BitVec 32 := 0#32
  let v702 : BitVec 1 := Scalar.cmpi .ne v701 c0_i32_482
  let v706 : BitVec 1 := Scalar.andi v705 v702
  let v707 : BitVec 32 := Scalar.addi v701 v700
  let v708 : BitVec 32 := Scalar.select v706 v707 v701
  let v709 : Index := Scalar.indexCast v708
  let c1_485 : Index := 1#32
  let c0_486 : Index := 0#32
  let c0_487 : Index := 0#32
  ![v709.toNat, 1, 0, 0]
def k0_mult17 (arg15 : BitVec 32) : BitVec 32 :=
  let c512_i32_205 : BitVec 32 := 512#32
  let v308 : BitVec 32 := Scalar.muli arg15 c512_i32_205
  v308
def k0_off24 (arg15 : BitVec 32) : Fin 2 → Nat :=
  let c512_i32_205 : BitVec 32 := 512#32
  let v308 : BitVec 32 := Scalar.muli arg15 c512_i32_205
  let v309 : BitVec 32 := v308
  let v310 : Index := Scalar.indexCast v309
  let c0_206 : Index := 0#32
  ![v310.toNat, 0]
def k0_mult18 (arg16 : BitVec 32) : BitVec 32 :=
  let c512_i32_207 : BitVec 32 := 512#32
  let v313 : BitVec 32 := Scalar.muli arg16 c512_i32_207
  v313
def k0_off25 (arg16 : BitVec 32) : Fin 2 → Nat :=
  let c512_i32_207 : BitVec 32 := 512#32
  let v313 : BitVec 32 := Scalar.muli arg16 c512_i32_207
  let v314 : BitVec 32 := v313
  let v315 : Index := Scalar.indexCast v314
  let c0_208 : Index := 0#32
  ![v315.toNat, 0]
def k0_mult19 (arg20 : BitVec 32) : BitVec 32 :=
  let c512_i32_285 : BitVec 32 := 512#32
  let v418 : BitVec 32 := Scalar.muli arg20 c512_i32_285
  v418
def k0_off26 (arg20 : BitVec 32) : Fin 3 → Nat :=
  let c0_286 : Index := 0#32
  let c0_287 : Index := 0#32
  let c512_i32_285 : BitVec 32 := 512#32
  let v418 : BitVec 32 := Scalar.muli arg20 c512_i32_285
  let v419 : BitVec 32 := v418
  let v420 : Index := Scalar.indexCast v419
  ![0, 0, v420.toNat]
def k0_off27 (arg19 : BitVec 32) : Fin 4 → Nat :=
  let c2_i32_297 : BitVec 32 := 2#32
  let c0_i32_298 : BitVec 32 := 0#32
  let v428 : BitVec 1 := Scalar.cmpi .eq c2_i32_297 c0_i32_298
  let c1_i32_299 : BitVec 32 := 1#32
  let v429 : BitVec 32 := Scalar.select v428 c1_i32_299 c2_i32_297
  let v430 : BitVec 32 := Scalar.remsi arg19 v429
  let c0_i32_301 : BitVec 32 := 0#32
  let v432 : BitVec 1 := Scalar.cmpi .slt v430 c0_i32_301
  let c0_i32_302 : BitVec 32 := 0#32
  let v433 : BitVec 1 := Scalar.cmpi .slt v429 c0_i32_302
  let v434 : BitVec 1 := Scalar.xori v432 v433
  let c0_i32_300 : BitVec 32 := 0#32
  let v431 : BitVec 1 := Scalar.cmpi .ne v430 c0_i32_300
  let v435 : BitVec 1 := Scalar.andi v434 v431
  let v436 : BitVec 32 := Scalar.addi v430 v429
  let v437 : BitVec 32 := Scalar.select v435 v436 v430
  let v438 : Index := Scalar.indexCast v437
  let c0_303 : Index := 0#32
  let c0_304 : Index := 0#32
  let c0_305 : Index := 0#32
  ![v438.toNat, 0, 0, 0]
def k0_off28 (arg19 : BitVec 32) : Fin 4 → Nat :=
  let c2_i32_324 : BitVec 32 := 2#32
  let c0_i32_325 : BitVec 32 := 0#32
  let v463 : BitVec 1 := Scalar.cmpi .eq c2_i32_324 c0_i32_325
  let c1_i32_326 : BitVec 32 := 1#32
  let v464 : BitVec 32 := Scalar.select v463 c1_i32_326 c2_i32_324
  let v465 : BitVec 32 := Scalar.remsi arg19 v464
  let c0_i32_328 : BitVec 32 := 0#32
  let v467 : BitVec 1 := Scalar.cmpi .slt v465 c0_i32_328
  let c0_i32_329 : BitVec 32 := 0#32
  let v468 : BitVec 1 := Scalar.cmpi .slt v464 c0_i32_329
  let v469 : BitVec 1 := Scalar.xori v467 v468
  let c0_i32_327 : BitVec 32 := 0#32
  let v466 : BitVec 1 := Scalar.cmpi .ne v465 c0_i32_327
  let v470 : BitVec 1 := Scalar.andi v469 v466
  let v471 : BitVec 32 := Scalar.addi v465 v464
  let v472 : BitVec 32 := Scalar.select v470 v471 v465
  let v473 : Index := Scalar.indexCast v472
  let c1_330 : Index := 1#32
  let c0_331 : Index := 0#32
  let c0_332 : Index := 0#32
  ![v473.toNat, 1, 0, 0]

def k0_chk3 (arg15 : BitVec 32) (arg16 : BitVec 32) (arg19 : BitVec 32) : Prop :=
  (∀ (k0_h1 : k0_cond1 arg15 arg16 = 1#1), ∀ (k0_h2 : k0_cond2 arg15 arg16 = 1#1), ∀ a, (k0_off7 arg19) a + S1x1x144x512.size a ≤ S2x2x144x512.size a) ∧
  (∀ (k0_h1 : k0_cond1 arg15 arg16 = 1#1), ∀ (k0_h2 : k0_cond2 arg15 arg16 = 1#1), ∀ a, (k0_off8 arg19) a + S1x1x144x512.size a ≤ S2x2x144x512.size a) ∧
  (∀ (k0_h1 : k0_cond1 arg15 arg16 = 1#1), ∀ (k0_h2 : ¬(k0_cond2 arg15 arg16 = 1#1)), ∀ a, (k0_off17 arg19) a + S1x1x144x512.size a ≤ S2x2x144x512.size a) ∧
  (∀ (k0_h1 : k0_cond1 arg15 arg16 = 1#1), ∀ (k0_h2 : ¬(k0_cond2 arg15 arg16 = 1#1)), ∀ a, (k0_off18 arg19) a + S1x1x144x512.size a ≤ S2x2x144x512.size a) ∧
  (∀ (k0_h1 : ¬(k0_cond1 arg15 arg16 = 1#1)), ∀ a, (k0_off27 arg19) a + S1x1x144x512.size a ≤ S2x2x144x512.size a) ∧
  (∀ (k0_h1 : ¬(k0_cond1 arg15 arg16 = 1#1)), ∀ a, (k0_off28 arg19) a + S1x1x144x512.size a ≤ S2x2x144x512.size a)
theorem k0_off7_inb : ∀ (arg15 : BitVec 32) (arg16 : BitVec 32) (arg19 : BitVec 32) (k0_hw3 : k0_chk3 arg15 arg16 arg19), ∀ (k0_h1 : k0_cond1 arg15 arg16 = 1#1), ∀ (k0_h2 : k0_cond2 arg15 arg16 = 1#1), ∀ a, (k0_off7 arg19) a + S1x1x144x512.size a ≤ S2x2x144x512.size a := fun arg15 arg16 arg19 k0_hw3 k0_h1 k0_h2 => k0_hw3.1 k0_h1 k0_h2
theorem k0_off8_inb : ∀ (arg15 : BitVec 32) (arg16 : BitVec 32) (arg19 : BitVec 32) (k0_hw3 : k0_chk3 arg15 arg16 arg19), ∀ (k0_h1 : k0_cond1 arg15 arg16 = 1#1), ∀ (k0_h2 : k0_cond2 arg15 arg16 = 1#1), ∀ a, (k0_off8 arg19) a + S1x1x144x512.size a ≤ S2x2x144x512.size a := fun arg15 arg16 arg19 k0_hw3 k0_h1 k0_h2 => k0_hw3.2.1 k0_h1 k0_h2
theorem k0_off17_inb : ∀ (arg15 : BitVec 32) (arg16 : BitVec 32) (arg19 : BitVec 32) (k0_hw3 : k0_chk3 arg15 arg16 arg19), ∀ (k0_h1 : k0_cond1 arg15 arg16 = 1#1), ∀ (k0_h2 : ¬(k0_cond2 arg15 arg16 = 1#1)), ∀ a, (k0_off17 arg19) a + S1x1x144x512.size a ≤ S2x2x144x512.size a := fun arg15 arg16 arg19 k0_hw3 k0_h1 k0_h2 => k0_hw3.2.2.1 k0_h1 k0_h2
theorem k0_off18_inb : ∀ (arg15 : BitVec 32) (arg16 : BitVec 32) (arg19 : BitVec 32) (k0_hw3 : k0_chk3 arg15 arg16 arg19), ∀ (k0_h1 : k0_cond1 arg15 arg16 = 1#1), ∀ (k0_h2 : ¬(k0_cond2 arg15 arg16 = 1#1)), ∀ a, (k0_off18 arg19) a + S1x1x144x512.size a ≤ S2x2x144x512.size a := fun arg15 arg16 arg19 k0_hw3 k0_h1 k0_h2 => k0_hw3.2.2.2.1 k0_h1 k0_h2
theorem k0_off27_inb : ∀ (arg15 : BitVec 32) (arg16 : BitVec 32) (arg19 : BitVec 32) (k0_hw3 : k0_chk3 arg15 arg16 arg19), ∀ (k0_h1 : ¬(k0_cond1 arg15 arg16 = 1#1)), ∀ a, (k0_off27 arg19) a + S1x1x144x512.size a ≤ S2x2x144x512.size a := fun arg15 arg16 arg19 k0_hw3 k0_h1 => k0_hw3.2.2.2.2.1 k0_h1
theorem k0_off28_inb : ∀ (arg15 : BitVec 32) (arg16 : BitVec 32) (arg19 : BitVec 32) (k0_hw3 : k0_chk3 arg15 arg16 arg19), ∀ (k0_h1 : ¬(k0_cond1 arg15 arg16 = 1#1)), ∀ a, (k0_off28 arg19) a + S1x1x144x512.size a ≤ S2x2x144x512.size a := fun arg15 arg16 arg19 k0_hw3 k0_h1 => k0_hw3.2.2.2.2.2 k0_h1

def k0_mult20 (arg15 : BitVec 32) (arg16 : BitVec 32) : BitVec 32 :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_169 : BitVec 32 := 31#32
  let v251 : BitVec 32 := Scalar.select v250 c31_i32_169 v247
  let c512_i32_342 : BitVec 32 := 512#32
  let v493 : BitVec 32 := Scalar.muli v251 c512_i32_342
  v493
def k0_off29 (arg15 : BitVec 32) (arg16 : BitVec 32) : Fin 2 → Nat :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_169 : BitVec 32 := 31#32
  let v251 : BitVec 32 := Scalar.select v250 c31_i32_169 v247
  let c512_i32_342 : BitVec 32 := 512#32
  let v493 : BitVec 32 := Scalar.muli v251 c512_i32_342
  let v494 : BitVec 32 := v493
  let v495 : Index := Scalar.indexCast v494
  let c0_343 : Index := 0#32
  ![v495.toNat, 0]
def k0_mult21 (arg15 : BitVec 32) (arg16 : BitVec 32) : BitVec 32 :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_170 : BitVec 32 := 31#32
  let c0_i32_167 : BitVec 32 := 0#32
  let c1_i32_166 : BitVec 32 := 1#32
  let v248 : BitVec 32 := Scalar.addi arg16 c1_i32_166
  let v249 : BitVec 32 := Scalar.select v245 c0_i32_167 v248
  let v252 : BitVec 32 := Scalar.select v250 c31_i32_170 v249
  let c512_i32_344 : BitVec 32 := 512#32
  let v498 : BitVec 32 := Scalar.muli v252 c512_i32_344
  v498
def k0_off30 (arg15 : BitVec 32) (arg16 : BitVec 32) : Fin 2 → Nat :=
  let v245 : BitVec 1 := Scalar.cmpi .eq arg16 arg15
  let c1_i32_165 : BitVec 32 := 1#32
  let v246 : BitVec 32 := Scalar.addi arg15 c1_i32_165
  let v247 : BitVec 32 := Scalar.select v245 v246 arg15
  let c32_i32_168 : BitVec 32 := 32#32
  let v250 : BitVec 1 := Scalar.cmpi .eq v247 c32_i32_168
  let c31_i32_170 : BitVec 32 := 31#32
  let c0_i32_167 : BitVec 32 := 0#32
  let c1_i32_166 : BitVec 32 := 1#32
  let v248 : BitVec 32 := Scalar.addi arg16 c1_i32_166
  let v249 : BitVec 32 := Scalar.select v245 c0_i32_167 v248
  let v252 : BitVec 32 := Scalar.select v250 c31_i32_170 v249
  let c512_i32_344 : BitVec 32 := 512#32
  let v498 : BitVec 32 := Scalar.muli v252 c512_i32_344
  let v499 : BitVec 32 := v498
  let v500 : Index := Scalar.indexCast v499
  let c0_345 : Index := 0#32
  ![v500.toNat, 0]

def k0_chk1 (arg15 : BitVec 32) (arg16 : BitVec 32) : Prop :=
  (∀ (k0_h1 : k0_cond1 arg15 arg16 = 1#1), ∀ (k0_h2 : k0_cond2 arg15 arg16 = 1#1), 512 ∣ (k0_mult5 arg15).toNat) ∧
  (∀ (k0_h1 : k0_cond1 arg15 arg16 = 1#1), ∀ (k0_h2 : k0_cond2 arg15 arg16 = 1#1), ∀ a, (k0_off4 arg15) a + S512x128.size a ≤ S16384x128.size a) ∧
  (∀ (k0_h1 : k0_cond1 arg15 arg16 = 1#1), ∀ (k0_h2 : k0_cond2 arg15 arg16 = 1#1), 512 ∣ (k0_mult6 arg16).toNat) ∧
  (∀ (k0_h1 : k0_cond1 arg15 arg16 = 1#1), ∀ (k0_h2 : k0_cond2 arg15 arg16 = 1#1), ∀ a, (k0_off5 arg16) a + S512x128.size a ≤ S16384x128.size a) ∧
  (∀ (k0_h1 : k0_cond1 arg15 arg16 = 1#1), ∀ (k0_h2 : k0_cond2 arg15 arg16 = 1#1), 512 ∣ (k0_mult8 arg15 arg16).toNat) ∧
  (∀ (k0_h1 : k0_cond1 arg15 arg16 = 1#1), ∀ (k0_h2 : k0_cond2 arg15 arg16 = 1#1), ∀ a, (k0_off9 arg15 arg16) a + S512x128.size a ≤ S16384x128.size a) ∧
  (∀ (k0_h1 : k0_cond1 arg15 arg16 = 1#1), ∀ (k0_h2 : k0_cond2 arg15 arg16 = 1#1), 512 ∣ (k0_mult9 arg15 arg16).toNat) ∧
  (∀ (k0_h1 : k0_cond1 arg15 arg16 = 1#1), ∀ (k0_h2 : k0_cond2 arg15 arg16 = 1#1), ∀ a, (k0_off10 arg15 arg16) a + S512x128.size a ≤ S16384x128.size a) ∧
  (∀ (k0_h1 : k0_cond1 arg15 arg16 = 1#1), ∀ (k0_h2 : ¬(k0_cond2 arg15 arg16 = 1#1)), 512 ∣ (k0_mult11 arg15).toNat) ∧
  (∀ (k0_h1 : k0_cond1 arg15 arg16 = 1#1), ∀ (k0_h2 : ¬(k0_cond2 arg15 arg16 = 1#1)), ∀ a, (k0_off14 arg15) a + S512x128.size a ≤ S16384x128.size a) ∧
  (∀ (k0_h1 : k0_cond1 arg15 arg16 = 1#1), ∀ (k0_h2 : ¬(k0_cond2 arg15 arg16 = 1#1)), 512 ∣ (k0_mult12 arg16).toNat) ∧
  (∀ (k0_h1 : k0_cond1 arg15 arg16 = 1#1), ∀ (k0_h2 : ¬(k0_cond2 arg15 arg16 = 1#1)), ∀ a, (k0_off15 arg16) a + S512x128.size a ≤ S16384x128.size a) ∧
  (∀ (k0_h1 : k0_cond1 arg15 arg16 = 1#1), ∀ (k0_h2 : ¬(k0_cond2 arg15 arg16 = 1#1)), 512 ∣ (k0_mult14 arg15 arg16).toNat) ∧
  (∀ (k0_h1 : k0_cond1 arg15 arg16 = 1#1), ∀ (k0_h2 : ¬(k0_cond2 arg15 arg16 = 1#1)), ∀ a, (k0_off19 arg15 arg16) a + S512x128.size a ≤ S16384x128.size a) ∧
  (∀ (k0_h1 : k0_cond1 arg15 arg16 = 1#1), ∀ (k0_h2 : ¬(k0_cond2 arg15 arg16 = 1#1)), 512 ∣ (k0_mult15 arg15 arg16).toNat) ∧
  (∀ (k0_h1 : k0_cond1 arg15 arg16 = 1#1), ∀ (k0_h2 : ¬(k0_cond2 arg15 arg16 = 1#1)), ∀ a, (k0_off20 arg15 arg16) a + S512x128.size a ≤ S16384x128.size a) ∧
  (∀ (k0_h1 : ¬(k0_cond1 arg15 arg16 = 1#1)), 512 ∣ (k0_mult17 arg15).toNat) ∧
  (∀ (k0_h1 : ¬(k0_cond1 arg15 arg16 = 1#1)), ∀ a, (k0_off24 arg15) a + S512x128.size a ≤ S16384x128.size a) ∧
  (∀ (k0_h1 : ¬(k0_cond1 arg15 arg16 = 1#1)), 512 ∣ (k0_mult18 arg16).toNat) ∧
  (∀ (k0_h1 : ¬(k0_cond1 arg15 arg16 = 1#1)), ∀ a, (k0_off25 arg16) a + S512x128.size a ≤ S16384x128.size a) ∧
  (∀ (k0_h1 : ¬(k0_cond1 arg15 arg16 = 1#1)), 512 ∣ (k0_mult20 arg15 arg16).toNat) ∧
  (∀ (k0_h1 : ¬(k0_cond1 arg15 arg16 = 1#1)), ∀ a, (k0_off29 arg15 arg16) a + S512x128.size a ≤ S16384x128.size a) ∧
  (∀ (k0_h1 : ¬(k0_cond1 arg15 arg16 = 1#1)), 512 ∣ (k0_mult21 arg15 arg16).toNat) ∧
  (∀ (k0_h1 : ¬(k0_cond1 arg15 arg16 = 1#1)), ∀ a, (k0_off30 arg15 arg16) a + S512x128.size a ≤ S16384x128.size a)
theorem k0_mult5_dvd : ∀ (arg15 : BitVec 32) (arg16 : BitVec 32) (k0_hw1 : k0_chk1 arg15 arg16), ∀ (k0_h1 : k0_cond1 arg15 arg16 = 1#1), ∀ (k0_h2 : k0_cond2 arg15 arg16 = 1#1), 512 ∣ (k0_mult5 arg15).toNat := fun arg15 arg16 k0_hw1 k0_h1 k0_h2 => k0_hw1.1 k0_h1 k0_h2
theorem k0_off4_inb : ∀ (arg15 : BitVec 32) (arg16 : BitVec 32) (k0_hw1 : k0_chk1 arg15 arg16), ∀ (k0_h1 : k0_cond1 arg15 arg16 = 1#1), ∀ (k0_h2 : k0_cond2 arg15 arg16 = 1#1), ∀ a, (k0_off4 arg15) a + S512x128.size a ≤ S16384x128.size a := fun arg15 arg16 k0_hw1 k0_h1 k0_h2 => k0_hw1.2.1 k0_h1 k0_h2
theorem k0_mult6_dvd : ∀ (arg15 : BitVec 32) (arg16 : BitVec 32) (k0_hw1 : k0_chk1 arg15 arg16), ∀ (k0_h1 : k0_cond1 arg15 arg16 = 1#1), ∀ (k0_h2 : k0_cond2 arg15 arg16 = 1#1), 512 ∣ (k0_mult6 arg16).toNat := fun arg15 arg16 k0_hw1 k0_h1 k0_h2 => k0_hw1.2.2.1 k0_h1 k0_h2
theorem k0_off5_inb : ∀ (arg15 : BitVec 32) (arg16 : BitVec 32) (k0_hw1 : k0_chk1 arg15 arg16), ∀ (k0_h1 : k0_cond1 arg15 arg16 = 1#1), ∀ (k0_h2 : k0_cond2 arg15 arg16 = 1#1), ∀ a, (k0_off5 arg16) a + S512x128.size a ≤ S16384x128.size a := fun arg15 arg16 k0_hw1 k0_h1 k0_h2 => k0_hw1.2.2.2.1 k0_h1 k0_h2
theorem k0_mult8_dvd : ∀ (arg15 : BitVec 32) (arg16 : BitVec 32) (k0_hw1 : k0_chk1 arg15 arg16), ∀ (k0_h1 : k0_cond1 arg15 arg16 = 1#1), ∀ (k0_h2 : k0_cond2 arg15 arg16 = 1#1), 512 ∣ (k0_mult8 arg15 arg16).toNat := fun arg15 arg16 k0_hw1 k0_h1 k0_h2 => k0_hw1.2.2.2.2.1 k0_h1 k0_h2
theorem k0_off9_inb : ∀ (arg15 : BitVec 32) (arg16 : BitVec 32) (k0_hw1 : k0_chk1 arg15 arg16), ∀ (k0_h1 : k0_cond1 arg15 arg16 = 1#1), ∀ (k0_h2 : k0_cond2 arg15 arg16 = 1#1), ∀ a, (k0_off9 arg15 arg16) a + S512x128.size a ≤ S16384x128.size a := fun arg15 arg16 k0_hw1 k0_h1 k0_h2 => k0_hw1.2.2.2.2.2.1 k0_h1 k0_h2
theorem k0_mult9_dvd : ∀ (arg15 : BitVec 32) (arg16 : BitVec 32) (k0_hw1 : k0_chk1 arg15 arg16), ∀ (k0_h1 : k0_cond1 arg15 arg16 = 1#1), ∀ (k0_h2 : k0_cond2 arg15 arg16 = 1#1), 512 ∣ (k0_mult9 arg15 arg16).toNat := fun arg15 arg16 k0_hw1 k0_h1 k0_h2 => k0_hw1.2.2.2.2.2.2.1 k0_h1 k0_h2
theorem k0_off10_inb : ∀ (arg15 : BitVec 32) (arg16 : BitVec 32) (k0_hw1 : k0_chk1 arg15 arg16), ∀ (k0_h1 : k0_cond1 arg15 arg16 = 1#1), ∀ (k0_h2 : k0_cond2 arg15 arg16 = 1#1), ∀ a, (k0_off10 arg15 arg16) a + S512x128.size a ≤ S16384x128.size a := fun arg15 arg16 k0_hw1 k0_h1 k0_h2 => k0_hw1.2.2.2.2.2.2.2.1 k0_h1 k0_h2
theorem k0_mult11_dvd : ∀ (arg15 : BitVec 32) (arg16 : BitVec 32) (k0_hw1 : k0_chk1 arg15 arg16), ∀ (k0_h1 : k0_cond1 arg15 arg16 = 1#1), ∀ (k0_h2 : ¬(k0_cond2 arg15 arg16 = 1#1)), 512 ∣ (k0_mult11 arg15).toNat := fun arg15 arg16 k0_hw1 k0_h1 k0_h2 => k0_hw1.2.2.2.2.2.2.2.2.1 k0_h1 k0_h2
theorem k0_off14_inb : ∀ (arg15 : BitVec 32) (arg16 : BitVec 32) (k0_hw1 : k0_chk1 arg15 arg16), ∀ (k0_h1 : k0_cond1 arg15 arg16 = 1#1), ∀ (k0_h2 : ¬(k0_cond2 arg15 arg16 = 1#1)), ∀ a, (k0_off14 arg15) a + S512x128.size a ≤ S16384x128.size a := fun arg15 arg16 k0_hw1 k0_h1 k0_h2 => k0_hw1.2.2.2.2.2.2.2.2.2.1 k0_h1 k0_h2
theorem k0_mult12_dvd : ∀ (arg15 : BitVec 32) (arg16 : BitVec 32) (k0_hw1 : k0_chk1 arg15 arg16), ∀ (k0_h1 : k0_cond1 arg15 arg16 = 1#1), ∀ (k0_h2 : ¬(k0_cond2 arg15 arg16 = 1#1)), 512 ∣ (k0_mult12 arg16).toNat := fun arg15 arg16 k0_hw1 k0_h1 k0_h2 => k0_hw1.2.2.2.2.2.2.2.2.2.2.1 k0_h1 k0_h2
theorem k0_off15_inb : ∀ (arg15 : BitVec 32) (arg16 : BitVec 32) (k0_hw1 : k0_chk1 arg15 arg16), ∀ (k0_h1 : k0_cond1 arg15 arg16 = 1#1), ∀ (k0_h2 : ¬(k0_cond2 arg15 arg16 = 1#1)), ∀ a, (k0_off15 arg16) a + S512x128.size a ≤ S16384x128.size a := fun arg15 arg16 k0_hw1 k0_h1 k0_h2 => k0_hw1.2.2.2.2.2.2.2.2.2.2.2.1 k0_h1 k0_h2
theorem k0_mult14_dvd : ∀ (arg15 : BitVec 32) (arg16 : BitVec 32) (k0_hw1 : k0_chk1 arg15 arg16), ∀ (k0_h1 : k0_cond1 arg15 arg16 = 1#1), ∀ (k0_h2 : ¬(k0_cond2 arg15 arg16 = 1#1)), 512 ∣ (k0_mult14 arg15 arg16).toNat := fun arg15 arg16 k0_hw1 k0_h1 k0_h2 => k0_hw1.2.2.2.2.2.2.2.2.2.2.2.2.1 k0_h1 k0_h2
theorem k0_off19_inb : ∀ (arg15 : BitVec 32) (arg16 : BitVec 32) (k0_hw1 : k0_chk1 arg15 arg16), ∀ (k0_h1 : k0_cond1 arg15 arg16 = 1#1), ∀ (k0_h2 : ¬(k0_cond2 arg15 arg16 = 1#1)), ∀ a, (k0_off19 arg15 arg16) a + S512x128.size a ≤ S16384x128.size a := fun arg15 arg16 k0_hw1 k0_h1 k0_h2 => k0_hw1.2.2.2.2.2.2.2.2.2.2.2.2.2.1 k0_h1 k0_h2
theorem k0_mult15_dvd : ∀ (arg15 : BitVec 32) (arg16 : BitVec 32) (k0_hw1 : k0_chk1 arg15 arg16), ∀ (k0_h1 : k0_cond1 arg15 arg16 = 1#1), ∀ (k0_h2 : ¬(k0_cond2 arg15 arg16 = 1#1)), 512 ∣ (k0_mult15 arg15 arg16).toNat := fun arg15 arg16 k0_hw1 k0_h1 k0_h2 => k0_hw1.2.2.2.2.2.2.2.2.2.2.2.2.2.2.1 k0_h1 k0_h2
theorem k0_off20_inb : ∀ (arg15 : BitVec 32) (arg16 : BitVec 32) (k0_hw1 : k0_chk1 arg15 arg16), ∀ (k0_h1 : k0_cond1 arg15 arg16 = 1#1), ∀ (k0_h2 : ¬(k0_cond2 arg15 arg16 = 1#1)), ∀ a, (k0_off20 arg15 arg16) a + S512x128.size a ≤ S16384x128.size a := fun arg15 arg16 k0_hw1 k0_h1 k0_h2 => k0_hw1.2.2.2.2.2.2.2.2.2.2.2.2.2.2.2.1 k0_h1 k0_h2
theorem k0_mult17_dvd : ∀ (arg15 : BitVec 32) (arg16 : BitVec 32) (k0_hw1 : k0_chk1 arg15 arg16), ∀ (k0_h1 : ¬(k0_cond1 arg15 arg16 = 1#1)), 512 ∣ (k0_mult17 arg15).toNat := fun arg15 arg16 k0_hw1 k0_h1 => k0_hw1.2.2.2.2.2.2.2.2.2.2.2.2.2.2.2.2.1 k0_h1
theorem k0_off24_inb : ∀ (arg15 : BitVec 32) (arg16 : BitVec 32) (k0_hw1 : k0_chk1 arg15 arg16), ∀ (k0_h1 : ¬(k0_cond1 arg15 arg16 = 1#1)), ∀ a, (k0_off24 arg15) a + S512x128.size a ≤ S16384x128.size a := fun arg15 arg16 k0_hw1 k0_h1 => k0_hw1.2.2.2.2.2.2.2.2.2.2.2.2.2.2.2.2.2.1 k0_h1
theorem k0_mult18_dvd : ∀ (arg15 : BitVec 32) (arg16 : BitVec 32) (k0_hw1 : k0_chk1 arg15 arg16), ∀ (k0_h1 : ¬(k0_cond1 arg15 arg16 = 1#1)), 512 ∣ (k0_mult18 arg16).toNat := fun arg15 arg16 k0_hw1 k0_h1 => k0_hw1.2.2.2.2.2.2.2.2.2.2.2.2.2.2.2.2.2.2.1 k0_h1
theorem k0_off25_inb : ∀ (arg15 : BitVec 32) (arg16 : BitVec 32) (k0_hw1 : k0_chk1 arg15 arg16), ∀ (k0_h1 : ¬(k0_cond1 arg15 arg16 = 1#1)), ∀ a, (k0_off25 arg16) a + S512x128.size a ≤ S16384x128.size a := fun arg15 arg16 k0_hw1 k0_h1 => k0_hw1.2.2.2.2.2.2.2.2.2.2.2.2.2.2.2.2.2.2.2.1 k0_h1
theorem k0_mult20_dvd : ∀ (arg15 : BitVec 32) (arg16 : BitVec 32) (k0_hw1 : k0_chk1 arg15 arg16), ∀ (k0_h1 : ¬(k0_cond1 arg15 arg16 = 1#1)), 512 ∣ (k0_mult20 arg15 arg16).toNat := fun arg15 arg16 k0_hw1 k0_h1 => k0_hw1.2.2.2.2.2.2.2.2.2.2.2.2.2.2.2.2.2.2.2.2.1 k0_h1
theorem k0_off29_inb : ∀ (arg15 : BitVec 32) (arg16 : BitVec 32) (k0_hw1 : k0_chk1 arg15 arg16), ∀ (k0_h1 : ¬(k0_cond1 arg15 arg16 = 1#1)), ∀ a, (k0_off29 arg15 arg16) a + S512x128.size a ≤ S16384x128.size a := fun arg15 arg16 k0_hw1 k0_h1 => k0_hw1.2.2.2.2.2.2.2.2.2.2.2.2.2.2.2.2.2.2.2.2.2.1 k0_h1
theorem k0_mult21_dvd : ∀ (arg15 : BitVec 32) (arg16 : BitVec 32) (k0_hw1 : k0_chk1 arg15 arg16), ∀ (k0_h1 : ¬(k0_cond1 arg15 arg16 = 1#1)), 512 ∣ (k0_mult21 arg15 arg16).toNat := fun arg15 arg16 k0_hw1 k0_h1 => k0_hw1.2.2.2.2.2.2.2.2.2.2.2.2.2.2.2.2.2.2.2.2.2.2.1 k0_h1
theorem k0_off30_inb : ∀ (arg15 : BitVec 32) (arg16 : BitVec 32) (k0_hw1 : k0_chk1 arg15 arg16), ∀ (k0_h1 : ¬(k0_cond1 arg15 arg16 = 1#1)), ∀ a, (k0_off30 arg15 arg16) a + S512x128.size a ≤ S16384x128.size a := fun arg15 arg16 k0_hw1 k0_h1 => k0_hw1.2.2.2.2.2.2.2.2.2.2.2.2.2.2.2.2.2.2.2.2.2.2.2 k0_h1

def k0_mult22 (arg19 : BitVec 32) (arg20 : BitVec 32) : BitVec 32 :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_182 : BitVec 32 := 31#32
  let c0_i32_179 : BitVec 32 := 0#32
  let c1_i32_178 : BitVec 32 := 1#32
  let v264 : BitVec 32 := Scalar.addi arg20 c1_i32_178
  let v265 : BitVec 32 := Scalar.select v261 c0_i32_179 v264
  let v268 : BitVec 32 := Scalar.select v266 c31_i32_182 v265
  let c512_i32_422 : BitVec 32 := 512#32
  let v603 : BitVec 32 := Scalar.muli v268 c512_i32_422
  v603
def k0_off31 (arg19 : BitVec 32) (arg20 : BitVec 32) : Fin 3 → Nat :=
  let c0_423 : Index := 0#32
  let c0_424 : Index := 0#32
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_182 : BitVec 32 := 31#32
  let c0_i32_179 : BitVec 32 := 0#32
  let c1_i32_178 : BitVec 32 := 1#32
  let v264 : BitVec 32 := Scalar.addi arg20 c1_i32_178
  let v265 : BitVec 32 := Scalar.select v261 c0_i32_179 v264
  let v268 : BitVec 32 := Scalar.select v266 c31_i32_182 v265
  let c512_i32_422 : BitVec 32 := 512#32
  let v603 : BitVec 32 := Scalar.muli v268 c512_i32_422
  let v604 : BitVec 32 := v603
  let v605 : Index := Scalar.indexCast v604
  ![0, 0, v605.toNat]
def k0_off32 (arg19 : BitVec 32) (arg20 : BitVec 32) : Fin 4 → Nat :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let c2_i32_434 : BitVec 32 := 2#32
  let c0_i32_435 : BitVec 32 := 0#32
  let v613 : BitVec 1 := Scalar.cmpi .eq c2_i32_434 c0_i32_435
  let c1_i32_436 : BitVec 32 := 1#32
  let v614 : BitVec 32 := Scalar.select v613 c1_i32_436 c2_i32_434
  let v615 : BitVec 32 := Scalar.remsi v267 v614
  let c0_i32_438 : BitVec 32 := 0#32
  let v617 : BitVec 1 := Scalar.cmpi .slt v615 c0_i32_438
  let c0_i32_439 : BitVec 32 := 0#32
  let v618 : BitVec 1 := Scalar.cmpi .slt v614 c0_i32_439
  let v619 : BitVec 1 := Scalar.xori v617 v618
  let c0_i32_437 : BitVec 32 := 0#32
  let v616 : BitVec 1 := Scalar.cmpi .ne v615 c0_i32_437
  let v620 : BitVec 1 := Scalar.andi v619 v616
  let v621 : BitVec 32 := Scalar.addi v615 v614
  let v622 : BitVec 32 := Scalar.select v620 v621 v615
  let v623 : Index := Scalar.indexCast v622
  let c0_440 : Index := 0#32
  let c0_441 : Index := 0#32
  let c0_442 : Index := 0#32
  ![v623.toNat, 0, 0, 0]
def k0_off33 (arg19 : BitVec 32) (arg20 : BitVec 32) : Fin 4 → Nat :=
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let c2_i32_461 : BitVec 32 := 2#32
  let c0_i32_462 : BitVec 32 := 0#32
  let v648 : BitVec 1 := Scalar.cmpi .eq c2_i32_461 c0_i32_462
  let c1_i32_463 : BitVec 32 := 1#32
  let v649 : BitVec 32 := Scalar.select v648 c1_i32_463 c2_i32_461
  let v650 : BitVec 32 := Scalar.remsi v267 v649
  let c0_i32_465 : BitVec 32 := 0#32
  let v652 : BitVec 1 := Scalar.cmpi .slt v650 c0_i32_465
  let c0_i32_466 : BitVec 32 := 0#32
  let v653 : BitVec 1 := Scalar.cmpi .slt v649 c0_i32_466
  let v654 : BitVec 1 := Scalar.xori v652 v653
  let c0_i32_464 : BitVec 32 := 0#32
  let v651 : BitVec 1 := Scalar.cmpi .ne v650 c0_i32_464
  let v655 : BitVec 1 := Scalar.andi v654 v651
  let v656 : BitVec 32 := Scalar.addi v650 v649
  let v657 : BitVec 32 := Scalar.select v655 v656 v650
  let v658 : Index := Scalar.indexCast v657
  let c1_467 : Index := 1#32
  let c0_468 : Index := 0#32
  let c0_469 : Index := 0#32
  ![v658.toNat, 1, 0, 0]
def k0_off34 (arg19 : BitVec 32) (arg20 : BitVec 32) : Fin 4 → Nat :=
  let v308 : BitVec 1 := Scalar.cmpi .eq arg19 arg20
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let v309 : BitVec 32 := Scalar.select v308 arg19 v267
  let c2_i32_205 : BitVec 32 := 2#32
  let c0_i32_206 : BitVec 32 := 0#32
  let v310 : BitVec 1 := Scalar.cmpi .eq c2_i32_205 c0_i32_206
  let c1_i32_207 : BitVec 32 := 1#32
  let v311 : BitVec 32 := Scalar.select v310 c1_i32_207 c2_i32_205
  let v312 : BitVec 32 := Scalar.remsi v309 v311
  let c0_i32_209 : BitVec 32 := 0#32
  let v314 : BitVec 1 := Scalar.cmpi .slt v312 c0_i32_209
  let c0_i32_210 : BitVec 32 := 0#32
  let v315 : BitVec 1 := Scalar.cmpi .slt v311 c0_i32_210
  let v316 : BitVec 1 := Scalar.xori v314 v315
  let c0_i32_208 : BitVec 32 := 0#32
  let v313 : BitVec 1 := Scalar.cmpi .ne v312 c0_i32_208
  let v317 : BitVec 1 := Scalar.andi v316 v313
  let v318 : BitVec 32 := Scalar.addi v312 v311
  let v319 : BitVec 32 := Scalar.select v317 v318 v312
  let v320 : Index := Scalar.indexCast v319
  let c0_211 : Index := 0#32
  let c0_212 : Index := 0#32
  let c0_213 : Index := 0#32
  ![v320.toNat, 0, 0, 0]
def k0_cond3 (arg19 : BitVec 32) (arg20 : BitVec 32) : BitVec 1 :=
  let v279 : BitVec 1 := Scalar.cmpi .eq arg19 arg20
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let c31_i32_182 : BitVec 32 := 31#32
  let c0_i32_179 : BitVec 32 := 0#32
  let c1_i32_178 : BitVec 32 := 1#32
  let v264 : BitVec 32 := Scalar.addi arg20 c1_i32_178
  let v265 : BitVec 32 := Scalar.select v261 c0_i32_179 v264
  let v268 : BitVec 32 := Scalar.select v266 c31_i32_182 v265
  let v280 : BitVec 1 := Scalar.cmpi .eq v267 v268
  let v281 : BitVec 1 := Scalar.ori v279 v280
  let v282 : BitVec 32 := Scalar.extui v281
  let c0_i32_186 : BitVec 32 := 0#32
  let v283 : BitVec 1 := Scalar.cmpi .ne v282 c0_i32_186
  v283

def k0_off35 (arg19 : BitVec 32) (arg20 : BitVec 32) : Fin 4 → Nat :=
  let v308 : BitVec 1 := Scalar.cmpi .eq arg19 arg20
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let v309 : BitVec 32 := Scalar.select v308 arg19 v267
  let c2_i32_214 : BitVec 32 := 2#32
  let c0_i32_215 : BitVec 32 := 0#32
  let v323 : BitVec 1 := Scalar.cmpi .eq c2_i32_214 c0_i32_215
  let c1_i32_216 : BitVec 32 := 1#32
  let v324 : BitVec 32 := Scalar.select v323 c1_i32_216 c2_i32_214
  let v325 : BitVec 32 := Scalar.remsi v309 v324
  let c0_i32_218 : BitVec 32 := 0#32
  let v327 : BitVec 1 := Scalar.cmpi .slt v325 c0_i32_218
  let c0_i32_219 : BitVec 32 := 0#32
  let v328 : BitVec 1 := Scalar.cmpi .slt v324 c0_i32_219
  let v329 : BitVec 1 := Scalar.xori v327 v328
  let c0_i32_217 : BitVec 32 := 0#32
  let v326 : BitVec 1 := Scalar.cmpi .ne v325 c0_i32_217
  let v330 : BitVec 1 := Scalar.andi v329 v326
  let v331 : BitVec 32 := Scalar.addi v325 v324
  let v332 : BitVec 32 := Scalar.select v330 v331 v325
  let v333 : Index := Scalar.indexCast v332
  let c1_220 : Index := 1#32
  let c0_221 : Index := 0#32
  let c0_222 : Index := 0#32
  ![v333.toNat, 1, 0, 0]
def k0_mult23 (arg19 : BitVec 32) (arg20 : BitVec 32) : BitVec 32 :=
  let v308 : BitVec 1 := Scalar.cmpi .eq arg19 arg20
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let v309 : BitVec 32 := Scalar.select v308 arg19 v267
  let c512_i32_225 : BitVec 32 := 512#32
  let v353 : BitVec 32 := Scalar.muli v309 c512_i32_225
  v353
def k0_off36 (arg19 : BitVec 32) (arg20 : BitVec 32) : Fin 2 → Nat :=
  let v308 : BitVec 1 := Scalar.cmpi .eq arg19 arg20
  let v261 : BitVec 1 := Scalar.cmpi .eq arg20 arg19
  let c1_i32_177 : BitVec 32 := 1#32
  let v262 : BitVec 32 := Scalar.addi arg19 c1_i32_177
  let v263 : BitVec 32 := Scalar.select v261 v262 arg19
  let c32_i32_180 : BitVec 32 := 32#32
  let v266 : BitVec 1 := Scalar.cmpi .eq v263 c32_i32_180
  let c31_i32_181 : BitVec 32 := 31#32
  let v267 : BitVec 32 := Scalar.select v266 c31_i32_181 v263
  let v309 : BitVec 32 := Scalar.select v308 arg19 v267
  let c512_i32_225 : BitVec 32 := 512#32
  let v353 : BitVec 32 := Scalar.muli v309 c512_i32_225
  let v354 : BitVec 32 := v353
  let v365 : Index := Scalar.indexCast v354
  let c0_230 : Index := 0#32
  ![v365.toNat, 0]

def k0_chk2 (arg15 : BitVec 32) (arg16 : BitVec 32) (arg19 : BitVec 32) (arg20 : BitVec 32) : Prop :=
  (∀ (k0_h1 : k0_cond1 arg15 arg16 = 1#1), ∀ (k0_h2 : k0_cond2 arg15 arg16 = 1#1), 512 ∣ (k0_mult7 arg20).toNat) ∧
  (∀ (k0_h1 : k0_cond1 arg15 arg16 = 1#1), ∀ (k0_h2 : k0_cond2 arg15 arg16 = 1#1), ∀ a, (k0_off6 arg20) a + S1x144x512.size a ≤ S1x144x16384.size a) ∧
  (∀ (k0_h1 : k0_cond1 arg15 arg16 = 1#1), ∀ (k0_h2 : k0_cond2 arg15 arg16 = 1#1), 512 ∣ (k0_mult10 arg19 arg20).toNat) ∧
  (∀ (k0_h1 : k0_cond1 arg15 arg16 = 1#1), ∀ (k0_h2 : k0_cond2 arg15 arg16 = 1#1), ∀ a, (k0_off11 arg19 arg20) a + S1x144x512.size a ≤ S1x144x16384.size a) ∧
  (∀ (k0_h1 : k0_cond1 arg15 arg16 = 1#1), ∀ (k0_h2 : k0_cond2 arg15 arg16 = 1#1), ∀ a, (k0_off12 arg19 arg20) a + S1x1x144x512.size a ≤ S2x2x144x512.size a) ∧
  (∀ (k0_h1 : k0_cond1 arg15 arg16 = 1#1), ∀ (k0_h2 : k0_cond2 arg15 arg16 = 1#1), ∀ a, (k0_off13 arg19 arg20) a + S1x1x144x512.size a ≤ S2x2x144x512.size a) ∧
  (∀ (k0_h1 : k0_cond1 arg15 arg16 = 1#1), ∀ (k0_h2 : ¬(k0_cond2 arg15 arg16 = 1#1)), 512 ∣ (k0_mult13 arg20).toNat) ∧
  (∀ (k0_h1 : k0_cond1 arg15 arg16 = 1#1), ∀ (k0_h2 : ¬(k0_cond2 arg15 arg16 = 1#1)), ∀ a, (k0_off16 arg20) a + S1x144x512.size a ≤ S1x144x16384.size a) ∧
  (∀ (k0_h1 : k0_cond1 arg15 arg16 = 1#1), ∀ (k0_h2 : ¬(k0_cond2 arg15 arg16 = 1#1)), 512 ∣ (k0_mult16 arg19 arg20).toNat) ∧
  (∀ (k0_h1 : k0_cond1 arg15 arg16 = 1#1), ∀ (k0_h2 : ¬(k0_cond2 arg15 arg16 = 1#1)), ∀ a, (k0_off21 arg19 arg20) a + S1x144x512.size a ≤ S1x144x16384.size a) ∧
  (∀ (k0_h1 : k0_cond1 arg15 arg16 = 1#1), ∀ (k0_h2 : ¬(k0_cond2 arg15 arg16 = 1#1)), ∀ a, (k0_off22 arg19 arg20) a + S1x1x144x512.size a ≤ S2x2x144x512.size a) ∧
  (∀ (k0_h1 : k0_cond1 arg15 arg16 = 1#1), ∀ (k0_h2 : ¬(k0_cond2 arg15 arg16 = 1#1)), ∀ a, (k0_off23 arg19 arg20) a + S1x1x144x512.size a ≤ S2x2x144x512.size a) ∧
  (∀ (k0_h1 : ¬(k0_cond1 arg15 arg16 = 1#1)), 512 ∣ (k0_mult19 arg20).toNat) ∧
  (∀ (k0_h1 : ¬(k0_cond1 arg15 arg16 = 1#1)), ∀ a, (k0_off26 arg20) a + S1x144x512.size a ≤ S1x144x16384.size a) ∧
  (∀ (k0_h1 : ¬(k0_cond1 arg15 arg16 = 1#1)), 512 ∣ (k0_mult22 arg19 arg20).toNat) ∧
  (∀ (k0_h1 : ¬(k0_cond1 arg15 arg16 = 1#1)), ∀ a, (k0_off31 arg19 arg20) a + S1x144x512.size a ≤ S1x144x16384.size a) ∧
  (∀ (k0_h1 : ¬(k0_cond1 arg15 arg16 = 1#1)), ∀ a, (k0_off32 arg19 arg20) a + S1x1x144x512.size a ≤ S2x2x144x512.size a) ∧
  (∀ (k0_h1 : ¬(k0_cond1 arg15 arg16 = 1#1)), ∀ a, (k0_off33 arg19 arg20) a + S1x1x144x512.size a ≤ S2x2x144x512.size a) ∧
  (∀ (k0_h3 : k0_cond3 arg19 arg20 = 1#1), ∀ a, (k0_off34 arg19 arg20) a + S1x1x144x512.size a ≤ S2x2x144x512.size a) ∧
  (∀ (k0_h3 : k0_cond3 arg19 arg20 = 1#1), ∀ a, (k0_off35 arg19 arg20) a + S1x1x144x512.size a ≤ S2x2x144x512.size a) ∧
  (∀ (k0_h3 : k0_cond3 arg19 arg20 = 1#1), 512 ∣ (k0_mult23 arg19 arg20).toNat) ∧
  (∀ (k0_h3 : k0_cond3 arg19 arg20 = 1#1), ∀ a, (k0_off36 arg19 arg20) a + S512x128.size a ≤ S16384x128.size a)
theorem k0_mult7_dvd : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : k0_cond2 arg15 arg16 = 1#1), 512 ∣ (k0_mult7 arg20).toNat := fun arg15 arg16 arg19 arg20 k0_hw2 k0_h1 k0_h2 => k0_hw2.1 k0_h1 k0_h2
theorem k0_off6_inb : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : k0_cond2 arg15 arg16 = 1#1), ∀ a, (k0_off6 arg20) a + S1x144x512.size a ≤ S1x144x16384.size a := fun arg15 arg16 arg19 arg20 k0_hw2 k0_h1 k0_h2 => k0_hw2.2.1 k0_h1 k0_h2
theorem k0_mult10_dvd : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : k0_cond2 arg15 arg16 = 1#1), 512 ∣ (k0_mult10 arg19 arg20).toNat := fun arg15 arg16 arg19 arg20 k0_hw2 k0_h1 k0_h2 => k0_hw2.2.2.1 k0_h1 k0_h2
theorem k0_off11_inb : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : k0_cond2 arg15 arg16 = 1#1), ∀ a, (k0_off11 arg19 arg20) a + S1x144x512.size a ≤ S1x144x16384.size a := fun arg15 arg16 arg19 arg20 k0_hw2 k0_h1 k0_h2 => k0_hw2.2.2.2.1 k0_h1 k0_h2
theorem k0_off12_inb : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : k0_cond2 arg15 arg16 = 1#1), ∀ a, (k0_off12 arg19 arg20) a + S1x1x144x512.size a ≤ S2x2x144x512.size a := fun arg15 arg16 arg19 arg20 k0_hw2 k0_h1 k0_h2 => k0_hw2.2.2.2.2.1 k0_h1 k0_h2
theorem k0_off13_inb : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : k0_cond2 arg15 arg16 = 1#1), ∀ a, (k0_off13 arg19 arg20) a + S1x1x144x512.size a ≤ S2x2x144x512.size a := fun arg15 arg16 arg19 arg20 k0_hw2 k0_h1 k0_h2 => k0_hw2.2.2.2.2.2.1 k0_h1 k0_h2
theorem k0_mult13_dvd : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : ¬(k0_cond2 arg15 arg16 = 1#1)), 512 ∣ (k0_mult13 arg20).toNat := fun arg15 arg16 arg19 arg20 k0_hw2 k0_h1 k0_h2 => k0_hw2.2.2.2.2.2.2.1 k0_h1 k0_h2
theorem k0_off16_inb : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : ¬(k0_cond2 arg15 arg16 = 1#1)), ∀ a, (k0_off16 arg20) a + S1x144x512.size a ≤ S1x144x16384.size a := fun arg15 arg16 arg19 arg20 k0_hw2 k0_h1 k0_h2 => k0_hw2.2.2.2.2.2.2.2.1 k0_h1 k0_h2
theorem k0_mult16_dvd : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : ¬(k0_cond2 arg15 arg16 = 1#1)), 512 ∣ (k0_mult16 arg19 arg20).toNat := fun arg15 arg16 arg19 arg20 k0_hw2 k0_h1 k0_h2 => k0_hw2.2.2.2.2.2.2.2.2.1 k0_h1 k0_h2
theorem k0_off21_inb : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : ¬(k0_cond2 arg15 arg16 = 1#1)), ∀ a, (k0_off21 arg19 arg20) a + S1x144x512.size a ≤ S1x144x16384.size a := fun arg15 arg16 arg19 arg20 k0_hw2 k0_h1 k0_h2 => k0_hw2.2.2.2.2.2.2.2.2.2.1 k0_h1 k0_h2
theorem k0_off22_inb : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : ¬(k0_cond2 arg15 arg16 = 1#1)), ∀ a, (k0_off22 arg19 arg20) a + S1x1x144x512.size a ≤ S2x2x144x512.size a := fun arg15 arg16 arg19 arg20 k0_hw2 k0_h1 k0_h2 => k0_hw2.2.2.2.2.2.2.2.2.2.2.1 k0_h1 k0_h2
theorem k0_off23_inb : ∀ (arg15 : BitVec 32) (arg16 : BitVec 32) (arg19 : BitVec 32) (arg20 : BitVec 32) (k0_hw2 : k0_chk2 arg15 arg16 arg19 arg20), ∀ (k0_h1 : k0_cond1 arg15 arg16 = 1#1), ∀ (k0_h2 : ¬(k0_cond2 arg15 arg16 = 1#1)), ∀ a, (k0_off23 arg19 arg20) a + S1x1x144x512.size a ≤ S2x2x144x512.size a := fun arg15 arg16 arg19 arg20 k0_hw2 k0_h1 k0_h2 => k0_hw2.2.2.2.2.2.2.2.2.2.2.2.1 k0_h1 k0_h2
theorem k0_mult19_dvd : ∀ (arg15 : BitVec 32) (arg16 : BitVec 32) (arg19 : BitVec 32) (arg20 : BitVec 32) (k0_hw2 : k0_chk2 arg15 arg16 arg19 arg20), ∀ (k0_h1 : ¬(k0_cond1 arg15 arg16 = 1#1)), 512 ∣ (k0_mult19 arg20).toNat := fun arg15 arg16 arg19 arg20 k0_hw2 k0_h1 => k0_hw2.2.2.2.2.2.2.2.2.2.2.2.2.1 k0_h1
theorem k0_off26_inb : ∀ (arg15 : BitVec 32) (arg16 : BitVec 32) (arg19 : BitVec 32) (arg20 : BitVec 32) (k0_hw2 : k0_chk2 arg15 arg16 arg19 arg20), ∀ (k0_h1 : ¬(k0_cond1 arg15 arg16 = 1#1)), ∀ a, (k0_off26 arg20) a + S1x144x512.size a ≤ S1x144x16384.size a := fun arg15 arg16 arg19 arg20 k0_hw2 k0_h1 => k0_hw2.2.2.2.2.2.2.2.2.2.2.2.2.2.1 k0_h1
theorem k0_mult22_dvd : ∀ (arg15 : BitVec 32) (arg16 : BitVec 32) (arg19 : BitVec 32) (arg20 : BitVec 32) (k0_hw2 : k0_chk2 arg15 arg16 arg19 arg20), ∀ (k0_h1 : ¬(k0_cond1 arg15 arg16 = 1#1)), 512 ∣ (k0_mult22 arg19 arg20).toNat := fun arg15 arg16 arg19 arg20 k0_hw2 k0_h1 => k0_hw2.2.2.2.2.2.2.2.2.2.2.2.2.2.2.1 k0_h1
theorem k0_off31_inb : ∀ (arg15 : BitVec 32) (arg16 : BitVec 32) (arg19 : BitVec 32) (arg20 : BitVec 32) (k0_hw2 : k0_chk2 arg15 arg16 arg19 arg20), ∀ (k0_h1 : ¬(k0_cond1 arg15 arg16 = 1#1)), ∀ a, (k0_off31 arg19 arg20) a + S1x144x512.size a ≤ S1x144x16384.size a := fun arg15 arg16 arg19 arg20 k0_hw2 k0_h1 => k0_hw2.2.2.2.2.2.2.2.2.2.2.2.2.2.2.2.1 k0_h1
theorem k0_off32_inb : ∀ (arg15 : BitVec 32) (arg16 : BitVec 32) (arg19 : BitVec 32) (arg20 : BitVec 32) (k0_hw2 : k0_chk2 arg15 arg16 arg19 arg20), ∀ (k0_h1 : ¬(k0_cond1 arg15 arg16 = 1#1)), ∀ a, (k0_off32 arg19 arg20) a + S1x1x144x512.size a ≤ S2x2x144x512.size a := fun arg15 arg16 arg19 arg20 k0_hw2 k0_h1 => k0_hw2.2.2.2.2.2.2.2.2.2.2.2.2.2.2.2.2.1 k0_h1
theorem k0_off33_inb : ∀ (arg15 : BitVec 32) (arg16 : BitVec 32) (arg19 : BitVec 32) (arg20 : BitVec 32) (k0_hw2 : k0_chk2 arg15 arg16 arg19 arg20), ∀ (k0_h1 : ¬(k0_cond1 arg15 arg16 = 1#1)), ∀ a, (k0_off33 arg19 arg20) a + S1x1x144x512.size a ≤ S2x2x144x512.size a := fun arg15 arg16 arg19 arg20 k0_hw2 k0_h1 => k0_hw2.2.2.2.2.2.2.2.2.2.2.2.2.2.2.2.2.2.1 k0_h1
theorem k0_off34_inb : ∀ (arg15 : BitVec 32) (arg16 : BitVec 32) (arg19 : BitVec 32) (arg20 : BitVec 32) (k0_hw2 : k0_chk2 arg15 arg16 arg19 arg20), ∀ (k0_h3 : k0_cond3 arg19 arg20 = 1#1), ∀ a, (k0_off34 arg19 arg20) a + S1x1x144x512.size a ≤ S2x2x144x512.size a := fun arg15 arg16 arg19 arg20 k0_hw2 k0_h3 => k0_hw2.2.2.2.2.2.2.2.2.2.2.2.2.2.2.2.2.2.2.1 k0_h3
theorem k0_off35_inb : ∀ (arg15 : BitVec 32) (arg16 : BitVec 32) (arg19 : BitVec 32) (arg20 : BitVec 32) (k0_hw2 : k0_chk2 arg15 arg16 arg19 arg20), ∀ (k0_h3 : k0_cond3 arg19 arg20 = 1#1), ∀ a, (k0_off35 arg19 arg20) a + S1x1x144x512.size a ≤ S2x2x144x512.size a := fun arg15 arg16 arg19 arg20 k0_hw2 k0_h3 => k0_hw2.2.2.2.2.2.2.2.2.2.2.2.2.2.2.2.2.2.2.2.1 k0_h3
theorem k0_mult23_dvd : ∀ (arg15 : BitVec 32) (arg16 : BitVec 32) (arg19 : BitVec 32) (arg20 : BitVec 32) (k0_hw2 : k0_chk2 arg15 arg16 arg19 arg20), ∀ (k0_h3 : k0_cond3 arg19 arg20 = 1#1), 512 ∣ (k0_mult23 arg19 arg20).toNat := fun arg15 arg16 arg19 arg20 k0_hw2 k0_h3 => k0_hw2.2.2.2.2.2.2.2.2.2.2.2.2.2.2.2.2.2.2.2.2.1 k0_h3
theorem k0_off36_inb : ∀ (arg15 : BitVec 32) (arg16 : BitVec 32) (arg19 : BitVec 32) (arg20 : BitVec 32) (k0_hw2 : k0_chk2 arg15 arg16 arg19 arg20), ∀ (k0_h3 : k0_cond3 arg19 arg20 = 1#1), ∀ a, (k0_off36 arg19 arg20) a + S512x128.size a ≤ S16384x128.size a := fun arg15 arg16 arg19 arg20 k0_hw2 k0_h3 => k0_hw2.2.2.2.2.2.2.2.2.2.2.2.2.2.2.2.2.2.2.2.2.2 k0_h3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x144x16384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x64 : Shape := ⟨2, ![1, 64]⟩
abbrev S16384x512 : Shape := ⟨2, ![16384, 512]⟩
abbrev S1x128 : Shape := ⟨2, ![1, 128]⟩
abbrev S_ : Shape := ⟨0, ![]⟩
abbrev S16384x4x2x64 : Shape := ⟨4, ![16384, 4, 2, 64]⟩
abbrev S4x2x16384x64 : Shape := ⟨4, ![4, 2, 16384, 64]⟩
abbrev S16384x4x128 : Shape := ⟨3, ![16384, 4, 128]⟩
abbrev S4x16384x128 : Shape := ⟨3, ![4, 16384, 128]⟩
abbrev S4x2x16384x16384 : Shape := ⟨4, ![4, 2, 16384, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x1x16384x16384 : Shape := ⟨4, ![1, 1, 16384, 16384]⟩
abbrev S4x2x16384 : Shape := ⟨3, ![4, 2, 16384]⟩
abbrev S4x2x16384x1 : Shape := ⟨4, ![4, 2, 16384, 1]⟩
abbrev S4x1x16384x16384 : Shape := ⟨4, ![4, 1, 16384, 16384]⟩
abbrev S4x16384x16384 : Shape := ⟨3, ![4, 16384, 16384]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S1x128, .f32⟩
  | .hbm, ⟨8, _⟩ => ⟨S1x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384x4x2x64, .f32⟩
  | .hbm, ⟨20, _⟩ => ⟨S4x2x16384x64, .f32⟩
  | .hbm, ⟨21, _⟩ => ⟨S16384x4x2x64, .f32⟩
  | .hbm, ⟨22, _⟩ => ⟨S4x2x16384x64, .f32⟩
  | .hbm, ⟨23, _⟩ => ⟨S16384x4x128, .f32⟩
  | .hbm, ⟨24, _⟩ => ⟨S4x16384x128, .f32⟩
  | .hbm, ⟨25, _⟩ => ⟨S4x2x16384x16384, .f32⟩
  | .hbm, ⟨26, _⟩ => ⟨S_, .f32⟩
  | .hbm, ⟨27, _⟩ => ⟨S4x2x16384x16384, .f32⟩
  | .hbm, ⟨28, _⟩ => ⟨S4x2x16384x16384, .f32⟩
  | .hbm, ⟨29, _⟩ => ⟨S16384, .i32⟩
  | .hbm, ⟨30, _⟩ => ⟨S16384x1, .i32⟩
  | .hbm, ⟨31, _⟩ => ⟨S1x16384, .i32⟩
  | .hbm, ⟨32, _⟩ => ⟨S16384x16384, .i32⟩
  | .hbm, ⟨33, _⟩ => ⟨S16384x16384, .i32⟩
  | .hbm, ⟨34, _⟩ => ⟨S16384x16384, .i1⟩
  | .hbm, ⟨35, _⟩ => ⟨S1x1x16384x16384, .i1⟩
  | .hbm, ⟨36, _⟩ => ⟨S_, .f32⟩
  | .hbm, ⟨37, _⟩ => ⟨S_, .f32⟩
  | .hbm, ⟨38, _⟩ => ⟨S4x2x16384x16384, .i1⟩
  | .hbm, ⟨39, _⟩ => ⟨S4x2x16384x16384, .f32⟩
  | .hbm, ⟨40, _⟩ => ⟨S4x2x16384x16384, .f32⟩
  | .hbm, ⟨41, _⟩ => ⟨S_, .f32⟩
  | .hbm, ⟨42, _⟩ => ⟨S4x2x16384, .f32⟩
  | .hbm, ⟨43, _⟩ => ⟨S_, .f32⟩
  | .hbm, ⟨44, _⟩ => ⟨S4x2x16384, .f32⟩
  | .hbm, ⟨45, _⟩ => ⟨S4x2x16384, .f32⟩
  | .hbm, ⟨46, _⟩ => ⟨S4x2x16384x1, .f32⟩
  | .hbm, ⟨47, _⟩ => ⟨S4x2x16384x16384, .f32⟩
  | .hbm, ⟨48, _⟩ => ⟨S4x2x16384x16384, .f32⟩
  | .hbm, ⟨49, _⟩ => ⟨S4x2x16384x16384, .f32⟩
  | .hbm, ⟨50, _⟩ => ⟨S_, .f32⟩
  | .hbm, ⟨51, _⟩ => ⟨S4x2x16384, .f32⟩
  | .hbm, ⟨52, _⟩ => ⟨S4x2x16384x1, .f32⟩
  | .hbm, ⟨53, _⟩ => ⟨S4x2x16384x16384, .f32⟩
  | .hbm, ⟨54, _⟩ => ⟨S4x2x16384x16384, .f32⟩
  | .hbm, ⟨55, _⟩ => ⟨S4x1x16384x16384, .f32⟩
  | .hbm, ⟨56, _⟩ => ⟨S4x16384x16384, .f32⟩
  | .hbm, ⟨57, _⟩ => ⟨S4x1x16384x16384, .f32⟩
  | .hbm, ⟨58, _⟩ => ⟨S4x16384x16384, .f32⟩
  | .hbm, ⟨59, _⟩ => ⟨S4x16384x16384, .f32⟩
  | .hbm, ⟨60, _⟩ => ⟨S4x16384x16384, .f32⟩
  | .hbm, ⟨61, _⟩ => ⟨S4x16384x16384, .f32⟩
  | .hbm, ⟨62, _⟩ => ⟨S4x16384x128, .f32⟩
  | .hbm, ⟨63, _⟩ => ⟨S16384x4x128, .f32⟩
  | .hbm, ⟨64, _⟩ => ⟨S16384x4x128, .f32⟩
  | .hbm, ⟨65, _⟩ => ⟨S_, .f32⟩
  | .hbm, ⟨66, _⟩ => ⟨S16384x4, .f32⟩
  | .hbm, ⟨67, _⟩ => ⟨S16384x4x1, .f32⟩
  | .hbm, ⟨68, _⟩ => ⟨S_, .f32⟩
  | .hbm, ⟨69, _⟩ => ⟨S16384x4x1, .f32⟩
  | .hbm, ⟨70, _⟩ => ⟨S16384x4x1, .f32⟩
  | .hbm, ⟨71, _⟩ => ⟨S_, .f32⟩
  | .hbm, ⟨72, _⟩ => ⟨S16384x4x1, .f32⟩
  | .hbm, ⟨73, _⟩ => ⟨S16384x4x1, .f32⟩
  | .hbm, ⟨74, _⟩ => ⟨S16384x4x1, .f32⟩
  | .hbm, ⟨75, _⟩ => ⟨S16384x4x128, .f32⟩
  | .hbm, ⟨76, _⟩ => ⟨S16384x4x128, .f32⟩
  | .hbm, ⟨77, _⟩ => ⟨S1x1x128, .f32⟩
  | .hbm, ⟨78, _⟩ => ⟨S16384x4x128, .f32⟩
  | .hbm, ⟨79, _⟩ => ⟨S16384x4x128, .f32⟩
  | .hbm, ⟨80, _⟩ => ⟨S_, .f32⟩
  | .hbm, ⟨81, _⟩ => ⟨S16384x4x128, .f32⟩
  | .hbm, ⟨82, _⟩ => ⟨S16384x4x128, .f32⟩
  | .hbm, ⟨83, _⟩ => ⟨S16384x512, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Proof.Ops.lean ====
/-
  The attention kernel's loop body as a handful of named pieces.

  The printed body unrolls its three `lax.switch` branches and, inside each, the two calls of the scores, the softmax and
  the product with the values. Here each of these is ONE program over the memrefs, with the slot, the tile offsets and
  the causal flag as parameters, and the value each of them stores is one named function of the tiles it reads. That the
  printed branches are these programs is by unfolding (`switch_eq`).
-/
module

public import proofs.«01_k».proof.Proof.Gen.KernelIdeal.Frame
public import proofs.«01_k».proof.Proof.Gen.KernelIdeal.Loops

@[expose] public section

set_option maxRecDepth 65536

noncomputable section

namespace Cert.Proof.Attn

open Cert.KernelIdeal Cert.KernelIdeal.Gen
open Idealize.ShloMosaic Idealize.SL.Sem

variable {F : FTy → Type} [FloatOps F]

/-! ## The values -/

/-- The queries of map 0: lanes below 64, the others zeroed. -/
def qLo (lane : IVec S512x128 32) (q : Vec F S512x128 .bf16) : FVec F S512x128 .bf16 :=
  select (cmpi .slt lane (broadcast S512x128 64#32)) (shapeCast S512x128 q shapeCasts_S512x128_S512x128)
    (broadcast S512x128 (Scalar.ofBits .bf16 0x0000#16))

/-- The queries of map 1: lanes from 64 on, the others zeroed. -/
def qHi (lane : IVec S512x128 32) (q : Vec F S512x128 .bf16) : FVec F S512x128 .bf16 :=
  select (cmpi .sge lane (broadcast S512x128 64#32)) (shapeCast S512x128 q shapeCasts_S512x128_S512x128)
    (broadcast S512x128 (Scalar.ofBits .bf16 0x0000#16))

/-- The products of the 512 keys with the first 256 queries, -/
def dotA (k : Vec F S512x128 .bf16) (q : FVec F S512x128 .bf16) : FVec F S512x256 .f32 :=
  matmul dot_S512x128_S256x128_S512x256_1_1_0_0_n_n none (shapeCast S512x128 k shapeCasts_S512x128_S512x128)
    (extractStridedSlice S256x128 ![0, 0] q slices_S512x128_o0_0_S256x128) (constant S512x256 .f32 0x00000000#32)
/-- and with the last 256. -/
def dotB (k : Vec F S512x128 .bf16) (q : FVec F S512x128 .bf16) : FVec F S512x256 .f32 :=
  matmul dot_S512x128_S256x128_S512x256_1_1_0_0_n_n none (shapeCast S512x128 k shapeCasts_S512x128_S512x128)
    (extractStridedSlice S256x128 ![256, 0] q slices_S512x128_o256_0_S256x128) (constant S512x256 .f32 0x00000000#32)

/-- The causal mask of a tile: minus infinity where the key's position passes the query's. -/
def causal (qw kw d : BitVec 32) (s : FVec F S512x256 .f32) : FVec F S512x256 .f32 :=
  select (cmpi .sle (addi (iota .tc S512x256 32 [0] iota_S512x256_d0_w32) (broadcast S512x256 (Scalar.muli kw 512#32)))
      (addi (iota .tc S512x256 32 [1] iota_S512x256_d1_w32) (broadcast S512x256 (Scalar.addi (Scalar.muli qw 512#32) d))))
    s (broadcast S512x256 (Scalar.ofBits .f32 0xFF800000#32))

/-- A tile's scores, masked where the tile is on the diagonal. -/
def masked (b : Bool) (qw kw d : BitVec 32) (s : FVec F S512x256 .f32) : FVec F S512x256 .f32 :=
  match b with
  | true => causal qw kw d s
  | false => s

/-- A tile as the scratch holds it. -/
def up (s : FVec F S512x256 .f32) : FVec F S1x1x512x256 .f32 := shapeCast S1x1x512x256 s shapeCasts_S512x256_S1x1x512x256

/-- The largest score of each query over the tile's keys. -/
def colMax (s : FVec F S512x256 .f32) : FVec F S1x256 .f32 :=
  shapeCast S1x256 (multiReduction .maximumf [0] S256 s 0xFF800000#32 reduces_S512x256_S256 (.inl rfl) rfl) shapeCasts_S256_S1x256

/-- The maximum a row starts from: minus infinity at its first tile. -/
def mOld (ninf : FVec F S1x256 .f32) (t : BitVec 32) (m : FVec F S1x256 .f32) : FVec F S1x256 .f32 :=
  Scalar.select (Scalar.cmpi .eq t 0#32) ninf m
/-- The maximum after the tile. -/
def mNew (ninf : FVec F S1x256 .f32) (t : BitVec 32) (mx m : FVec F S1x256 .f32) : FVec F S1x256 .f32 :=
  maximumf (mOld ninf t m) mx
/-- What the sums so far are multiplied by. -/
def alphaOf (ninf : FVec F S1x256 .f32) (t : BitVec 32) (mx m : FVec F S1x256 .f32) : FVec F S1x1x1x256 .f32 :=
  shapeCast S1x1x1x256 (exp2 (subf (mOld ninf t m) (mNew ninf t mx m))) shapeCasts_S1x256_S1x1x1x256
/-- The tile's weights. -/
def probOf (mn : FVec F S1x256 .f32) (s : Vec F S1x1x512x256 .f32) : FVec F S1x1x512x256 .bf16 :=
  shapeCast S1x1x512x256 (truncf .bf16 (exp2 (subf (shapeCast S512x256 s shapeCasts_S1x1x512x256_S512x256)
    (broadcastTo S512x256 mn broadcasts_S1x256_S512x256))) bitsLt_bf16_f32) shapeCasts_S512x256_S1x1x512x256

/-- The accumulator after a tile. -/
def accOf (v : Vec F S1x144x512 .bf16) (p : Vec F S1x1x512x512 .bf16) (al : Vec F S1x1x1x512 .f32) (acc : Vec F S1x1x144x512 .f32) :
    FVec F S1x1x144x512 .f32 :=
  shapeCast S1x1x144x512 (addf (mulf (broadcastTo S144x512 (shapeCast S1x512 al shapeCasts_S1x1x1x512_S1x512) broadcasts_S1x512_S144x512)
      (shapeCast S144x512 acc shapeCasts_S1x1x144x512_S144x512))
    (matmul dot_S144x512_S512x512_S144x512_1_0_0_1_n_n none (shapeCast S144x512 v shapeCasts_S1x144x512_S144x512)
      (shapeCast S512x512 p shapeCasts_S1x1x512x512_S512x512) (constant S144x512 .f32 0x00000000#32))) shapeCasts_S144x512_S1x1x144x512

/-! ## The programs -/

/-- Where a 256-query tile lies in the scratch. -/
abbrev bo (s c n : ℕ) : Fin 4 → ℕ := ![s, c, 0, n]

theorem inb_s {s c n : ℕ} (hs : s < 2) (hc : c < 2) (hn : n ≤ 256) : ∀ a, bo s c n a + S1x1x512x256.size a ≤ S2x2x512x512.size a := by
  intro a; match a with
  | ⟨0, _⟩ => show s + 1 ≤ 2; omega
  | ⟨1, _⟩ => show c + 1 ≤ 2; omega
  | ⟨2, _⟩ => show 0 + 512 ≤ 512; omega
  | ⟨3, _⟩ => show n + 256 ≤ 512; omega
theorem inb_a {s c n : ℕ} (hs : s < 2) (hc : c < 2) (hn : n ≤ 256) : ∀ a, bo s c n a + S1x1x1x256.size a ≤ S2x2x1x512.size a := by
  intro a; match a with
  | ⟨0, _⟩ => show s + 1 ≤ 2; omega
  | ⟨1, _⟩ => show c + 1 ≤ 2; omega
  | ⟨2, _⟩ => show 0 + 1 ≤ 1; omega
  | ⟨3, _⟩ => show n + 256 ≤ 512; omega
theorem inb_p {s c : ℕ} (hs : s < 2) (hc : c < 2) : ∀ a, bo s c 0 a + S1x1x512x512.size a ≤ S2x2x512x512.size a := by
  intro a; match a with
  | ⟨0, _⟩ => show s + 1 ≤ 2; omega
  | ⟨1, _⟩ => show c + 1 ≤ 2; omega
  | ⟨2, _⟩ => show 0 + 512 ≤ 512; omega
  | ⟨3, _⟩ => show 0 + 512 ≤ 512; omega
theorem inb_al {s c : ℕ} (hs : s < 2) (hc : c < 2) : ∀ a, bo s c 0 a + S1x1x1x512.size a ≤ S2x2x1x512.size a := by
  intro a; match a with
  | ⟨0, _⟩ => show s + 1 ≤ 2; omega
  | ⟨1, _⟩ => show c + 1 ≤ 2; omega
  | ⟨2, _⟩ => show 0 + 1 ≤ 1; omega
  | ⟨3, _⟩ => show 0 + 512 ≤ 512; omega

theorem packed_p {s c n : ℕ} (hs : s < 2) (hc : c < 2) (hn : n = 0 ∨ n = 256) :
    (Rect.unit (s := S2x2x512x512) (bo s c n) S1x1x512x256.size (inb_s hs hc (by omega))).PackedRows (EltTy.bf16).packing := by
  obtain rfl | rfl : s = 0 ∨ s = 1 := by omega
  all_goals obtain rfl | rfl : c = 0 ∨ c = 1 := by omega
  all_goals obtain rfl | rfl := hn
  · exact packedbf16_S2x2x512x512_S1x1x512x256_0_0_0_0
  · exact packedbf16_S2x2x512x512_S1x1x512x256_0_0_0_256
  · exact packedbf16_S2x2x512x512_S1x1x512x256_0_1_0_0
  · exact packedbf16_S2x2x512x512_S1x1x512x256_0_1_0_256
  · exact packedbf16_S2x2x512x512_S1x1x512x256_1_0_0_0
  · exact packedbf16_S2x2x512x512_S1x1x512x256_1_0_0_256
  · exact packedbf16_S2x2x512x512_S1x1x512x256_1_1_0_0
  · exact packedbf16_S2x2x512x512_S1x1x512x256_1_1_0_256

/-- The programs' type. -/
abbrev Pr (F : FTy → Type) [FloatOps F] := Prog (TpuEff nD τ sig (Elt F) Λ₀ .tc)

/-- One tile of scores into the scratch. -/
def putScore (M : Memref sig .tc .vmem S2x2x512x512 .f32) (s c n : ℕ) (hs : s < 2) (hc : c < 2) (hn : n ≤ 256) (w : FVec F S1x1x512x256 .f32) : Pr F PUnit := do
  let _ ← Prog.lift (.load M (Rect.unit (s := S2x2x512x512) (bo s c n) S1x1x512x256.size (inb_s hs hc hn)).toLoadRect (View.loadsAt_vmem h_S1x1x512x256))
  Prog.lift (.store M (Rect.unit (s := S2x2x512x512) (bo s c n) S1x1x512x256.size (inb_s hs hc hn)) w Finset.univ (View.stores_vmem_bits_univ h_S1x1x512x256 rfl) (.inl rfl))

/-- The scores of a tile into slot `s`, and their maxima. -/
def scoresP (M5 M6 : Memref sig .tc .vmem S16384x128 .bf16) (M10 : Memref sig .tc .vmem S2x2x512x512 .f32) (lane : IVec S512x128 32)
    (b : Bool) (s : ℕ) (hs : s < 2) (qw kw : BitVec 32) (oq ok : Fin 2 → ℕ) (hq : ∀ a, oq a + S512x128.size a ≤ S16384x128.size a)
    (hk : ∀ a, ok a + S512x128.size a ≤ S16384x128.size a) :
    Pr F (FVec F S1x256 .f32 × FVec F S1x256 .f32 × FVec F S1x256 .f32 × FVec F S1x256 .f32) := do
  let q : Vec F S512x128 .bf16 ← Prog.lift (.load M5 (Rect.unit (s := S16384x128) oq S512x128.size hq).toLoadRect (View.loadsAt_vmem h_S512x128))
  let k : Vec F S512x128 .bf16 ← Prog.lift (.load M6 (Rect.unit (s := S16384x128) ok S512x128.size hk).toLoadRect (View.loadsAt_vmem h_S512x128))
  putScore M10 s 0 0 hs (by omega) (by omega) (up (masked b qw kw 0#32 (dotA k (qLo lane q))))
  putScore M10 s 0 256 hs (by omega) (by omega) (up (masked b qw kw 256#32 (dotB k (qLo lane q))))
  putScore M10 s 1 0 hs (by omega) (by omega) (up (masked b qw kw 0#32 (dotA k (qHi lane q))))
  putScore M10 s 1 256 hs (by omega) (by omega) (up (masked b qw kw 256#32 (dotB k (qHi lane q))))
  pure (colMax (masked b qw kw 0#32 (dotA k (qLo lane q))), colMax (masked b qw kw 256#32 (dotB k (qLo lane q))),
    colMax (masked b qw kw 0#32 (dotA k (qHi lane q))), colMax (masked b qw kw 256#32 (dotB k (qHi lane q))))

/-- One tile of weights, and what the sums are multiplied by. -/
def soft1 (M10 : Memref sig .tc .vmem S2x2x512x512 .f32) (M11 : Memref sig .tc .vmem S2x2x512x512 .bf16) (h11 : M11.IsWhole)
    (M12 : Memref sig .tc .vmem S2x2x1x512 .f32) (ninf : FVec F S1x256 .f32) (t : BitVec 32) (s c n : ℕ) (hs : s < 2) (hc : c < 2)
    (hn : n = 0 ∨ n = 256) (mx m : FVec F S1x256 .f32) : Pr F PUnit := do
  let _ ← Prog.lift (.load M12 (Rect.unit (s := S2x2x1x512) (bo s c n) S1x1x1x256.size (inb_a hs hc (by omega))).toLoadRect (View.loadsAt_vmem h_S1x1x1x256))
  Prog.lift (.store M12 (Rect.unit (s := S2x2x1x512) (bo s c n) S1x1x1x256.size (inb_a hs hc (by omega))) (alphaOf ninf t mx m) Finset.univ (View.stores_vmem_bits_univ h_S1x1x1x256 rfl) (.inl rfl))
  let x : Vec F S1x1x512x256 .f32 ← Prog.lift (.load M10 (Rect.unit (s := S2x2x512x512) (bo s c n) S1x1x512x256.size (inb_s hs hc (by omega))).toLoadRect (View.loadsAt_vmem h_S1x1x512x256))
  let _ ← Prog.lift (.load M11 (Rect.unit (s := S2x2x512x512) (bo s c n) S1x1x512x256.size (inb_s hs hc (by omega))).toLoadRect (View.loadsAt_vmem h_S1x1x512x256))
  Prog.lift (.store M11 (Rect.unit (s := S2x2x512x512) (bo s c n) S1x1x512x256.size (inb_s hs hc (by omega))) (probOf (mNew ninf t mx m) x) Finset.univ
    (View.stores_vmem h_S1x1x512x256 (h11.storeExact_slice rfl _ (packed_p hs hc hn)) (fun _ => rfl)) (.inl rfl))

/-- The softmax's step on slot `s`. -/
def softP (M10 : Memref sig .tc .vmem S2x2x512x512 .f32) (M11 : Memref sig .tc .vmem S2x2x512x512 .bf16) (h11 : M11.IsWhole)
    (M12 : Memref sig .tc .vmem S2x2x1x512 .f32) (ninf : FVec F S1x256 .f32) (t : BitVec 32) (s : ℕ) (hs : s < 2)
    (x0 x1 x2 x3 m0 m1 m2 m3 : FVec F S1x256 .f32) : Pr F (FVec F S1x256 .f32 × FVec F S1x256 .f32 × FVec F S1x256 .f32 × FVec F S1x256 .f32) := do
  soft1 M10 M11 h11 M12 ninf t s 0 0 hs (by omega) (.inl rfl) x0 m0
  soft1 M10 M11 h11 M12 ninf t s 0 256 hs (by omega) (.inr rfl) x1 m1
  soft1 M10 M11 h11 M12 ninf t s 1 0 hs (by omega) (.inl rfl) x2 m2
  soft1 M10 M11 h11 M12 ninf t s 1 256 hs (by omega) (.inr rfl) x3 m3
  pure (mNew ninf t x0 m0, mNew ninf t x1 m1, mNew ninf t x2 m2, mNew ninf t x3 m3)

/-- One map's accumulator. -/
def acc1 (M11 : Memref sig .tc .vmem S2x2x512x512 .bf16) (M12 : Memref sig .tc .vmem S2x2x1x512 .f32) (M13 : Memref sig .tc .vmem S2x2x144x512 .f32)
    (s c : ℕ) (hs : s < 2) (hc : c < 2) (v : Vec F S1x144x512 .bf16) (oa : Fin 4 → ℕ) (ha : ∀ a, oa a + S1x1x144x512.size a ≤ S2x2x144x512.size a) : Pr F PUnit := do
  let p : Vec F S1x1x512x512 .bf16 ← Prog.lift (.load M11 (Rect.unit (s := S2x2x512x512) (bo s c 0) S1x1x512x512.size (inb_p hs hc)).toLoadRect (View.loadsAt_vmem h_S1x1x512x512))
  let al : Vec F S1x1x1x512 .f32 ← Prog.lift (.load M12 (Rect.unit (s := S2x2x1x512) (bo s c 0) S1x1x1x512.size (inb_al hs hc)).toLoadRect (View.loadsAt_vmem h_S1x1x1x512))
  let acc : Vec F S1x1x144x512 .f32 ← Prog.lift (.load M13 (Rect.unit (s := S2x2x144x512) oa S1x1x144x512.size ha).toLoadRect (View.loadsAt_vmem h_S1x1x144x512))
  let _ ← Prog.lift (.load M13 (Rect.unit (s := S2x2x144x512) oa S1x1x144x512.size ha).toLoadRect (View.loadsAt_vmem h_S1x1x144x512))
  Prog.lift (.store M13 (Rect.unit (s := S2x2x144x512) oa S1x1x144x512.size ha) (accOf v p al acc) Finset.univ (View.stores_vmem_bits_univ h_S1x1x144x512 rfl) (.inl rfl))

/-- The product with the values on slot `s`. -/
def pvP (M7 : Memref sig .tc .vmem S1x144x16384 .bf16) (M11 : Memref sig .tc .vmem S2x2x512x512 .bf16) (M12 : Memref sig .tc .vmem S2x2x1x512 .f32)
    (M13 : Memref sig .tc .vmem S2x2x144x512 .f32) (s : ℕ) (hs : s < 2) (ov : Fin 3 → ℕ) (hv : ∀ a, ov a + S1x144x512.size a ≤ S1x144x16384.size a)
    (oa ob : Fin 4 → ℕ) (ha : ∀ a, oa a + S1x1x144x512.size a ≤ S2x2x144x512.size a) (hb : ∀ a, ob a + S1x1x144x512.size a ≤ S2x2x144x512.size a) : Pr F PUnit := do
  let v : Vec F S1x144x512 .bf16 ← Prog.lift (.load M7 (Rect.unit (s := S1x144x16384) ov S1x144x512.size hv).toLoadRect (View.loadsAt_vmem h_S1x144x512))
  acc1 M11 M12 M13 s 0 hs (by omega) v oa ha
  acc1 M11 M12 M13 s 1 hs (by omega) v ob hb

/-- The four maxima of a tile: two maps by two halves of the queries. -/
abbrev V4 (F : FTy → Type) := FVec F S1x256 .f32 × FVec F S1x256 .f32 × FVec F S1x256 .f32 × FVec F S1x256 .f32

/-- Two steps of the pipeline: the scores of positions `2k+2` and `2k+3` (masked as `d0`, `d1` say), the softmax of
    `2k+1` and `2k+2`, the products with the values of `2k` and `2k+1`. -/
def pairP (M5 M6 : Memref sig .tc .vmem S16384x128 .bf16) (M7 : Memref sig .tc .vmem S1x144x16384 .bf16)
    (M10 : Memref sig .tc .vmem S2x2x512x512 .f32) (M11 : Memref sig .tc .vmem S2x2x512x512 .bf16) (h11 : M11.IsWhole)
    (M12 : Memref sig .tc .vmem S2x2x1x512 .f32) (M13 : Memref sig .tc .vmem S2x2x144x512 .f32)
    (lane : IVec S512x128 32) (ninf : FVec F S1x256 .f32) (d0 d1 : Bool) (qw kw tw qw' kw' tw' : BitVec 32)
    (oq ok : Fin 2 → ℕ) (hq : ∀ a, oq a + S512x128.size a ≤ S16384x128.size a) (hk : ∀ a, ok a + S512x128.size a ≤ S16384x128.size a)
    (ov : Fin 3 → ℕ) (hv : ∀ a, ov a + S1x144x512.size a ≤ S1x144x16384.size a)
    (oa ob : Fin 4 → ℕ) (ha : ∀ a, oa a + S1x1x144x512.size a ≤ S2x2x144x512.size a) (hb : ∀ a, ob a + S1x1x144x512.size a ≤ S2x2x144x512.size a)
    (oq' ok' : Fin 2 → ℕ) (hq' : ∀ a, oq' a + S512x128.size a ≤ S16384x128.size a) (hk' : ∀ a, ok' a + S512x128.size a ≤ S16384x128.size a)
    (ov' : Fin 3 → ℕ) (hv' : ∀ a, ov' a + S1x144x512.size a ≤ S1x144x16384.size a)
    (oa' ob' : Fin 4 → ℕ) (ha' : ∀ a, oa' a + S1x1x144x512.size a ≤ S2x2x144x512.size a) (hb' : ∀ a, ob' a + S1x1x144x512.size a ≤ S2x2x144x512.size a)
    (x0 x1 x2 x3 m0 m1 m2 m3 : FVec F S1x256 .f32) :
    Pr F (FVec F S1x256 .f32 × FVec F S1x256 .f32 × FVec F S1x256 .f32 × FVec F S1x256 .f32 × V4 F) := do
  let y ← scoresP M5 M6 M10 lane d0 0 (by omega) qw kw oq ok hq hk
  let n ← softP M10 M11 h11 M12 ninf tw 1 (by omega) x0 x1 x2 x3 m0 m1 m2 m3
  pvP M7 M11 M12 M13 0 (by omega) ov hv oa ob ha hb
  let z ← scoresP M5 M6 M10 lane d1 1 (by omega) qw' kw' oq' ok' hq' hk'
  let p ← softP M10 M11 h11 M12 ninf tw' 0 (by omega) y.1 y.2.1 y.2.2.1 y.2.2.2 n.1 n.2.1 n.2.2.1 n.2.2.2
  pvP M7 M11 M12 M13 1 (by omega) ov' hv' oa' ob' ha' hb'
  pure (z.1, z.2.1, z.2.2.1, z.2.2.2, p)

end Cert.Proof.Attn

end
-- ==== Proof.Trip.lean ====
/-
  One trip of the attention kernel's loop, and its prologue, as the named pieces of `Ops`.

  `switchP` is the trip's `lax.switch`: its three branches are `pairP` at three settings of the two causal flags.
  That the printed region IS `tripP`, and the printed kernel `bodyP`, is by unfolding.
-/
module

public import proofs.«01_k».proof.Proof.Ops

@[expose] public section

set_option maxRecDepth 65536

noncomputable section

namespace Cert.Proof.Attn

open Cert.KernelIdeal Cert.KernelIdeal.Gen
open Idealize.ShloMosaic Idealize.SL.Sem

variable {F : FTy → Type} [FloatOps F]

/-- The next position's query tile, in words. -/
def advQ (q t : BitVec 32) : BitVec 32 :=
  Scalar.select (Scalar.cmpi .eq (Scalar.select (Scalar.cmpi .eq t q) (Scalar.addi q 1#32) q) 32#32) 31#32
    (Scalar.select (Scalar.cmpi .eq t q) (Scalar.addi q 1#32) q)
/-- The next position's key tile, in words. -/
def advT (q t : BitVec 32) : BitVec 32 :=
  Scalar.select (Scalar.cmpi .eq (Scalar.select (Scalar.cmpi .eq t q) (Scalar.addi q 1#32) q) 32#32) 31#32
    (Scalar.select (Scalar.cmpi .eq t q) 0#32 (Scalar.addi t 1#32))

/-- The first part of a trip: the switch. -/
def switchP (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) (v18 : IVec S512x128 32) (v19 : FVec F S1x256 .f32) (arg15 arg16 arg17 arg18 arg19 arg20 : BitVec 32) (arg21 arg22 arg23 arg24 arg25 arg26 arg27 arg28 : FVec F S1x256 .f32) :
    Pr F (Σ' (k0_hw2 : k0_chk2 arg15 arg16 arg19 arg20), FVec F S1x256 .f32 × FVec F S1x256 .f32 × FVec F S1x256 .f32 × FVec F S1x256 .f32 × V4 F) := do
  have hw3 : k0_chk3 arg15 arg16 arg19 := (← Prog.lift (TpuEff.assume (k0_chk3 arg15 arg16 arg19) (k0_chk3.dec arg15 arg16 arg19))).down
  have hw2 : k0_chk2 arg15 arg16 arg19 arg20 := (← Prog.lift (TpuEff.assume (k0_chk2 arg15 arg16 arg19 arg20) (k0_chk2.dec arg15 arg16 arg19 arg20))).down
  have hw1 : k0_chk1 arg15 arg16 := (← Prog.lift (TpuEff.assume (k0_chk1 arg15 arg16) (k0_chk1.dec arg15 arg16))).down
  let r ← if h1 : k0_cond1 arg15 arg16 = 1#1 then
      if h2 : k0_cond2 arg15 arg16 = 1#1 then
        pairP arg5 arg6 arg7 arg10 arg11 harg11 arg12 arg13 v18 v19 false true arg15 arg16 arg18 (advQ arg15 arg16) (advT arg15 arg16) (advT arg17 arg18)
            (k0_off4 arg15) (k0_off5 arg16) (k0_off4_inb arg15 arg16 hw1 h1 h2) (k0_off5_inb arg15 arg16 hw1 h1 h2) (k0_off6 arg20) (k0_off6_inb arg15 arg16 arg19 arg20 hw2 h1 h2) (k0_off7 arg19) (k0_off8 arg19) (k0_off7_inb arg15 arg16 arg19 hw3 h1 h2) (k0_off8_inb arg15 arg16 arg19 hw3 h1 h2)
            (k0_off9 arg15 arg16) (k0_off10 arg15 arg16) (k0_off9_inb arg15 arg16 hw1 h1 h2) (k0_off10_inb arg15 arg16 hw1 h1 h2) (k0_off11 arg19 arg20) (k0_off11_inb arg15 arg16 arg19 arg20 hw2 h1 h2) (k0_off12 arg19 arg20) (k0_off13 arg19 arg20) (k0_off12_inb arg15 arg16 arg19 arg20 hw2 h1 h2) (k0_off13_inb arg15 arg16 arg19 arg20 hw2 h1 h2)
            arg21 arg22 arg23 arg24 arg25 arg26 arg27 arg28
      else
        pairP arg5 arg6 arg7 arg10 arg11 harg11 arg12 arg13 v18 v19 true false arg15 arg16 arg18 (advQ arg15 arg16) (advT arg15 arg16) (advT arg17 arg18)
            (k0_off14 arg15) (k0_off15 arg16) (k0_off14_inb arg15 arg16 hw1 h1 h2) (k0_off15_inb arg15 arg16 hw1 h1 h2) (k0_off16 arg20) (k0_off16_inb arg15 arg16 arg19 arg20 hw2 h1 h2) (k0_off17 arg19) (k0_off18 arg19) (k0_off17_inb arg15 arg16 arg19 hw3 h1 h2) (k0_off18_inb arg15 arg16 arg19 hw3 h1 h2)
            (k0_off19 arg15 arg16) (k0_off20 arg15 arg16) (k0_off19_inb arg15 arg16 hw1 h1 h2) (k0_off20_inb arg15 arg16 hw1 h1 h2) (k0_off21 arg19 arg20) (k0_off21_inb arg15 arg16 arg19 arg20 hw2 h1 h2) (k0_off22 arg19 arg20) (k0_off23 arg19 arg20) (k0_off22_inb arg15 arg16 arg19 arg20 hw2 h1 h2) (k0_off23_inb arg15 arg16 arg19 arg20 hw2 h1 h2)
            arg21 arg22 arg23 arg24 arg25 arg26 arg27 arg28
    else
      pairP arg5 arg6 arg7 arg10 arg11 harg11 arg12 arg13 v18 v19 false false arg15 arg16 arg18 (advQ arg15 arg16) (advT arg15 arg16) (advT arg17 arg18)
            (k0_off24 arg15) (k0_off25 arg16) (k0_off24_inb arg15 arg16 hw1 h1) (k0_off25_inb arg15 arg16 hw1 h1) (k0_off26 arg20) (k0_off26_inb arg15 arg16 arg19 arg20 hw2 h1) (k0_off27 arg19) (k0_off28 arg19) (k0_off27_inb arg15 arg16 arg19 hw3 h1) (k0_off28_inb arg15 arg16 arg19 hw3 h1)
            (k0_off29 arg15 arg16) (k0_off30 arg15 arg16) (k0_off29_inb arg15 arg16 hw1 h1) (k0_off30_inb arg15 arg16 hw1 h1) (k0_off31 arg19 arg20) (k0_off31_inb arg15 arg16 arg19 arg20 hw2 h1) (k0_off32 arg19 arg20) (k0_off33 arg19 arg20) (k0_off32_inb arg15 arg16 arg19 arg20 hw2 h1) (k0_off33_inb arg15 arg16 arg19 arg20 hw2 h1)
            arg21 arg22 arg23 arg24 arg25 arg26 arg27 arg28
  pure ⟨hw2, r⟩

/-- The rows of a finished query tile. -/
def outOf (lam : F .f32) (a0 a1 : Vec F S1x1x144x512 .f32) (nw : Vec F S1x128 .f32) : FVec F S512x128 .f32 :=
  k0_pay2 (k0_pay246 lam a0 a1) (k0_pay247 lam a0 a1) nw

/-- A finished query tile into the result. -/
def finP (M8 : Memref sig .tc .vmem S1x128 .f32) (M9 : Memref sig .tc .vmem S16384x128 .f32) (M13 : Memref sig .tc .vmem S2x2x144x512 .f32) (lam : F .f32)
    (oa ob : Fin 4 → ℕ) (ha : ∀ a, oa a + S1x1x144x512.size a ≤ S2x2x144x512.size a) (hb : ∀ a, ob a + S1x1x144x512.size a ≤ S2x2x144x512.size a)
    (oo : Fin 2 → ℕ) (ho : ∀ a, oo a + S512x128.size a ≤ S16384x128.size a) : Pr F PUnit := do
  let a0 : Vec F S1x1x144x512 .f32 ← Prog.lift (.load M13 (Rect.unit (s := S2x2x144x512) oa S1x1x144x512.size ha).toLoadRect (View.loadsAt_vmem h_S1x1x144x512))
  let a1 : Vec F S1x1x144x512 .f32 ← Prog.lift (.load M13 (Rect.unit (s := S2x2x144x512) ob S1x1x144x512.size hb).toLoadRect (View.loadsAt_vmem h_S1x1x144x512))
  let nw : Vec F S1x128 .f32 ← Prog.lift (.load M8 (Rect.unit (s := S1x128) ![0, 0] S1x128.size inb_S1x128_S1x128_0_0).toLoadRect (View.loadsAt_vmem h_S1x128))
  let _ ← Prog.lift (.load M9 (Rect.unit (s := S16384x128) oo S512x128.size ho).toLoadRect (View.loadsAt_vmem h_S512x128))
  Prog.lift (.store M9 (Rect.unit (s := S16384x128) oo S512x128.size ho) (outOf lam a0 a1 nw) Finset.univ (View.stores_vmem_bits_univ h_S512x128 rfl) (.inl rfl))

/-- What a trip carries: the three positions in words, the maxima of the latest scores, the running maxima. -/
abbrev Carry (F : FTy → Type) := BitVec 32 × BitVec 32 × BitVec 32 × BitVec 32 × BitVec 32 × BitVec 32 × FVec F S1x256 .f32 × FVec F S1x256 .f32 ×
  FVec F S1x256 .f32 × FVec F S1x256 .f32 × FVec F S1x256 .f32 × FVec F S1x256 .f32 × FVec F S1x256 .f32 × FVec F S1x256 .f32

/-- One trip of the loop. -/
def tripP (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) (v17 : F .f32) (v18 : IVec S512x128 32) (v19 : FVec F S1x256 .f32) (arg15 arg16 arg17 arg18 arg19 arg20 : BitVec 32) (arg21 arg22 arg23 arg24 arg25 arg26 arg27 arg28 : FVec F S1x256 .f32) : Pr F (Carry F) := do
  let r ← switchP i arg1 harg1 arg2 harg2 arg3 harg3 arg4 harg4 arg5 harg5 arg6 harg6 arg7 harg7 arg8 harg8 arg9 harg9 arg10 harg10 arg11 harg11 arg12 harg12 arg13 harg13 v18 v19 arg15 arg16 arg17 arg18 arg19 arg20 arg21 arg22 arg23 arg24 arg25 arg26 arg27 arg28
  if h3 : k0_cond3 arg19 arg20 = 1#1 then
    finP arg8 arg9 arg13 v17 (k0_off34 arg19 arg20) (k0_off35 arg19 arg20) (k0_off34_inb arg15 arg16 arg19 arg20 r.1 h3) (k0_off35_inb arg15 arg16 arg19 arg20 r.1 h3)
      (k0_off36 arg19 arg20) (k0_off36_inb arg15 arg16 arg19 arg20 r.1 h3)
  else pure ⟨⟩
  pure (advQ (advQ arg15 arg16) (advT arg15 arg16), advT (advQ arg15 arg16) (advT arg15 arg16),
    advQ (advQ arg17 arg18) (advT arg17 arg18), advT (advQ arg17 arg18) (advT arg17 arg18),
    advQ (advQ arg19 arg20) (advT arg19 arg20), advT (advQ arg19 arg20) (advT arg19 arg20), r.2)

/-- Before the loop: the factor of the second map, the accumulators zeroed, the scores of the first two positions, the
    softmax of the first. -/
def startP (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) : Pr F (F .f32 × V4 F × V4 F) := do
  let l1 : Vec F S1x64 .f32 ← Prog.lift (.load arg1 (Rect.unit (s := S1x64) ![0, 0] S1x64.size inb_S1x64_S1x64_0_0).toLoadRect (View.loadsAt_vmem h_S1x64))
  let l2 : Vec F S1x64 .f32 ← Prog.lift (.load arg2 (Rect.unit (s := S1x64) ![0, 0] S1x64.size inb_S1x64_S1x64_0_0).toLoadRect (View.loadsAt_vmem h_S1x64))
  let l3 : Vec F S1x64 .f32 ← Prog.lift (.load arg3 (Rect.unit (s := S1x64) ![0, 0] S1x64.size inb_S1x64_S1x64_0_0).toLoadRect (View.loadsAt_vmem h_S1x64))
  let l4 : Vec F S1x64 .f32 ← Prog.lift (.load arg4 (Rect.unit (s := S1x64) ![0, 0] S1x64.size inb_S1x64_S1x64_0_0).toLoadRect (View.loadsAt_vmem h_S1x64))
  let _ ← Prog.lift (.load arg13 (Rect.unit (s := S2x2x144x512) ![0, 0, 0, 0] S2x2x144x512.size inb_S2x2x144x512_S2x2x144x512_0_0_0_0).toLoadRect (View.loadsAt_vmem h_S2x2x144x512))
  Prog.lift (.store arg13 (Rect.unit (s := S2x2x144x512) ![0, 0, 0, 0] S2x2x144x512.size inb_S2x2x144x512_S2x2x144x512_0_0_0_0) (k0_pay253 (F := F)) Finset.univ (View.stores_vmem_bits_univ h_S2x2x144x512 rfl) (.inl rfl))
  let y ← scoresP arg5 arg6 arg10 (iota .tc S512x128 32 [1] iota_S512x128_d1_w32) true 0 (by omega) 0#32 0#32 k0_off1 k0_off1 k0_off1_inb k0_off1_inb
  let z ← scoresP arg5 arg6 arg10 (iota .tc S512x128 32 [1] iota_S512x128_d1_w32) false 1 (by omega) (advQ 0#32 0#32) (advT 0#32 0#32) k0_off2 k0_off3 k0_off2_inb k0_off3_inb
  let n ← softP arg10 arg11 harg11 arg12 (k0_pay252 (F := F)) 0#32 0 (by omega) y.1 y.2.1 y.2.2.1 y.2.2.2 (k0_pay252 (F := F)) (k0_pay252 (F := F)) (k0_pay252 (F := F)) (k0_pay252 (F := F))
  pure (k0_pay251 l1 l2 l3 l4, z, n)

/-- The whole kernel: the prologue, then the trips. -/
def bodyP (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) : Pr F PUnit := do
  let r ← startP arg1 harg1 arg2 harg2 arg3 harg3 arg4 harg4 arg5 harg5 arg6 harg6 arg7 harg7 arg8 harg8 arg9 harg9 arg10 harg10 arg11 harg11 arg12 harg12 arg13 harg13
  let _ ← Scf.Loop.for k0_t1_loop k0_t1_ok (advQ (advQ 0#32 0#32) (advT 0#32 0#32), advT (advQ 0#32 0#32) (advT 0#32 0#32), advQ 0#32 0#32, advT 0#32 0#32, 0#32, 0#32,
      r.2.1.1, r.2.1.2.1, r.2.1.2.2.1, r.2.1.2.2.2, r.2.2.1, r.2.2.2.1, r.2.2.2.2.1, r.2.2.2.2.2)
    (k0_t1_body i arg1 harg1 arg2 harg2 arg3 harg3 arg4 harg4 arg5 harg5 arg6 harg6 arg7 harg7 arg8 harg8 arg9 harg9 arg10 harg10 arg11 harg11 arg12 harg12 arg13 harg13 r.1 (iota .tc S512x128 32 [1] iota_S512x128_d1_w32) (k0_pay252 (F := F)))
  pure ⟨⟩

end Cert.Proof.Attn

end
-- ==== Proof.Mem.lean ====
/-
  Loads and stores of boxes, on memrefs whose contents are named by what the memref reads.

  A whole memref that reads `X` is held at `h.unread X`. A load of a box gives the window of `X` there, and a store leaves
  the memref reading `X` with the payload put there. Then the pieces of `Ops`, each as one rule.
-/
module

public import proofs.«01_k».proof.Proof.Trip
public import Idealize.ShloMosaic.Lib.Exec
public import Idealize.ShloMosaic.Lib.VecWindow
public import Idealize.ShloMosaic.Lib.Tactic

@[expose] public section

set_option maxRecDepth 65536

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole memref `M`, reading `X`. -/
def has (c : Dev nD) {s : Shape} {e : EltTy} (M : Memref sig .tc .vmem s e) (h : M.IsWhole) (X : s.Idx → Elt F e) : sProp 𝕄 :=
  M.view.loc (c : Thread nD τ) ↦{fullShare} (h.unread X)

/-- The weakest precondition of a program run by device `c`'s TensorCore. -/
abbrev WP (c : Dev nD) {α : Type} (p : Pr F α) (Q : α → sProp 𝕄) : sProp 𝕄 :=
  wp frame (wpE (defs₀ (F := F)) Variants.none (c : Thread nD τ) none) Set.univ p Q

/-- A load of a box. -/
theorem wp_ld (c : Dev nD) {s : Shape} {e : EltTy} (M : Memref sig .tc .vmem s e) (h : M.IsWhole) (X : s.Idx → Elt F e)
    (off size : Fin s.rank → ℕ) (inb : ∀ a, off a + size a ≤ s.size a) (hl : M.view.LoadsAt (Rect.unit off size inb).toLoadRect)
    (Q : ((Rect.unit off size inb).toLoadRect.shape.Idx → Elt F e) → sProp 𝕄) :
    has c M h X ⊢ iprop((has c M h X -∗ Q (VecWindow.window X off size inb)) -∗ WP c (Prog.lift (.load M (Rect.unit off size inb).toLoadRect hl)) Q) := by
  have e1 : VecWindow.window X off size inb = (M.access (Rect.unit off size inb)).read (Elt F) (h.unread X) := by
    have := View.readAt_unit (Val := Elt F) M.view (h.unread X) inb rfl inb
    rw [h.read_unread] at this
    exact this.symm
  rw [e1]
  unfold has
  iintro H Hk
  iapply (wp_load_rect (defs := defs₀ (F := F)) Variants.none (c : Thread nD τ) none Set.univ (Q := Q) (q := fullShare) (f := h.unread X) (hl := hl) (k := fun x => .ret x) (Finset.subset_univ _)) $$ H
  iintro H
  iapply (le_wp_ret (Fr := frame) (wpE := wpE (defs₀ (F := F)) Variants.none (c : Thread nD τ) none) (E := Set.univ) _ Q)
  iapply Hk
  iexact H

/-- A store of a box. -/
theorem wp_st (c : Dev nD) {s : Shape} {e : EltTy} (M : Memref sig .tc .vmem s e) (h : M.IsWhole) (X : s.Idx → Elt F e)
    (off size : Fin s.rank → ℕ) (inb : ∀ a, off a + size a ≤ s.size a) (w : (Rect.unit off size inb).shape.Idx → Elt F e)
    (hx : (M.access (Rect.unit off size inb)).Stores Finset.univ) (hm) (Q : PUnit → sProp 𝕄) :
    has c M h X ⊢ iprop((has c M h (VecWindow.put X off size w) -∗ Q ⟨⟩) -∗ WP c (Prog.lift (.store M (Rect.unit off size inb) w Finset.univ hx hm)) Q) := by
  have e1 : h.unread (VecWindow.put X off size w) = (M.access (Rect.unit off size inb)).write (Elt F) (h.unread X) w Finset.univ := by
    symm; apply h.eq_unread
    have := View.read_writes_cons_put (Val := Elt F) M.view (h.unread X) inb w [] rfl
    rw [View.writes_nil, h.read_unread] at this
    exact this
  unfold has
  rw [e1]
  iintro H Hk
  iapply (wp_store (defs := defs₀ (F := F)) Variants.none (c : Thread nD τ) none Set.univ (Q := Q) (f := h.unread X) (hx := hx) (hm := hm) (w := w) (k := fun x => .ret x) (Finset.subset_univ _)) $$ H
  iintro H
  iapply (le_wp_ret (Fr := frame) (wpE := wpE (defs₀ (F := F)) Variants.none (c : Thread nD τ) none) (E := Set.univ) _ Q)
  iapply Hk
  iexact H

/-- Sequencing. -/
theorem wp_seq (c : Dev nD) {α β : Type} (p : Pr F α) (k : α → Pr F β) (Q : β → sProp 𝕄) :
    WP c (p >>= k) Q = WP c p (fun a => WP c (k a) Q) := wp_bind _ _ _ _ _ _

theorem wp_pure' (c : Dev nD) {α : Type} (a : α) (Q : α → sProp 𝕄) : Q a ⊢ WP c (pure a) Q :=
  le_wp_ret (Fr := frame) (wpE := wpE (defs₀ (F := F)) Variants.none (c : Thread nD τ) none) (E := Set.univ) a Q

/-! ## What the pieces leave -/

/-- Four tiles put into slot `s`. -/
def put4 {e : EltTy} (X : S2x2x512x512.Idx → Elt F e) (s : ℕ) (w : ℕ → S1x1x512x256.Idx → Elt F e) : S2x2x512x512.Idx → Elt F e :=
  VecWindow.put (VecWindow.put (VecWindow.put (VecWindow.put X (bo s 0 0) S1x1x512x256.size (w 0)) (bo s 0 256) S1x1x512x256.size (w 1))
    (bo s 1 0) S1x1x512x256.size (w 2)) (bo s 1 256) S1x1x512x256.size (w 3)

/-- The four tiles of scores of a tile of queries and a tile of keys. -/
def scTile (lane : IVec S512x128 32) (b : Bool) (qw kw : BitVec 32) (q k : Vec F S512x128 .bf16) : ℕ → FVec F S512x256 .f32
  | 0 => masked b qw kw 0#32 (dotA k (qLo lane q))
  | 1 => masked b qw kw 256#32 (dotB k (qLo lane q))
  | 2 => masked b qw kw 0#32 (dotA k (qHi lane q))
  | _ => masked b qw kw 256#32 (dotB k (qHi lane q))

section
variable (c : Dev nD)
  (M5 M6 : Memref sig .tc .vmem S16384x128 .bf16) (h5 : M5.IsWhole) (h6 : M6.IsWhole)
  (M7 : Memref sig .tc .vmem S1x144x16384 .bf16) (h7 : M7.IsWhole)
  (M10 : Memref sig .tc .vmem S2x2x512x512 .f32) (h10 : M10.IsWhole) (M11 : Memref sig .tc .vmem S2x2x512x512 .bf16) (h11 : M11.IsWhole)
  (M12 : Memref sig .tc .vmem S2x2x1x512 .f32) (h12 : M12.IsWhole) (M13 : Memref sig .tc .vmem S2x2x144x512 .f32) (h13 : M13.IsWhole)
  (X5 X6 : Vec F S16384x128 .bf16) (X7 : Vec F S1x144x16384 .bf16)
  (X10 : Vec F S2x2x512x512 .f32) (X11 : Vec F S2x2x512x512 .bf16) (X12 : Vec F S2x2x1x512 .f32) (X13 : Vec F S2x2x144x512 .f32)

theorem wp_putScore (s k n : ℕ) (hs : s < 2) (hk : k < 2) (hn : n ≤ 256) (w : FVec F S1x1x512x256 .f32) (Q : PUnit → sProp 𝕄) :
    has c M10 h10 X10 ⊢ iprop((has c M10 h10 (VecWindow.put X10 (bo s k n) S1x1x512x256.size w) -∗ Q ⟨⟩) -∗ WP c (putScore M10 s k n hs hk hn w) Q) := by
  unfold putScore
  rw [wp_seq]
  iintro H Hk
  iapply (wp_ld c M10 h10 X10 _ _ _ _ _) $$ H
  iintro H
  iapply (wp_st c M10 h10 X10 _ _ _ _ _ _ _) $$ H
  iexact Hk

theorem wp_scores (lane : IVec S512x128 32) (b : Bool) (s : ℕ) (hs : s < 2) (qw kw : BitVec 32) (oq ok : Fin 2 → ℕ)
    (hq : ∀ a, oq a + S512x128.size a ≤ S16384x128.size a) (hk : ∀ a, ok a + S512x128.size a ≤ S16384x128.size a) (Q : V4 F → sProp 𝕄)
    (T : ℕ → FVec F S512x256 .f32) (hT : T = scTile lane b qw kw (VecWindow.window X5 oq S512x128.size hq) (VecWindow.window X6 ok S512x128.size hk)) :
    has c M5 h5 X5 ⊢ iprop(has c M6 h6 X6 -∗ has c M10 h10 X10 -∗
      (has c M5 h5 X5 -∗ has c M6 h6 X6 -∗ has c M10 h10 (put4 X10 s fun j => up (T j)) -∗ Q (colMax (T 0), colMax (T 1), colMax (T 2), colMax (T 3))) -∗
      WP c (scoresP M5 M6 M10 lane b s hs qw kw oq ok hq hk) Q) := by
  subst hT
  unfold scoresP
  simp only [wp_seq, put4, scTile]
  iintro H5 H6 H10 Hk
  iapply (wp_ld c M5 h5 X5 _ _ _ _ _) $$ H5
  iintro H5
  iapply (wp_ld c M6 h6 X6 _ _ _ _ _) $$ H6
  iintro H6
  iapply (wp_putScore c M10 h10 _ _ _ _ _ _ _ _ _) $$ H10
  iintro H10
  iapply (wp_putScore c M10 h10 _ _ _ _ _ _ _ _ _) $$ H10
  iintro H10
  iapply (wp_putScore c M10 h10 _ _ _ _ _ _ _ _ _) $$ H10
  iintro H10
  iapply (wp_putScore c M10 h10 _ _ _ _ _ _ _ _ _) $$ H10
  iintro H10
  iapply (wp_pure' c _ _)
  iapply Hk $$ H5 H6 H10

theorem wp_soft1 (ninf : FVec F S1x256 .f32) (t : BitVec 32) (s k n : ℕ) (hs : s < 2) (hk : k < 2)
    (hn : n = 0 ∨ n = 256) (mx m : FVec F S1x256 .f32) (Q : PUnit → sProp 𝕄) :
    has c M10 h10 X10 ⊢ iprop(has c M11 h11 X11 -∗ has c M12 h12 X12 -∗
      (has c M10 h10 X10 -∗
        has c M11 h11 (VecWindow.put X11 (bo s k n) S1x1x512x256.size (probOf (mNew ninf t mx m) (VecWindow.window X10 (bo s k n) S1x1x512x256.size (inb_s hs hk (by omega))))) -∗
        has c M12 h12 (VecWindow.put X12 (bo s k n) S1x1x1x256.size (alphaOf ninf t mx m)) -∗ Q ⟨⟩) -∗
      WP c (soft1 M10 M11 h11 M12 ninf t s k n hs hk hn mx m) Q) := by
  unfold soft1
  simp only [wp_seq]
  iintro H10 H11 H12 Hk
  iapply (wp_ld c M12 h12 _ _ _ _ _ _) $$ H12
  iintro H12
  iapply (wp_st c M12 h12 _ _ _ _ _ _ _ _) $$ H12
  iintro H12
  iapply (wp_ld c M10 h10 _ _ _ _ _ _) $$ H10
  iintro H10
  iapply (wp_ld c M11 h11 _ _ _ _ _ _) $$ H11
  iintro H11
  iapply (wp_st c M11 h11 _ _ _ _ _ _ _ _) $$ H11
  iintro H11
  iapply Hk $$ H10 H11 H12

/-- The four windows of slot `s`. -/
def win4 (X : Vec F S2x2x512x512 .f32) (s : ℕ) (hs : s < 2) : ℕ → Vec F S1x1x512x256 .f32
  | 0 => VecWindow.window X (bo s 0 0) S1x1x512x256.size (inb_s hs (by omega) (by omega))
  | 1 => VecWindow.window X (bo s 0 256) S1x1x512x256.size (inb_s hs (by omega) (by omega))
  | 2 => VecWindow.window X (bo s 1 0) S1x1x512x256.size (inb_s hs (by omega) (by omega))
  | _ => VecWindow.window X (bo s 1 256) S1x1x512x256.size (inb_s hs (by omega) (by omega))

/-- Four rows of factors put into slot `s`. -/
def putA (X : Vec F S2x2x1x512 .f32) (s : ℕ) (w : ℕ → Vec F S1x1x1x256 .f32) : Vec F S2x2x1x512 .f32 :=
  VecWindow.put (VecWindow.put (VecWindow.put (VecWindow.put X (bo s 0 0) S1x1x1x256.size (w 0)) (bo s 0 256) S1x1x1x256.size (w 1))
    (bo s 1 0) S1x1x1x256.size (w 2)) (bo s 1 256) S1x1x1x256.size (w 3)

/-- A pick out of four. -/
def pick (x : V4 F) : ℕ → FVec F S1x256 .f32
  | 0 => x.1 | 1 => x.2.1 | 2 => x.2.2.1 | _ => x.2.2.2

/-- The four running maxima after a tile. -/
def mNew4 (ninf : FVec F S1x256 .f32) (t : BitVec 32) (x m : V4 F) : V4 F :=
  (mNew ninf t x.1 m.1, mNew ninf t x.2.1 m.2.1, mNew ninf t x.2.2.1 m.2.2.1, mNew ninf t x.2.2.2 m.2.2.2)

/-- The weights' scratch after a softmax step on slot `s`, -/
def softX11 (ninf : FVec F S1x256 .f32) (t : BitVec 32) (s : ℕ) (hs : s < 2) (x m : V4 F) (X10 : Vec F S2x2x512x512 .f32) (X11 : Vec F S2x2x512x512 .bf16) : Vec F S2x2x512x512 .bf16 :=
  put4 X11 s fun j => probOf (pick (mNew4 ninf t x m) j) (win4 X10 s hs j)
/-- and the factors'. -/
def softX12 (ninf : FVec F S1x256 .f32) (t : BitVec 32) (s : ℕ) (x m : V4 F) (X12 : Vec F S2x2x1x512 .f32) : Vec F S2x2x1x512 .f32 :=
  putA X12 s fun j => alphaOf ninf t (pick x j) (pick m j)

theorem wp_soft (ninf : FVec F S1x256 .f32) (t : BitVec 32) (s : ℕ) (hs : s < 2) (x m : V4 F) (Q : V4 F → sProp 𝕄) :
    has c M10 h10 X10 ⊢ iprop(has c M11 h11 X11 -∗ has c M12 h12 X12 -∗
      (has c M10 h10 X10 -∗ has c M11 h11 (softX11 ninf t s hs x m X10 X11) -∗ has c M12 h12 (softX12 ninf t s x m X12) -∗ Q (mNew4 ninf t x m)) -∗
      WP c (softP M10 M11 h11 M12 ninf t s hs x.1 x.2.1 x.2.2.1 x.2.2.2 m.1 m.2.1 m.2.2.1 m.2.2.2) Q) := by
  unfold softP
  simp only [wp_seq, softX11, softX12, put4, putA, mNew4, win4, pick]
  iintro H10 H11 H12 Hk
  iapply (wp_soft1 c M10 h10 M11 h11 M12 h12 _ _ _ _ _ _ _ _ _ _ _ _ _ _) $$ H10 H11 H12
  iintro H10 H11 H12
  iapply (wp_soft1 c M10 h10 M11 h11 M12 h12 _ _ _ _ _ _ _ _ _ _ _ _ _ _) $$ H10 H11 H12
  iintro H10 H11 H12
  iapply (wp_soft1 c M10 h10 M11 h11 M12 h12 _ _ _ _ _ _ _ _ _ _ _ _ _ _) $$ H10 H11 H12
  iintro H10 H11 H12
  iapply (wp_soft1 c M10 h10 M11 h11 M12 h12 _ _ _ _ _ _ _ _ _ _ _ _ _ _) $$ H10 H11 H12
  iintro H10 H11 H12
  iapply (wp_pure' c _ _)
  iapply Hk $$ H10 H11 H12

/-- One map's accumulator after a product with the values on slot `s`. -/
def accX (s k : ℕ) (hs : s < 2) (hk : k < 2) (v : Vec F S1x144x512 .bf16) (oa : Fin 4 → ℕ) (ha : ∀ a, oa a + S1x1x144x512.size a ≤ S2x2x144x512.size a)
    (X11 : Vec F S2x2x512x512 .bf16) (X12 : Vec F S2x2x1x512 .f32) (X13 : Vec F S2x2x144x512 .f32) : Vec F S2x2x144x512 .f32 :=
  VecWindow.put X13 oa S1x1x144x512.size (accOf v (VecWindow.window X11 (bo s k 0) S1x1x512x512.size (inb_p hs hk))
    (VecWindow.window X12 (bo s k 0) S1x1x1x512.size (inb_al hs hk)) (VecWindow.window X13 oa S1x1x144x512.size ha))

theorem wp_acc1 (s k : ℕ) (hs : s < 2) (hk : k < 2) (v : Vec F S1x144x512 .bf16) (oa : Fin 4 → ℕ) (ha : ∀ a, oa a + S1x1x144x512.size a ≤ S2x2x144x512.size a) (Q : PUnit → sProp 𝕄) :
    has c M11 h11 X11 ⊢ iprop(has c M12 h12 X12 -∗ has c M13 h13 X13 -∗
      (has c M11 h11 X11 -∗ has c M12 h12 X12 -∗ has c M13 h13 (accX s k hs hk v oa ha X11 X12 X13) -∗ Q ⟨⟩) -∗
      WP c (acc1 M11 M12 M13 s k hs hk v oa ha) Q) := by
  unfold acc1 accX
  simp only [wp_seq]
  iintro H11 H12 H13 Hk
  iapply (wp_ld c M11 h11 _ _ _ _ _ _) $$ H11
  iintro H11
  iapply (wp_ld c M12 h12 _ _ _ _ _ _) $$ H12
  iintro H12
  iapply (wp_ld c M13 h13 _ _ _ _ _ _) $$ H13
  iintro H13
  iapply (wp_ld c M13 h13 _ _ _ _ _ _) $$ H13
  iintro H13
  iapply (wp_st c M13 h13 _ _ _ _ _ _ _ _) $$ H13
  iintro H13
  iapply Hk $$ H11 H12 H13

/-- Both maps' accumulators after a product with the values on slot `s`. -/
def pvX (s : ℕ) (hs : s < 2) (ov : Fin 3 → ℕ) (hv : ∀ a, ov a + S1x144x512.size a ≤ S1x144x16384.size a)
    (oa ob : Fin 4 → ℕ) (ha : ∀ a, oa a + S1x1x144x512.size a ≤ S2x2x144x512.size a) (hb : ∀ a, ob a + S1x1x144x512.size a ≤ S2x2x144x512.size a)
    (X7 : Vec F S1x144x16384 .bf16) (X11 : Vec F S2x2x512x512 .bf16) (X12 : Vec F S2x2x1x512 .f32) (X13 : Vec F S2x2x144x512 .f32) : Vec F S2x2x144x512 .f32 :=
  accX s 1 hs (by omega) (VecWindow.window X7 ov S1x144x512.size hv) ob hb X11 X12
    (accX s 0 hs (by omega) (VecWindow.window X7 ov S1x144x512.size hv) oa ha X11 X12 X13)

theorem wp_pv (s : ℕ) (hs : s < 2) (ov : Fin 3 → ℕ) (hv : ∀ a, ov a + S1x144x512.size a ≤ S1x144x16384.size a)
    (oa ob : Fin 4 → ℕ) (ha : ∀ a, oa a + S1x1x144x512.size a ≤ S2x2x144x512.size a) (hb : ∀ a, ob a + S1x1x144x512.size a ≤ S2x2x144x512.size a) (Q : PUnit → sProp 𝕄) :
    has c M7 h7 X7 ⊢ iprop(has c M11 h11 X11 -∗ has c M12 h12 X12 -∗ has c M13 h13 X13 -∗
      (has c M7 h7 X7 -∗ has c M11 h11 X11 -∗ has c M12 h12 X12 -∗ has c M13 h13 (pvX s hs ov hv oa ob ha hb X7 X11 X12 X13) -∗ Q ⟨⟩) -∗
      WP c (pvP M7 M11 M12 M13 s hs ov hv oa ob ha hb) Q) := by
  unfold pvP pvX
  simp only [wp_seq]
  iintro H7 H11 H12 H13 Hk
  iapply (wp_ld c M7 h7 _ _ _ _ _ _) $$ H7
  iintro H7
  iapply (wp_acc1 c M11 h11 M12 h12 M13 h13 _ _ _ _ _ _ _ _ _ _ _) $$ H11 H12 H13
  iintro H11 H12 H13
  iapply (wp_acc1 c M11 h11 M12 h12 M13 h13 _ _ _ _ _ _ _ _ _ _ _) $$ H11 H12 H13
  iintro H11 H12 H13
  iapply Hk $$ H7 H11 H12 H13

end

end Cert.Proof.Attn

end
-- ==== Proof.Positions.lean ====
/-
  The positions of the walk over the causal tiles: a query tile and a key tile, each of 32, and the next position. The
  kernel computes them in words; here are the words' values, the offsets they give, and that every check of an offset
  holds.
-/
module

public import proofs.«01_k».proof.Proof.Trip

@[expose] public section

set_option maxRecDepth 65536

noncomputable section

namespace Cert.Proof.Attn

open Cert.KernelIdeal Cert.KernelIdeal.Gen
open Idealize.ShloMosaic

/-- A position: the query tile and the key tile. -/
abbrev Pos := Fin 32 × Fin 32

/-- The next position: along the row of the causal triangle, then down; the last one is its own next. -/
abbrev nxt (p : Pos) : Pos := if p.2 = p.1 then (if p.1 = 31 then (31, 31) else (p.1 + 1, 0)) else (p.1, p.2 + 1)

/-- A tile's number as a word. -/
abbrev wd (x : Fin 32) : BitVec 32 := BitVec.ofNat 32 x.val

/-- The rows of a tile, -/
abbrev rowO (q : Fin 32) : Fin 2 → ℕ := ![512 * q.val, 0]
/-- its columns, -/
abbrev colO (t : Fin 32) : Fin 3 → ℕ := ![0, 0, 512 * t.val]
/-- and the accumulator of one map. -/
abbrev slotO (q : Fin 32) (k : ℕ) : Fin 4 → ℕ := ![q.val % 2, k, 0, 0]

theorem rowO_inb (q : Fin 32) : ∀ a, rowO q a + S512x128.size a ≤ S16384x128.size a := by revert q; decide +kernel
theorem colO_inb (t : Fin 32) : ∀ a, colO t a + S1x144x512.size a ≤ S1x144x16384.size a := by revert t; decide +kernel
theorem slotO0_inb (q : Fin 32) : ∀ a, slotO q 0 a + S1x1x144x512.size a ≤ S2x2x144x512.size a := by revert q; decide +kernel
theorem slotO1_inb (q : Fin 32) : ∀ a, slotO q 1 a + S1x1x144x512.size a ≤ S2x2x144x512.size a := by revert q; decide +kernel

theorem nxt_le (p : Pos) : p.2 ≤ p.1 → (nxt p).2 ≤ (nxt p).1 := by revert p; decide +kernel

theorem advQ_wd (p : Pos) : p.2 ≤ p.1 → advQ (wd p.1) (wd p.2) = wd (nxt p).1 := by revert p; decide +kernel
theorem advT_wd (p : Pos) : p.2 ≤ p.1 → advT (wd p.1) (wd p.2) = wd (nxt p).2 := by revert p; decide +kernel

/-- The switch's condition: whether one of the two positions lies on the diagonal, -/
theorem cond1_iff (p : Pos) : p.2 ≤ p.1 → (k0_cond1 (wd p.1) (wd p.2) = 1#1 ↔ p.1 = p.2 ∨ (nxt p).1 = (nxt p).2) := by revert p; decide +kernel
/-- then which of them, -/
theorem cond2_iff (p : Pos) : p.2 ≤ p.1 → (p.1 = p.2 ∨ (nxt p).1 = (nxt p).2) → (k0_cond2 (wd p.1) (wd p.2) = 1#1 ↔ (nxt p).1 = (nxt p).2) := by revert p; decide +kernel
/-- and whether a row of tiles ends. -/
theorem cond3_iff (p : Pos) : p.2 ≤ p.1 → (k0_cond3 (wd p.1) (wd p.2) = 1#1 ↔ p.1 = p.2 ∨ (nxt p).1 = (nxt p).2) := by revert p; decide +kernel

theorem off4_eq (q : Fin 32) : k0_off4 (wd q) = rowO q := by revert q; decide +kernel
theorem off5_eq (q : Fin 32) : k0_off5 (wd q) = rowO q := by revert q; decide +kernel
theorem off6_eq (q : Fin 32) : k0_off6 (wd q) = colO q := by revert q; decide +kernel
theorem off7_eq (q : Fin 32) : k0_off7 (wd q) = slotO q 0 := by revert q; decide +kernel
theorem off8_eq (q : Fin 32) : k0_off8 (wd q) = slotO q 1 := by revert q; decide +kernel
theorem off9_eq (p : Pos) : p.2 ≤ p.1 → k0_off9 (wd p.1) (wd p.2) = rowO (nxt p).1 := by revert p; decide +kernel
theorem off10_eq (p : Pos) : p.2 ≤ p.1 → k0_off10 (wd p.1) (wd p.2) = rowO (nxt p).2 := by revert p; decide +kernel
theorem off11_eq (p : Pos) : p.2 ≤ p.1 → k0_off11 (wd p.1) (wd p.2) = colO (nxt p).2 := by revert p; decide +kernel
theorem off12_eq (p : Pos) : p.2 ≤ p.1 → k0_off12 (wd p.1) (wd p.2) = slotO (nxt p).1 0 := by revert p; decide +kernel
theorem off13_eq (p : Pos) : p.2 ≤ p.1 → k0_off13 (wd p.1) (wd p.2) = slotO (nxt p).1 1 := by revert p; decide +kernel

/-- The row of tiles that ends. -/
abbrev fin (p : Pos) : Fin 32 := if p.1 = p.2 then p.1 else (nxt p).1

theorem off34_eq (p : Pos) : p.2 ≤ p.1 → k0_off34 (wd p.1) (wd p.2) = slotO (fin p) 0 := by revert p; decide +kernel
theorem off35_eq (p : Pos) : p.2 ≤ p.1 → k0_off35 (wd p.1) (wd p.2) = slotO (fin p) 1 := by revert p; decide +kernel
theorem off36_eq (p : Pos) : p.2 ≤ p.1 → k0_off36 (wd p.1) (wd p.2) = rowO (fin p) := by revert p; decide +kernel

/-! The other two branches read the same offsets. -/

theorem off14_eq (q : Fin 32) : k0_off14 (wd q) = rowO q := off4_eq q
theorem off15_eq (q : Fin 32) : k0_off15 (wd q) = rowO q := off5_eq q
theorem off16_eq (q : Fin 32) : k0_off16 (wd q) = colO q := off6_eq q
theorem off17_eq (q : Fin 32) : k0_off17 (wd q) = slotO q 0 := off7_eq q
theorem off18_eq (q : Fin 32) : k0_off18 (wd q) = slotO q 1 := off8_eq q
theorem off19_eq (p : Pos) (h : p.2 ≤ p.1) : k0_off19 (wd p.1) (wd p.2) = rowO (nxt p).1 := off9_eq p h
theorem off20_eq (p : Pos) (h : p.2 ≤ p.1) : k0_off20 (wd p.1) (wd p.2) = rowO (nxt p).2 := off10_eq p h
theorem off21_eq (p : Pos) (h : p.2 ≤ p.1) : k0_off21 (wd p.1) (wd p.2) = colO (nxt p).2 := off11_eq p h
theorem off22_eq (p : Pos) (h : p.2 ≤ p.1) : k0_off22 (wd p.1) (wd p.2) = slotO (nxt p).1 0 := off12_eq p h
theorem off23_eq (p : Pos) (h : p.2 ≤ p.1) : k0_off23 (wd p.1) (wd p.2) = slotO (nxt p).1 1 := off13_eq p h
theorem off24_eq (q : Fin 32) : k0_off24 (wd q) = rowO q := off4_eq q
theorem off25_eq (q : Fin 32) : k0_off25 (wd q) = rowO q := off5_eq q
theorem off26_eq (q : Fin 32) : k0_off26 (wd q) = colO q := off6_eq q
theorem off27_eq (q : Fin 32) : k0_off27 (wd q) = slotO q 0 := off7_eq q
theorem off28_eq (q : Fin 32) : k0_off28 (wd q) = slotO q 1 := off8_eq q
theorem off29_eq (p : Pos) (h : p.2 ≤ p.1) : k0_off29 (wd p.1) (wd p.2) = rowO (nxt p).1 := off9_eq p h
theorem off30_eq (p : Pos) (h : p.2 ≤ p.1) : k0_off30 (wd p.1) (wd p.2) = rowO (nxt p).2 := off10_eq p h
theorem off31_eq (p : Pos) (h : p.2 ≤ p.1) : k0_off31 (wd p.1) (wd p.2) = colO (nxt p).2 := off11_eq p h
theorem off32_eq (p : Pos) (h : p.2 ≤ p.1) : k0_off32 (wd p.1) (wd p.2) = slotO (nxt p).1 0 := off12_eq p h
theorem off33_eq (p : Pos) (h : p.2 ≤ p.1) : k0_off33 (wd p.1) (wd p.2) = slotO (nxt p).1 1 := off13_eq p h

theorem mult5_dvd (q : Fin 32) : 512 ∣ (k0_mult5 (wd q)).toNat := by revert q; decide +kernel
theorem mult8_dvd (p : Pos) : p.2 ≤ p.1 → 512 ∣ (k0_mult8 (wd p.1) (wd p.2)).toNat := by revert p; decide +kernel
theorem mult9_dvd (p : Pos) : p.2 ≤ p.1 → 512 ∣ (k0_mult9 (wd p.1) (wd p.2)).toNat := by revert p; decide +kernel
theorem mult23_dvd (p : Pos) : p.2 ≤ p.1 → 512 ∣ (k0_mult23 (wd p.1) (wd p.2)).toNat := by revert p; decide +kernel

theorem row_ok {o : Fin 2 → ℕ} {q : Fin 32} (h : o = rowO q) : ∀ a, o a + S512x128.size a ≤ S16384x128.size a := h ▸ rowO_inb q
theorem col_ok {o : Fin 3 → ℕ} {q : Fin 32} (h : o = colO q) : ∀ a, o a + S1x144x512.size a ≤ S1x144x16384.size a := h ▸ colO_inb q
theorem slot0_ok {o : Fin 4 → ℕ} {q : Fin 32} (h : o = slotO q 0) : ∀ a, o a + S1x1x144x512.size a ≤ S2x2x144x512.size a := h ▸ slotO0_inb q
theorem slot1_ok {o : Fin 4 → ℕ} {q : Fin 32} (h : o = slotO q 1) : ∀ a, o a + S1x1x144x512.size a ≤ S2x2x144x512.size a := h ▸ slotO1_inb q

theorem chk3_ok (p : Pos) (q : Fin 32) : k0_chk3 (wd p.1) (wd p.2) (wd q) :=
  ⟨fun _ _ => slot0_ok (off7_eq q), fun _ _ => slot1_ok (off8_eq q), fun _ _ => slot0_ok (off7_eq q), fun _ _ => slot1_ok (off8_eq q),
    fun _ => slot0_ok (off7_eq q), fun _ => slot1_ok (off8_eq q)⟩

theorem chk1_ok (p : Pos) (hp : p.2 ≤ p.1) : k0_chk1 (wd p.1) (wd p.2) :=
  ⟨fun _ _ => mult5_dvd _, fun _ _ => row_ok (off4_eq _), fun _ _ => mult5_dvd _, fun _ _ => row_ok (off5_eq _),
    fun _ _ => mult8_dvd p hp, fun _ _ => row_ok (off9_eq p hp), fun _ _ => mult9_dvd p hp, fun _ _ => row_ok (off10_eq p hp),
    fun _ _ => mult5_dvd _, fun _ _ => row_ok (off4_eq _), fun _ _ => mult5_dvd _, fun _ _ => row_ok (off5_eq _),
    fun _ _ => mult8_dvd p hp, fun _ _ => row_ok (off9_eq p hp), fun _ _ => mult9_dvd p hp, fun _ _ => row_ok (off10_eq p hp),
    fun _ => mult5_dvd _, fun _ => row_ok (off4_eq _), fun _ => mult5_dvd _, fun _ => row_ok (off5_eq _),
    fun _ => mult8_dvd p hp, fun _ => row_ok (off9_eq p hp), fun _ => mult9_dvd p hp, fun _ => row_ok (off10_eq p hp)⟩

theorem chk2_ok (p r : Pos) (hr : r.2 ≤ r.1) : k0_chk2 (wd p.1) (wd p.2) (wd r.1) (wd r.2) :=
  ⟨fun _ _ => mult5_dvd _, fun _ _ => col_ok (off6_eq _), fun _ _ => mult9_dvd r hr, fun _ _ => col_ok (off11_eq r hr),
    fun _ _ => slot0_ok (off12_eq r hr), fun _ _ => slot1_ok (off13_eq r hr),
    fun _ _ => mult5_dvd _, fun _ _ => col_ok (off6_eq _), fun _ _ => mult9_dvd r hr, fun _ _ => col_ok (off11_eq r hr),
    fun _ _ => slot0_ok (off12_eq r hr), fun _ _ => slot1_ok (off13_eq r hr),
    fun _ => mult5_dvd _, fun _ => col_ok (off6_eq _), fun _ => mult9_dvd r hr, fun _ => col_ok (off11_eq r hr),
    fun _ => slot0_ok (off12_eq r hr), fun _ => slot1_ok (off13_eq r hr),
    fun _ => slot0_ok (off34_eq r hr), fun _ => slot1_ok (off35_eq r hr), fun _ => mult23_dvd r hr, fun _ => row_ok (off36_eq r hr)⟩

end Cert.Proof.Attn

end
-- ==== Proof.Step.lean ====
/-
  The walk's state, and one trip as a function of it.

  A trip reads the scores of two positions into the two slots of the scores' scratch, runs the softmax step of the
  positions before, and adds to the accumulators the values of the positions before those. `trip` says what it leaves;
  `wp_trip` that the loop's body leaves it.
-/
module

public import proofs.«01_k».proof.Proof.Mem
public import proofs.«01_k».proof.Proof.Positions

@[expose] public section

set_option maxRecDepth 65536

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What changes from trip to trip: the three positions, the maxima of the latest scores and the running ones, the four
    scratches and the result. -/
structure St (F : FTy → Type) where
  a : Pos
  b : Pos
  c : Pos
  x : V4 F
  m : V4 F
  X9 : Vec F S16384x128 .f32
  X10 : Vec F S2x2x512x512 .f32
  X11 : Vec F S2x2x512x512 .bf16
  X12 : Vec F S2x2x1x512 .f32
  X13 : Vec F S2x2x144x512 .f32

/-- The tile of rows `q` of the queries or the keys. -/
def tileOf (X : Vec F S16384x128 .bf16) (q : Fin 32) : Vec F S512x128 .bf16 := VecWindow.window X (rowO q) S512x128.size (rowO_inb q)

/-- The scores of a position, masked where the flag is set. -/
def scoresOf (lane : IVec S512x128 32) (d : Bool) (X5 X6 : Vec F S16384x128 .bf16) (p : Pos) : ℕ → FVec F S512x256 .f32 :=
  scTile lane d (wd p.1) (wd p.2) (tileOf X5 p.1) (tileOf X6 p.2)

/-- The four tiles' maxima. -/
def max4 (T : ℕ → FVec F S512x256 .f32) : V4 F := (colMax (T 0), colMax (T 1), colMax (T 2), colMax (T 3))

/-- Whether the first position of a trip is masked, and the second. -/
def flag0 (p : Pos) : Bool := decide (p.1 = p.2) && !decide ((nxt p).1 = (nxt p).2)
def flag1 (p : Pos) : Bool := decide ((nxt p).1 = (nxt p).2)

/-- Half a trip: the scores of position `p` into slot `s`, the softmax step of key tile `t` on slot `s'`, the values of
    position `r` into the accumulators by slot `s`. -/
def half (lane : IVec S512x128 32) (ninf : FVec F S1x256 .f32) (X5 X6 : Vec F S16384x128 .bf16) (X7 : Vec F S1x144x16384 .bf16)
    (s s' : ℕ) (hs : s < 2) (hs' : s' < 2) (d : Bool) (p : Pos) (t : Fin 32) (r : Pos) (σ : St F) : St F :=
  let T := scoresOf lane d X5 X6 p
  let X10 := put4 σ.X10 s fun j => up (T j)
  let X11 := softX11 ninf (wd t) s' hs' σ.x σ.m X10 σ.X11
  let X12 := softX12 ninf (wd t) s' σ.x σ.m σ.X12
  { σ with
    x := max4 T
    m := mNew4 ninf (wd t) σ.x σ.m
    X10 := X10
    X11 := X11
    X12 := X12
    X13 := pvX s hs (colO r.2) (colO_inb r.2) (slotO r.1 0) (slotO r.1 1) (slotO0_inb r.1) (slotO1_inb r.1) X7 X11 X12 σ.X13 }

/-- The rows that end, if a row of tiles ends. -/
def flush (lam : F .f32) (X8 : Vec F S1x128 .f32) (p : Pos) (X13 : Vec F S2x2x144x512 .f32) (X9 : Vec F S16384x128 .f32) : Vec F S16384x128 .f32 :=
  if p.1 = p.2 ∨ (nxt p).1 = (nxt p).2 then
    VecWindow.put X9 (rowO (fin p)) S512x128.size (outOf lam (VecWindow.window X13 (slotO (fin p) 0) S1x1x144x512.size (slotO0_inb _))
      (VecWindow.window X13 (slotO (fin p) 1) S1x1x144x512.size (slotO1_inb _)) (VecWindow.window X8 ![0, 0] S1x128.size inb_S1x128_S1x128_0_0))
  else X9

/-- Both halves. -/
def pair (lane : IVec S512x128 32) (ninf : FVec F S1x256 .f32) (X5 X6 : Vec F S16384x128 .bf16) (X7 : Vec F S1x144x16384 .bf16) (σ : St F) : St F :=
  half lane ninf X5 X6 X7 1 0 (by omega) (by omega) (flag1 σ.a) (nxt σ.a) (nxt σ.b).2 (nxt σ.c)
    (half lane ninf X5 X6 X7 0 1 (by omega) (by omega) (flag0 σ.a) σ.a σ.b.2 σ.c σ)

/-- One trip. -/
def trip (lane : IVec S512x128 32) (ninf : FVec F S1x256 .f32) (lam : F .f32) (X5 X6 : Vec F S16384x128 .bf16) (X7 : Vec F S1x144x16384 .bf16) (X8 : Vec F S1x128 .f32) (σ : St F) : St F :=
  let π := pair lane ninf X5 X6 X7 σ
  { π with
    a := nxt (nxt σ.a)
    b := nxt (nxt σ.b)
    c := nxt (nxt σ.c)
    X9 := flush lam X8 σ.c π.X13 σ.X9 }

section
variable (c : Dev nD)
  (M5 M6 : Memref sig .tc .vmem S16384x128 .bf16) (h5 : M5.IsWhole) (h6 : M6.IsWhole)
  (M7 : Memref sig .tc .vmem S1x144x16384 .bf16) (h7 : M7.IsWhole) (M8 : Memref sig .tc .vmem S1x128 .f32) (h8 : M8.IsWhole) (M9 : Memref sig .tc .vmem S16384x128 .f32) (h9 : M9.IsWhole)
  (M10 : Memref sig .tc .vmem S2x2x512x512 .f32) (h10 : M10.IsWhole) (M11 : Memref sig .tc .vmem S2x2x512x512 .bf16) (h11 : M11.IsWhole)
  (M12 : Memref sig .tc .vmem S2x2x1x512 .f32) (h12 : M12.IsWhole) (M13 : Memref sig .tc .vmem S2x2x144x512 .f32) (h13 : M13.IsWhole)
  (X5 X6 : Vec F S16384x128 .bf16) (X7 : Vec F S1x144x16384 .bf16) (X8 : Vec F S1x128 .f32)

/-- The memory of the walk: the inputs, and the scratches as the state has them. -/
def Mem (σ : St F) : sProp 𝕄 :=
  iprop(has c M5 h5 X5 ∗ has c M6 h6 X6 ∗ has c M7 h7 X7 ∗ has c M8 h8 X8 ∗ has c M9 h9 σ.X9 ∗ has c M10 h10 σ.X10 ∗ has c M11 h11 σ.X11 ∗
    has c M12 h12 σ.X12 ∗ has c M13 h13 σ.X13)

theorem wp_pair (lane : IVec S512x128 32) (ninf : FVec F S1x256 .f32) (d0 d1 : Bool) (qw kw tw qw' kw' tw' : BitVec 32)
    (oq ok : Fin 2 → ℕ) (hq : ∀ a, oq a + S512x128.size a ≤ S16384x128.size a) (hk : ∀ a, ok a + S512x128.size a ≤ S16384x128.size a)
    (ov : Fin 3 → ℕ) (hv : ∀ a, ov a + S1x144x512.size a ≤ S1x144x16384.size a)
    (oa ob : Fin 4 → ℕ) (ha : ∀ a, oa a + S1x1x144x512.size a ≤ S2x2x144x512.size a) (hb : ∀ a, ob a + S1x1x144x512.size a ≤ S2x2x144x512.size a)
    (oq' ok' : Fin 2 → ℕ) (hq' : ∀ a, oq' a + S512x128.size a ≤ S16384x128.size a) (hk' : ∀ a, ok' a + S512x128.size a ≤ S16384x128.size a)
    (ov' : Fin 3 → ℕ) (hv' : ∀ a, ov' a + S1x144x512.size a ≤ S1x144x16384.size a)
    (oa' ob' : Fin 4 → ℕ) (ha' : ∀ a, oa' a + S1x1x144x512.size a ≤ S2x2x144x512.size a) (hb' : ∀ a, ob' a + S1x1x144x512.size a ≤ S2x2x144x512.size a)
    (σ : St F) (e0 : d0 = flag0 σ.a) (e1 : d1 = flag1 σ.a)
    (w1 : qw = wd σ.a.1) (w2 : kw = wd σ.a.2) (w3 : tw = wd σ.b.2) (w4 : qw' = wd (nxt σ.a).1) (w5 : kw' = wd (nxt σ.a).2) (w6 : tw' = wd (nxt σ.b).2)
    (o1 : oq = rowO σ.a.1) (o2 : ok = rowO σ.a.2) (o3 : ov = colO σ.c.2) (o4 : oa = slotO σ.c.1 0) (o5 : ob = slotO σ.c.1 1)
    (o1' : oq' = rowO (nxt σ.a).1) (o2' : ok' = rowO (nxt σ.a).2) (o3' : ov' = colO (nxt σ.c).2) (o4' : oa' = slotO (nxt σ.c).1 0) (o5' : ob' = slotO (nxt σ.c).1 1)
    (Q : FVec F S1x256 .f32 × FVec F S1x256 .f32 × FVec F S1x256 .f32 × FVec F S1x256 .f32 × V4 F → sProp 𝕄) :
    Mem c M5 M6 h5 h6 M7 h7 M8 h8 M9 h9 M10 h10 M11 h11 M12 h12 M13 h13 X5 X6 X7 X8 σ ⊢ iprop(
      (Mem c M5 M6 h5 h6 M7 h7 M8 h8 M9 h9 M10 h10 M11 h11 M12 h12 M13 h13 X5 X6 X7 X8 (pair lane ninf X5 X6 X7 σ) -∗
        Q ((pair lane ninf X5 X6 X7 σ).x.1, (pair lane ninf X5 X6 X7 σ).x.2.1, (pair lane ninf X5 X6 X7 σ).x.2.2.1, (pair lane ninf X5 X6 X7 σ).x.2.2.2, (pair lane ninf X5 X6 X7 σ).m)) -∗
      WP c (pairP M5 M6 M7 M10 M11 h11 M12 M13 lane ninf d0 d1 qw kw tw qw' kw' tw' oq ok hq hk ov hv oa ob ha hb oq' ok' hq' hk' ov' hv' oa' ob' ha' hb'
        σ.x.1 σ.x.2.1 σ.x.2.2.1 σ.x.2.2.2 σ.m.1 σ.m.2.1 σ.m.2.2.1 σ.m.2.2.2) Q) := by
  subst w1 w2 w3 w4 w5 w6 o1 o2 o3 o4 o5 o1' o2' o3' o4' o5' e0 e1
  unfold pairP Mem
  simp only [wp_seq]
  iintro ⟨H5, H6, H7, H8, H9, H10, H11, H12, H13⟩ Hk
  iapply (wp_scores c M5 M6 h5 h6 M10 h10 X5 X6 _ _ _ _ _ _ _ _ _ _ _ _ (scoresOf lane (flag0 σ.a) X5 X6 σ.a) rfl) $$ H5 H6 H10
  iintro H5 H6 H10
  iapply (wp_soft c M10 h10 M11 h11 M12 h12 _ _ _ ninf (wd σ.b.2) 1 _ σ.x σ.m _) $$ H10 H11 H12
  iintro H10 H11 H12
  iapply (wp_pv c M7 h7 M11 h11 M12 h12 M13 h13 _ _ _ _ _ _ _ _ _ _ _ _ _) $$ H7 H11 H12 H13
  iintro H7 H11 H12 H13
  iapply (wp_scores c M5 M6 h5 h6 M10 h10 X5 X6 _ _ _ _ _ _ _ _ _ _ _ _ (scoresOf lane (flag1 σ.a) X5 X6 (nxt σ.a)) rfl) $$ H5 H6 H10
  iintro H5 H6 H10
  iapply (wp_soft c M10 h10 M11 h11 M12 h12 _ _ _ ninf (wd (nxt σ.b).2) 0 _ (max4 (scoresOf lane (flag0 σ.a) X5 X6 σ.a)) (mNew4 ninf (wd σ.b.2) σ.x σ.m) _) $$ H10 H11 H12
  iintro H10 H11 H12
  iapply (wp_pv c M7 h7 M11 h11 M12 h12 M13 h13 _ _ _ _ _ _ _ _ _ _ _ _ _) $$ H7 H11 H12 H13
  iintro H7 H11 H12 H13
  iapply (wp_pure' c _ _)
  dsimp only [pair, half, max4]
  iapply Hk
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem wp_asm {P : Prop} (d : Decidable P) (h : P) (Q : PLift P → sProp 𝕄) : Q ⟨h⟩ ⊢ WP c (Prog.lift (TpuEff.assume P d)) Q := by
  refine BIBase.Entails.trans ?_ (wp_assume (defs := defs₀ (F := F)) Variants.none (c : Thread nD τ) none Set.univ h)
  exact le_wp_ret (Fr := frame) (wpE := wpE (defs₀ (F := F)) Variants.none (c : Thread nD τ) none) (E := Set.univ) _ Q

end

/-- What the loop carries at a state. -/
def carry (σ : St F) : Carry F := (wd σ.a.1, wd σ.a.2, wd σ.b.1, wd σ.b.2, wd σ.c.1, wd σ.c.2, σ.x.1, σ.x.2.1, σ.x.2.2.1, σ.x.2.2.2, σ.m.1, σ.m.2.1, σ.m.2.2.1, σ.m.2.2.2)

theorem wp_fin (c : Dev nD) (M8 : Memref sig .tc .vmem S1x128 .f32) (h8 : M8.IsWhole) (M9 : Memref sig .tc .vmem S16384x128 .f32) (h9 : M9.IsWhole) (M13 : Memref sig .tc .vmem S2x2x144x512 .f32) (h13 : M13.IsWhole)
    (X8 : Vec F S1x128 .f32) (X9 : Vec F S16384x128 .f32) (X13 : Vec F S2x2x144x512 .f32) (lam : F .f32)
    (oa ob : Fin 4 → ℕ) (ha : ∀ a, oa a + S1x1x144x512.size a ≤ S2x2x144x512.size a) (hb : ∀ a, ob a + S1x1x144x512.size a ≤ S2x2x144x512.size a)
    (oo : Fin 2 → ℕ) (ho : ∀ a, oo a + S512x128.size a ≤ S16384x128.size a) (Q : PUnit → sProp 𝕄) :
    has c M8 h8 X8 ⊢ iprop(has c M9 h9 X9 -∗ has c M13 h13 X13 -∗
      (has c M8 h8 X8 -∗ has c M9 h9 (VecWindow.put X9 oo S512x128.size (outOf lam (VecWindow.window X13 oa S1x1x144x512.size ha) (VecWindow.window X13 ob S1x1x144x512.size hb)
        (VecWindow.window X8 ![0, 0] S1x128.size inb_S1x128_S1x128_0_0))) -∗ has c M13 h13 X13 -∗ Q ⟨⟩) -∗
      WP c (finP M8 M9 M13 lam oa ob ha hb oo ho) Q) := by
  unfold finP
  simp only [wp_seq]
  iintro H8 H9 H13 Hk
  iapply (wp_ld c M13 h13 _ _ _ _ _ _) $$ H13
  iintro H13
  iapply (wp_ld c M13 h13 _ _ _ _ _ _) $$ H13
  iintro H13
  iapply (wp_ld c M8 h8 _ _ _ _ _ _) $$ H8
  iintro H8
  iapply (wp_ld c M9 h9 _ _ _ _ _ _) $$ H9
  iintro H9
  iapply (wp_st c M9 h9 _ _ _ _ _ _ _ _) $$ H9
  iintro H9
  iapply Hk $$ H8 H9 H13

end Cert.Proof.Attn

end
-- ==== Proof.TripRule.lean ====
/-
  The trip of the loop as one rule: the switch, then the row that ends.
-/
module

public import proofs.«01_k».proof.Proof.Step

@[expose] public section

set_option maxRecDepth 65536

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- The switch takes the state over both halves. -/
theorem wp_switch (c : Dev nD) (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole)  (X5 X6 : Vec F S16384x128 .bf16) (X7 : Vec F S1x144x16384 .bf16) (X8 : Vec F S1x128 .f32) (lane : IVec S512x128 32) (ninf : FVec F S1x256 .f32)
    (σ : St F) (hA : σ.a.2 ≤ σ.a.1) (hB : σ.b.2 ≤ σ.b.1) (hC : σ.c.2 ≤ σ.c.1)
    (Q : (Σ' (k0_hw2 : k0_chk2 (wd σ.a.1) (wd σ.a.2) (wd σ.c.1) (wd σ.c.2)), FVec F S1x256 .f32 × FVec F S1x256 .f32 × FVec F S1x256 .f32 × FVec F S1x256 .f32 × V4 F) → sProp 𝕄) :
    Mem c arg5 arg6 harg5 harg6 arg7 harg7 arg8 harg8 arg9 harg9 arg10 harg10 arg11 harg11 arg12 harg12 arg13 harg13 X5 X6 X7 X8 σ ⊢ iprop(
      (Mem c arg5 arg6 harg5 harg6 arg7 harg7 arg8 harg8 arg9 harg9 arg10 harg10 arg11 harg11 arg12 harg12 arg13 harg13 X5 X6 X7 X8 (pair lane ninf X5 X6 X7 σ) -∗
        Q ⟨chk2_ok σ.a σ.c hC, (pair lane ninf X5 X6 X7 σ).x.1, (pair lane ninf X5 X6 X7 σ).x.2.1, (pair lane ninf X5 X6 X7 σ).x.2.2.1, (pair lane ninf X5 X6 X7 σ).x.2.2.2, (pair lane ninf X5 X6 X7 σ).m⟩) -∗
      WP c (switchP i arg1 harg1 arg2 harg2 arg3 harg3 arg4 harg4 arg5 harg5 arg6 harg6 arg7 harg7 arg8 harg8 arg9 harg9 arg10 harg10 arg11 harg11 arg12 harg12 arg13 harg13 lane ninf (wd σ.a.1) (wd σ.a.2) (wd σ.b.1) (wd σ.b.2) (wd σ.c.1) (wd σ.c.2)
        σ.x.1 σ.x.2.1 σ.x.2.2.1 σ.x.2.2.2 σ.m.1 σ.m.2.1 σ.m.2.2.1 σ.m.2.2.2) Q) := by
  unfold switchP
  iintro H Hk
  rw [wp_seq]
  iapply (wp_asm c _ (chk3_ok σ.a σ.c.1) _)
  rw [wp_seq]
  iapply (wp_asm c _ (chk2_ok σ.a σ.c hC) _)
  rw [wp_seq]
  iapply (wp_asm c _ (chk1_ok σ.a hA) _)
  rcases Classical.em (σ.a.1 = σ.a.2 ∨ (nxt σ.a).1 = (nxt σ.a).2) with g1 | g1
  · have h1 := (cond1_iff σ.a hA).mpr g1
    rcases Classical.em ((nxt σ.a).1 = (nxt σ.a).2) with g2 | g2
    · have h2 := (cond2_iff σ.a hA g1).mpr g2
      have e0 : false = flag0 σ.a := by simp only [flag0, decide_eq_true g2, Bool.not_true, Bool.and_false]
      have e1 : true = flag1 σ.a := by simp only [flag1, decide_eq_true g2]
      rw [dif_pos h1, dif_pos h2, wp_seq]
      iapply (wp_pair c arg5 arg6 harg5 harg6 arg7 harg7 arg8 harg8 arg9 harg9 arg10 harg10 arg11 harg11 arg12 harg12 arg13 harg13 X5 X6 X7 X8 lane ninf false true
        (wd σ.a.1) (wd σ.a.2) (wd σ.b.2) (advQ (wd σ.a.1) (wd σ.a.2)) (advT (wd σ.a.1) (wd σ.a.2)) (advT (wd σ.b.1) (wd σ.b.2))
        (k0_off4 (wd σ.a.1)) (k0_off5 (wd σ.a.2)) _ _ (k0_off6 (wd σ.c.2)) _ (k0_off7 (wd σ.c.1)) (k0_off8 (wd σ.c.1)) _ _ (k0_off9 (wd σ.a.1) (wd σ.a.2)) (k0_off10 (wd σ.a.1) (wd σ.a.2)) _ _ (k0_off11 (wd σ.c.1) (wd σ.c.2)) _ (k0_off12 (wd σ.c.1) (wd σ.c.2)) (k0_off13 (wd σ.c.1) (wd σ.c.2)) _ _ σ e0 e1
        rfl rfl rfl (advQ_wd σ.a hA) (advT_wd σ.a hA) (advT_wd σ.b hB)
        (off4_eq σ.a.1) (off5_eq σ.a.2) (off6_eq σ.c.2) (off7_eq σ.c.1) (off8_eq σ.c.1) (off9_eq σ.a hA) (off10_eq σ.a hA) (off11_eq σ.c hC) (off12_eq σ.c hC) (off13_eq σ.c hC) _) $$ H
      iintro H
      iapply (wp_pure' c _ _)
      iapply Hk $$ H
    · have h2 := mt (cond2_iff σ.a hA g1).mp g2
      have g0 : σ.a.1 = σ.a.2 := g1.resolve_right g2
      have e0 : true = flag0 σ.a := by simp only [flag0, decide_eq_true g0, decide_eq_false g2, Bool.not_false, Bool.and_self]
      have e1 : false = flag1 σ.a := by simp only [flag1, decide_eq_false g2]
      rw [dif_pos h1, dif_neg h2, wp_seq]
      iapply (wp_pair c arg5 arg6 harg5 harg6 arg7 harg7 arg8 harg8 arg9 harg9 arg10 harg10 arg11 harg11 arg12 harg12 arg13 harg13 X5 X6 X7 X8 lane ninf true false
        (wd σ.a.1) (wd σ.a.2) (wd σ.b.2) (advQ (wd σ.a.1) (wd σ.a.2)) (advT (wd σ.a.1) (wd σ.a.2)) (advT (wd σ.b.1) (wd σ.b.2))
        (k0_off14 (wd σ.a.1)) (k0_off15 (wd σ.a.2)) _ _ (k0_off16 (wd σ.c.2)) _ (k0_off17 (wd σ.c.1)) (k0_off18 (wd σ.c.1)) _ _ (k0_off19 (wd σ.a.1) (wd σ.a.2)) (k0_off20 (wd σ.a.1) (wd σ.a.2)) _ _ (k0_off21 (wd σ.c.1) (wd σ.c.2)) _ (k0_off22 (wd σ.c.1) (wd σ.c.2)) (k0_off23 (wd σ.c.1) (wd σ.c.2)) _ _ σ e0 e1
        rfl rfl rfl (advQ_wd σ.a hA) (advT_wd σ.a hA) (advT_wd σ.b hB)
        (off14_eq σ.a.1) (off15_eq σ.a.2) (off16_eq σ.c.2) (off17_eq σ.c.1) (off18_eq σ.c.1) (off19_eq σ.a hA) (off20_eq σ.a hA) (off21_eq σ.c hC) (off22_eq σ.c hC) (off23_eq σ.c hC) _) $$ H
      iintro H
      iapply (wp_pure' c _ _)
      iapply Hk $$ H
  · have h1 := mt (cond1_iff σ.a hA).mp g1
    have g0 : ¬ σ.a.1 = σ.a.2 := fun h => g1 (Or.inl h)
    have g2 : ¬ (nxt σ.a).1 = (nxt σ.a).2 := fun h => g1 (Or.inr h)
    have e0 : false = flag0 σ.a := by simp only [flag0, decide_eq_false g0, Bool.false_and]
    have e1 : false = flag1 σ.a := by simp only [flag1, decide_eq_false g2]
    rw [dif_neg h1, wp_seq]
    iapply (wp_pair c arg5 arg6 harg5 harg6 arg7 harg7 arg8 harg8 arg9 harg9 arg10 harg10 arg11 harg11 arg12 harg12 arg13 harg13 X5 X6 X7 X8 lane ninf false false
      (wd σ.a.1) (wd σ.a.2) (wd σ.b.2) (advQ (wd σ.a.1) (wd σ.a.2)) (advT (wd σ.a.1) (wd σ.a.2)) (advT (wd σ.b.1) (wd σ.b.2))
      (k0_off24 (wd σ.a.1)) (k0_off25 (wd σ.a.2)) _ _ (k0_off26 (wd σ.c.2)) _ (k0_off27 (wd σ.c.1)) (k0_off28 (wd σ.c.1)) _ _ (k0_off29 (wd σ.a.1) (wd σ.a.2)) (k0_off30 (wd σ.a.1) (wd σ.a.2)) _ _ (k0_off31 (wd σ.c.1) (wd σ.c.2)) _ (k0_off32 (wd σ.c.1) (wd σ.c.2)) (k0_off33 (wd σ.c.1) (wd σ.c.2)) _ _ σ e0 e1
      rfl rfl rfl (advQ_wd σ.a hA) (advT_wd σ.a hA) (advT_wd σ.b hB)
      (off24_eq σ.a.1) (off25_eq σ.a.2) (off26_eq σ.c.2) (off27_eq σ.c.1) (off28_eq σ.c.1) (off29_eq σ.a hA) (off30_eq σ.a hA) (off31_eq σ.c hC) (off32_eq σ.c hC) (off33_eq σ.c hC) _) $$ H
    iintro H
    iapply (wp_pure' c _ _)
    iapply Hk $$ H

/-- The end of a row of tiles, its boxes named by the position. -/
theorem wp_fin_at (c : Dev nD) (M8 : Memref sig .tc .vmem S1x128 .f32) (h8 : M8.IsWhole) (M9 : Memref sig .tc .vmem S16384x128 .f32) (h9 : M9.IsWhole) (M13 : Memref sig .tc .vmem S2x2x144x512 .f32) (h13 : M13.IsWhole)
    (X8 : Vec F S1x128 .f32) (X9 : Vec F S16384x128 .f32) (X13 : Vec F S2x2x144x512 .f32) (lam : F .f32)
    (oa ob : Fin 4 → ℕ) (ha : ∀ a, oa a + S1x1x144x512.size a ≤ S2x2x144x512.size a) (hb : ∀ a, ob a + S1x1x144x512.size a ≤ S2x2x144x512.size a)
    (oo : Fin 2 → ℕ) (ho : ∀ a, oo a + S512x128.size a ≤ S16384x128.size a) (p : Pos) (g : p.1 = p.2 ∨ (nxt p).1 = (nxt p).2)
    (ea : oa = slotO (fin p) 0) (eb : ob = slotO (fin p) 1) (eo : oo = rowO (fin p)) (Q : PUnit → sProp 𝕄) :
    has c M8 h8 X8 ⊢ iprop(has c M9 h9 X9 -∗ has c M13 h13 X13 -∗
      (has c M8 h8 X8 -∗ has c M9 h9 (flush lam X8 p X13 X9) -∗ has c M13 h13 X13 -∗ Q ⟨⟩) -∗
      WP c (finP M8 M9 M13 lam oa ob ha hb oo ho) Q) := by
  subst ea eb eo
  rw [flush, if_pos g]
  exact wp_fin c M8 h8 M9 h9 M13 h13 X8 X9 X13 lam _ _ _ _ _ _ Q

/-- A trip of the loop takes the state to the next. -/
theorem wp_trip (c : Dev nD) (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole)  (X5 X6 : Vec F S16384x128 .bf16) (X7 : Vec F S1x144x16384 .bf16) (X8 : Vec F S1x128 .f32) (lam : F .f32) (lane : IVec S512x128 32) (ninf : FVec F S1x256 .f32)
    (σ : St F) (hA : σ.a.2 ≤ σ.a.1) (hB : σ.b.2 ≤ σ.b.1) (hC : σ.c.2 ≤ σ.c.1) (Q : Carry F → sProp 𝕄) :
    Mem c arg5 arg6 harg5 harg6 arg7 harg7 arg8 harg8 arg9 harg9 arg10 harg10 arg11 harg11 arg12 harg12 arg13 harg13 X5 X6 X7 X8 σ ⊢ iprop(
      (Mem c arg5 arg6 harg5 harg6 arg7 harg7 arg8 harg8 arg9 harg9 arg10 harg10 arg11 harg11 arg12 harg12 arg13 harg13 X5 X6 X7 X8 (trip lane ninf lam X5 X6 X7 X8 σ) -∗ Q (carry (trip lane ninf lam X5 X6 X7 X8 σ))) -∗
      WP c (tripP i arg1 harg1 arg2 harg2 arg3 harg3 arg4 harg4 arg5 harg5 arg6 harg6 arg7 harg7 arg8 harg8 arg9 harg9 arg10 harg10 arg11 harg11 arg12 harg12 arg13 harg13 lam lane ninf (wd σ.a.1) (wd σ.a.2) (wd σ.b.1) (wd σ.b.2) (wd σ.c.1) (wd σ.c.2)
        σ.x.1 σ.x.2.1 σ.x.2.2.1 σ.x.2.2.2 σ.m.1 σ.m.2.1 σ.m.2.2.1 σ.m.2.2.2) Q) := by
  have eA := advQ_wd σ.a hA
  have eA' := advT_wd σ.a hA
  have eB := advQ_wd σ.b hB
  have eB' := advT_wd σ.b hB
  have eC := advQ_wd σ.c hC
  have eC' := advT_wd σ.c hC
  have e : (advQ (advQ (wd σ.a.1) (wd σ.a.2)) (advT (wd σ.a.1) (wd σ.a.2)), advT (advQ (wd σ.a.1) (wd σ.a.2)) (advT (wd σ.a.1) (wd σ.a.2)),
      advQ (advQ (wd σ.b.1) (wd σ.b.2)) (advT (wd σ.b.1) (wd σ.b.2)), advT (advQ (wd σ.b.1) (wd σ.b.2)) (advT (wd σ.b.1) (wd σ.b.2)),
      advQ (advQ (wd σ.c.1) (wd σ.c.2)) (advT (wd σ.c.1) (wd σ.c.2)), advT (advQ (wd σ.c.1) (wd σ.c.2)) (advT (wd σ.c.1) (wd σ.c.2)),
      (pair lane ninf X5 X6 X7 σ).x.1, (pair lane ninf X5 X6 X7 σ).x.2.1, (pair lane ninf X5 X6 X7 σ).x.2.2.1, (pair lane ninf X5 X6 X7 σ).x.2.2.2,
      (pair lane ninf X5 X6 X7 σ).m) = carry (trip lane ninf lam X5 X6 X7 X8 σ) := by
    rw [eA, eA', eB, eB', eC, eC', advQ_wd _ (nxt_le _ hA), advT_wd _ (nxt_le _ hA), advQ_wd _ (nxt_le _ hB), advT_wd _ (nxt_le _ hB), advQ_wd _ (nxt_le _ hC), advT_wd _ (nxt_le _ hC)]
    dsimp only [trip, carry]
  have h10 : (trip lane ninf lam X5 X6 X7 X8 σ).X10 = (pair lane ninf X5 X6 X7 σ).X10 := by dsimp only [trip]
  have h11 : (trip lane ninf lam X5 X6 X7 X8 σ).X11 = (pair lane ninf X5 X6 X7 σ).X11 := by dsimp only [trip]
  have h12 : (trip lane ninf lam X5 X6 X7 X8 σ).X12 = (pair lane ninf X5 X6 X7 σ).X12 := by dsimp only [trip]
  have h13 : (trip lane ninf lam X5 X6 X7 X8 σ).X13 = (pair lane ninf X5 X6 X7 σ).X13 := by dsimp only [trip]
  have h9 : (trip lane ninf lam X5 X6 X7 X8 σ).X9 = flush lam X8 σ.c (pair lane ninf X5 X6 X7 σ).X13 σ.X9 := by dsimp only [trip]
  have e9 : (pair lane ninf X5 X6 X7 σ).X9 = σ.X9 := by dsimp only [pair, half]
  rw [← e]
  generalize hτ : trip lane ninf lam X5 X6 X7 X8 σ = τ at h9 h10 h11 h12 h13 ⊢
  generalize hπ : pair lane ninf X5 X6 X7 σ = π at e9 h9 h10 h11 h12 h13 ⊢
  unfold tripP
  rw [wp_seq]
  iintro H Hk
  iapply (wp_switch c i arg1 harg1 arg2 harg2 arg3 harg3 arg4 harg4 arg5 harg5 arg6 harg6 arg7 harg7 arg8 harg8 arg9 harg9 arg10 harg10 arg11 harg11 arg12 harg12 arg13 harg13 X5 X6 X7 X8 lane ninf σ hA hB hC _) $$ H
  rw [hπ]
  iintro H
  by_cases g : σ.c.1 = σ.c.2 ∨ (nxt σ.c).1 = (nxt σ.c).2
  · rw [dif_pos ((cond3_iff σ.c hC).mpr g), wp_seq]
    unfold Mem
    icases H with ⟨H5, H6, H7, H8, H9, H10, H11, H12, H13⟩
    iapply (wp_fin_at c arg8 harg8 arg9 harg9 arg13 harg13 X8 π.X9 π.X13 lam (k0_off34 (wd σ.c.1) (wd σ.c.2)) (k0_off35 (wd σ.c.1) (wd σ.c.2)) _ _ (k0_off36 (wd σ.c.1) (wd σ.c.2)) _ σ.c g (off34_eq _ hC) (off35_eq _ hC) (off36_eq _ hC) _) $$ H8 H9 H13
    iintro H8 H9 H13
    iapply (wp_pure' c _ _)
    iapply Hk
    rw [h9, h10, h11, h12, h13]
    rw [← e9]
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [dif_neg (mt (cond3_iff σ.c hC).mp g)]
    iapply (wp_pure' c _ _)
    iapply Hk
    rw [flush, if_neg g] at h9
    unfold Mem
    rw [h9, h10, h11, h12, h13, e9]
    iexact H

end Cert.Proof.Attn

end
-- ==== Proof.BodyEq.lean ====
/-
  The printed loop body and the printed kernel are the named pieces of `Trip`: by unfolding, the switch's condition
  decided first.
-/
module

public import proofs.«01_k».proof.Proof.Trip

@[expose] public section

set_option maxRecDepth 65536

noncomputable section

namespace Cert.Proof.Attn

open Cert.KernelIdeal Cert.KernelIdeal.Gen
open Idealize.ShloMosaic Idealize.SL.Sem

variable {F : FTy → Type} [FloatOps F]

set_option maxRecDepth 10000000 in
set_option maxHeartbeats 40000000 in
/-- The printed kernel is `bodyP`. -/
theorem body_eq (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) : cc0_diff_attn (F := F) i arg1 harg1 arg2 harg2 arg3 harg3 arg4 harg4 arg5 harg5 arg6 harg6 arg7 harg7 arg8 harg8 arg9 harg9 arg10 harg10 arg11 harg11 arg12 harg12 arg13 harg13 = bodyP i arg1 harg1 arg2 harg2 arg3 harg3 arg4 harg4 arg5 harg5 arg6 harg6 arg7 harg7 arg8 harg8 arg9 harg9 arg10 harg10 arg11 harg11 arg12 harg12 arg13 harg13 := rfl

end Cert.Proof.Attn

end
-- ==== Proof.TripEq.lean ====
/-
  The printed loop body and the printed kernel are the named pieces of `Trip`: by unfolding, the switch's condition
  decided first.
-/
module

public import proofs.«01_k».proof.Proof.Trip

@[expose] public section

set_option maxRecDepth 65536

noncomputable section

namespace Cert.Proof.Attn

open Cert.KernelIdeal Cert.KernelIdeal.Gen
open Idealize.ShloMosaic Idealize.SL.Sem

variable {F : FTy → Type} [FloatOps F]

set_option maxRecDepth 10000000 in
set_option maxHeartbeats 40000000 in
/-- The printed switch is `switchP`. -/
theorem switch_eq (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) (v18 : IVec S512x128 32) (v19 : FVec F S1x256 .f32) (k : Fin k0_t1_loop.trips) (arg15 arg16 arg17 arg18 arg19 arg20 : BitVec 32) (arg21 arg22 arg23 arg24 arg25 arg26 arg27 arg28 : FVec F S1x256 .f32) :
    k0_part37 (F := F) i arg1 harg1 arg2 harg2 arg3 harg3 arg4 harg4 arg5 harg5 arg6 harg6 arg7 harg7 arg8 harg8 arg9 harg9 arg10 harg10 arg11 harg11 arg12 harg12 arg13 harg13 v18 v19 0#32 1#32 k arg15 arg16 arg17 arg18 arg19 arg20 arg21 arg22 arg23 arg24 arg25 arg26 arg27 arg28 =
      (switchP i arg1 harg1 arg2 harg2 arg3 harg3 arg4 harg4 arg5 harg5 arg6 harg6 arg7 harg7 arg8 harg8 arg9 harg9 arg10 harg10 arg11 harg11 arg12 harg12 arg13 harg13 v18 v19 arg15 arg16 arg17 arg18 arg19 arg20 arg21 arg22 arg23 arg24 arg25 arg26 arg27 arg28 >>= fun r => pure ⟨r.1, advQ arg15 arg16, advT arg15 arg16, advQ arg17 arg18, advT arg17 arg18, advQ arg19 arg20, advT arg19 arg20,
        r.2.1, r.2.2.1, r.2.2.2.1, r.2.2.2.2.1, r.2.2.2.2.2.1, r.2.2.2.2.2.2.1, r.2.2.2.2.2.2.2.1, r.2.2.2.2.2.2.2.2⟩) := by
  rw [k0_part37_eq_skeleton]
  unfold k0_part37_skel switchP
  refine (congrArg (Prog.op _) (funext fun a3 => ?_) : Prog.op _ _ = Prog.op _ _)
  refine (congrArg (Prog.op _) (funext fun a2 => ?_) : Prog.op _ _ = Prog.op _ _)
  refine (congrArg (Prog.op _) (funext fun a1 => ?_) : Prog.op _ _ = Prog.op _ _)
  generalize (instDecidableEqBitVec (k0_cond1 arg15 arg16) 1#1) = d1
  rcases d1 with h1 | h1
  · rfl
  · generalize (instDecidableEqBitVec (k0_cond2 arg15 arg16) 1#1) = d2
    rcases d2 with h2 | h2
    · rfl
    · rfl

set_option maxRecDepth 10000000 in
set_option maxHeartbeats 40000000 in
/-- The printed region is `tripP`. -/
theorem trip_eq (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) (v17 : F .f32) (v18 : IVec S512x128 32) (v19 : FVec F S1x256 .f32) (k : Fin k0_t1_loop.trips) (arg15 arg16 arg17 arg18 arg19 arg20 : BitVec 32) (arg21 arg22 arg23 arg24 arg25 arg26 arg27 arg28 : FVec F S1x256 .f32) :
    k0_t1_body i arg1 harg1 arg2 harg2 arg3 harg3 arg4 harg4 arg5 harg5 arg6 harg6 arg7 harg7 arg8 harg8 arg9 harg9 arg10 harg10 arg11 harg11 arg12 harg12 arg13 harg13 v17 v18 v19 k (arg15, arg16, arg17, arg18, arg19, arg20, arg21, arg22, arg23, arg24, arg25, arg26, arg27, arg28) =
      tripP i arg1 harg1 arg2 harg2 arg3 harg3 arg4 harg4 arg5 harg5 arg6 harg6 arg7 harg7 arg8 harg8 arg9 harg9 arg10 harg10 arg11 harg11 arg12 harg12 arg13 harg13 v17 v18 v19 arg15 arg16 arg17 arg18 arg19 arg20 arg21 arg22 arg23 arg24 arg25 arg26 arg27 arg28 := by
  unfold k0_t1_body tripP
  dsimp only
  rw [switch_eq]
  simp only [Prog.bind_assoc, pure_bind, bind_assoc]
  refine congrArg (Bind.bind _) (funext fun r => ?_)
  generalize (instDecidableEqBitVec (k0_cond3 arg19 arg20) 1#1) = d3
  rcases d3 with h3 | h3 <;> rfl

end Cert.Proof.Attn

end
-- ==== Proof.Start.lean ====
/-
  The prologue and the loop: what a grid point of the attention kernel leaves.
-/
module

public import proofs.«01_k».proof.Proof.TripRule
public import proofs.«01_k».proof.Proof.BodyEq
public import proofs.«01_k».proof.Proof.TripEq

@[expose] public section

set_option maxRecDepth 65536

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The lane of each entry of a tile of queries. -/
abbrev lane0 : IVec S512x128 32 := iota .tc S512x128 32 [1] iota_S512x128_d1_w32
/-- Minus infinity in every column. -/
abbrev ninf0 : FVec F S1x256 .f32 := k0_pay252 (F := F)
/-- The first position. -/
def p0 : Pos := (0, 0)

/-- The scores' scratch once the first two positions' scores are in it. -/
def initS (X5 X6 : Vec F S16384x128 .bf16) (g10 : Vec F S2x2x512x512 .f32) : Vec F S2x2x512x512 .f32 :=
  put4 (put4 g10 0 fun j => up (scoresOf lane0 true X5 X6 p0 j)) 1 fun j => up (scoresOf lane0 false X5 X6 (nxt p0) j)

/-- The walk's state before the first trip. -/
def init (X5 X6 : Vec F S16384x128 .bf16) (g9 : Vec F S16384x128 .f32) (g10 : Vec F S2x2x512x512 .f32) (g11 : Vec F S2x2x512x512 .bf16)
    (g12 : Vec F S2x2x1x512 .f32) (g13 : Vec F S2x2x144x512 .f32) : St F where
  a := nxt (nxt p0)
  b := nxt p0
  c := p0
  x := max4 (scoresOf lane0 false X5 X6 (nxt p0))
  m := mNew4 ninf0 (wd p0.2) (max4 (scoresOf lane0 true X5 X6 p0)) (ninf0, ninf0, ninf0, ninf0)
  X9 := g9
  X10 := initS X5 X6 g10
  X11 := softX11 ninf0 (wd p0.2) 0 (by omega) (max4 (scoresOf lane0 true X5 X6 p0)) (ninf0, ninf0, ninf0, ninf0) (initS X5 X6 g10) g11
  X12 := softX12 ninf0 (wd p0.2) 0 (max4 (scoresOf lane0 true X5 X6 p0)) (ninf0, ninf0, ninf0, ninf0) g12
  X13 := VecWindow.put g13 ![0, 0, 0, 0] S2x2x144x512.size (k0_pay253 (F := F))

/-- The factor of the second map. -/
def lamOf (X1 X2 X3 X4 : Vec F S1x64 .f32) : F .f32 :=
  k0_pay251 (VecWindow.window X1 ![0, 0] S1x64.size inb_S1x64_S1x64_0_0) (VecWindow.window X2 ![0, 0] S1x64.size inb_S1x64_S1x64_0_0)
    (VecWindow.window X3 ![0, 0] S1x64.size inb_S1x64_S1x64_0_0) (VecWindow.window X4 ![0, 0] S1x64.size inb_S1x64_S1x64_0_0)

theorem off1_eq : k0_off1 = rowO 0 := by decide +kernel
theorem off2_eq : k0_off2 = rowO (nxt p0).1 := by decide +kernel
theorem off3_eq : k0_off3 = rowO (nxt p0).2 := by decide +kernel

/-- The scores of a position, its boxes named by the position. -/
theorem wp_scores_at (c : Dev nD) (M5 M6 : Memref sig .tc .vmem S16384x128 .bf16) (h5 : M5.IsWhole) (h6 : M6.IsWhole)
    (M10 : Memref sig .tc .vmem S2x2x512x512 .f32) (h10 : M10.IsWhole) (X5 X6 : Vec F S16384x128 .bf16) (X10 : Vec F S2x2x512x512 .f32)
    (lane : IVec S512x128 32) (b : Bool) (s : ℕ) (hs : s < 2) (qw kw : BitVec 32) (oq ok : Fin 2 → ℕ)
    (hq : ∀ a, oq a + S512x128.size a ≤ S16384x128.size a) (hk : ∀ a, ok a + S512x128.size a ≤ S16384x128.size a) (p : Pos)
    (w1 : qw = wd p.1) (w2 : kw = wd p.2) (o1 : oq = rowO p.1) (o2 : ok = rowO p.2) (Q : V4 F → sProp 𝕄) :
    has c M5 h5 X5 ⊢ iprop(has c M6 h6 X6 -∗ has c M10 h10 X10 -∗
      (has c M5 h5 X5 -∗ has c M6 h6 X6 -∗ has c M10 h10 (put4 X10 s fun j => up (scoresOf lane b X5 X6 p j)) -∗ Q (max4 (scoresOf lane b X5 X6 p))) -∗
      WP c (scoresP M5 M6 M10 lane b s hs qw kw oq ok hq hk) Q) := by
  subst w1 w2 o1 o2
  exact wp_scores c M5 M6 h5 h6 M10 h10 X5 X6 X10 lane b s hs _ _ _ _ _ _ Q (scoresOf lane b X5 X6 p) rfl

/-- The prologue leaves the first state. -/
theorem wp_start (c : Dev nD) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) (X1 X2 X3 X4 : Vec F S1x64 .f32) (X5 X6 : Vec F S16384x128 .bf16) (X7 : Vec F S1x144x16384 .bf16) (X8 : Vec F S1x128 .f32)
    (g9 : Vec F S16384x128 .f32) (g10 : Vec F S2x2x512x512 .f32) (g11 : Vec F S2x2x512x512 .bf16) (g12 : Vec F S2x2x1x512 .f32) (g13 : Vec F S2x2x144x512 .f32)
    (Q : F .f32 × V4 F × V4 F → sProp 𝕄) :
    has c arg1 harg1 X1 ⊢ iprop(has c arg2 harg2 X2 -∗ has c arg3 harg3 X3 -∗ has c arg4 harg4 X4 -∗ has c arg5 harg5 X5 -∗ has c arg6 harg6 X6 -∗
      has c arg7 harg7 X7 -∗ has c arg8 harg8 X8 -∗ has c arg9 harg9 g9 -∗ has c arg10 harg10 g10 -∗ has c arg11 harg11 g11 -∗ has c arg12 harg12 g12 -∗ has c arg13 harg13 g13 -∗
      (has c arg1 harg1 X1 -∗ has c arg2 harg2 X2 -∗ has c arg3 harg3 X3 -∗ has c arg4 harg4 X4 -∗
        Mem c arg5 arg6 harg5 harg6 arg7 harg7 arg8 harg8 arg9 harg9 arg10 harg10 arg11 harg11 arg12 harg12 arg13 harg13 X5 X6 X7 X8 (init X5 X6 g9 g10 g11 g12 g13) -∗
        Q (lamOf X1 X2 X3 X4, (init X5 X6 g9 g10 g11 g12 g13).x, (init X5 X6 g9 g10 g11 g12 g13).m)) -∗
      WP c (startP arg1 harg1 arg2 harg2 arg3 harg3 arg4 harg4 arg5 harg5 arg6 harg6 arg7 harg7 arg8 harg8 arg9 harg9 arg10 harg10 arg11 harg11 arg12 harg12 arg13 harg13) Q) := by
  unfold startP
  simp only [wp_seq]
  iintro H1 H2 H3 H4 H5 H6 H7 H8 H9 H10 H11 H12 H13 Hk
  iapply (wp_ld c arg1 harg1 _ _ _ _ _ _) $$ H1
  iintro H1
  iapply (wp_ld c arg2 harg2 _ _ _ _ _ _) $$ H2
  iintro H2
  iapply (wp_ld c arg3 harg3 _ _ _ _ _ _) $$ H3
  iintro H3
  iapply (wp_ld c arg4 harg4 _ _ _ _ _ _) $$ H4
  iintro H4
  iapply (wp_ld c arg13 harg13 _ _ _ _ _ _) $$ H13
  iintro H13
  iapply (wp_st c arg13 harg13 _ _ _ _ _ _ _ _) $$ H13
  iintro H13
  iapply (wp_scores_at c arg5 arg6 harg5 harg6 arg10 harg10 X5 X6 g10 lane0 true 0 _ 0#32 0#32 k0_off1 k0_off1 _ _ p0 rfl rfl off1_eq off1_eq _) $$ H5 H6 H10
  iintro H5 H6 H10
  iapply (wp_scores_at c arg5 arg6 harg5 harg6 arg10 harg10 X5 X6 _ lane0 false 1 _ (advQ 0#32 0#32) (advT 0#32 0#32) k0_off2 k0_off3 _ _ (nxt p0) (by decide) (by decide) off2_eq off3_eq _) $$ H5 H6 H10
  iintro H5 H6 H10
  iapply (wp_soft c arg10 harg10 arg11 harg11 arg12 harg12 _ _ _ ninf0 (wd p0.2) 0 _ (max4 (scoresOf lane0 true X5 X6 p0)) (ninf0, ninf0, ninf0, ninf0) _) $$ H10 H11 H12
  iintro H10 H11 H12
  iapply (wp_pure' c _ _)
  unfold Mem
  dsimp only [init, initS, lamOf]
  iapply Hk $$ H1 H2 H3 H4 [H5 H6 H7 H8 H9 H10 H11 H12 H13]
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The loop -/

/-- The state before trip `k`. -/
def walk (X1 X2 X3 X4 : Vec F S1x64 .f32) (X5 X6 : Vec F S16384x128 .bf16) (X7 : Vec F S1x144x16384 .bf16) (X8 : Vec F S1x128 .f32) (σ₀ : St F) : ℕ → St F
  | 0 => σ₀
  | k + 1 => trip lane0 ninf0 (lamOf X1 X2 X3 X4) X5 X6 X7 X8 (walk X1 X2 X3 X4 X5 X6 X7 X8 σ₀ k)

/-- The positions of the walk are on or below the diagonal. -/
theorem walk_ok (X1 X2 X3 X4 : Vec F S1x64 .f32) (X5 X6 : Vec F S16384x128 .bf16) (X7 : Vec F S1x144x16384 .bf16) (X8 : Vec F S1x128 .f32) (σ₀ : St F)
    (hA : σ₀.a.2 ≤ σ₀.a.1) (hB : σ₀.b.2 ≤ σ₀.b.1) (hC : σ₀.c.2 ≤ σ₀.c.1) (k : ℕ) :
    (walk X1 X2 X3 X4 X5 X6 X7 X8 σ₀ k).a.2 ≤ (walk X1 X2 X3 X4 X5 X6 X7 X8 σ₀ k).a.1 ∧ (walk X1 X2 X3 X4 X5 X6 X7 X8 σ₀ k).b.2 ≤ (walk X1 X2 X3 X4 X5 X6 X7 X8 σ₀ k).b.1 ∧
      (walk X1 X2 X3 X4 X5 X6 X7 X8 σ₀ k).c.2 ≤ (walk X1 X2 X3 X4 X5 X6 X7 X8 σ₀ k).c.1 := by
  induction k with
  | zero => exact ⟨hA, hB, hC⟩
  | succ k ih =>
    dsimp only [walk, trip]
    exact ⟨nxt_le _ (nxt_le _ ih.1), nxt_le _ (nxt_le _ ih.2.1), nxt_le _ (nxt_le _ ih.2.2)⟩

theorem trips_eq : k0_t1_loop.trips = 264 := by decide +kernel

/-- A grid point: from the inputs and anything in the result's block and the scratches, the walk's last state. -/
theorem wp_body (c : Dev nD) (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) (X1 X2 X3 X4 : Vec F S1x64 .f32) (X5 X6 : Vec F S16384x128 .bf16) (X7 : Vec F S1x144x16384 .bf16) (X8 : Vec F S1x128 .f32)
    (g9 : Vec F S16384x128 .f32) (g10 : Vec F S2x2x512x512 .f32) (g11 : Vec F S2x2x512x512 .bf16) (g12 : Vec F S2x2x1x512 .f32) (g13 : Vec F S2x2x144x512 .f32)
    (Q : PUnit → sProp 𝕄) :
    has c arg1 harg1 X1 ⊢ iprop(has c arg2 harg2 X2 -∗ has c arg3 harg3 X3 -∗ has c arg4 harg4 X4 -∗ has c arg5 harg5 X5 -∗ has c arg6 harg6 X6 -∗
      has c arg7 harg7 X7 -∗ has c arg8 harg8 X8 -∗ has c arg9 harg9 g9 -∗ has c arg10 harg10 g10 -∗ has c arg11 harg11 g11 -∗ has c arg12 harg12 g12 -∗ has c arg13 harg13 g13 -∗
      (has c arg1 harg1 X1 -∗ has c arg2 harg2 X2 -∗ has c arg3 harg3 X3 -∗ has c arg4 harg4 X4 -∗
        Mem c arg5 arg6 harg5 harg6 arg7 harg7 arg8 harg8 arg9 harg9 arg10 harg10 arg11 harg11 arg12 harg12 arg13 harg13 X5 X6 X7 X8 (walk X1 X2 X3 X4 X5 X6 X7 X8 (init X5 X6 g9 g10 g11 g12 g13) 264) -∗ Q ⟨⟩) -∗
      WP c (cc0_diff_attn (F := F) i arg1 harg1 arg2 harg2 arg3 harg3 arg4 harg4 arg5 harg5 arg6 harg6 arg7 harg7 arg8 harg8 arg9 harg9 arg10 harg10 arg11 harg11 arg12 harg12 arg13 harg13) Q) := by
  rw [body_eq]
  unfold bodyP
  rw [wp_seq]
  iintro H1 H2 H3 H4 H5 H6 H7 H8 H9 H10 H11 H12 H13 Hk
  iapply (wp_start c arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 g9 g10 g11 g12 g13 _) $$ H1 H2 H3 H4 H5 H6 H7 H8 H9 H10 H11 H12 H13
  iintro H1 H2 H3 H4 HM
  have hok := walk_ok X1 X2 X3 X4 X5 X6 X7 X8 (init X5 X6 g9 g10 g11 g12 g13) (by dsimp only [init]; decide) (by dsimp only [init]; decide) (by dsimp only [init]; decide)
  have h0 : (advQ (advQ 0#32 0#32) (advT 0#32 0#32), advT (advQ 0#32 0#32) (advT 0#32 0#32), advQ 0#32 0#32, advT 0#32 0#32, 0#32, 0#32,
      (init X5 X6 g9 g10 g11 g12 g13).x.1, (init X5 X6 g9 g10 g11 g12 g13).x.2.1, (init X5 X6 g9 g10 g11 g12 g13).x.2.2.1, (init X5 X6 g9 g10 g11 g12 g13).x.2.2.2,
      (init X5 X6 g9 g10 g11 g12 g13).m.1, (init X5 X6 g9 g10 g11 g12 g13).m.2.1, (init X5 X6 g9 g10 g11 g12 g13).m.2.2.1, (init X5 X6 g9 g10 g11 g12 g13).m.2.2.2)
      = carry (walk X1 X2 X3 X4 X5 X6 X7 X8 (init X5 X6 g9 g10 g11 g12 g13) 0) := by
    have e1 : advQ (advQ 0#32 0#32) (advT 0#32 0#32) = wd (nxt (nxt p0)).1 := by decide
    have e2 : advT (advQ 0#32 0#32) (advT 0#32 0#32) = wd (nxt (nxt p0)).2 := by decide
    have e3 : advQ 0#32 0#32 = wd (nxt p0).1 := by decide
    have e4 : advT 0#32 0#32 = wd (nxt p0).2 := by decide
    have e5 : 0#32 = wd p0.1 := by decide
    rw [e1, e2, e3, e4]
    dsimp only [carry, walk]
    rfl
  dsimp only
  rw [h0]
  have h00 : Mem c arg5 arg6 harg5 harg6 arg7 harg7 arg8 harg8 arg9 harg9 arg10 harg10 arg11 harg11 arg12 harg12 arg13 harg13 X5 X6 X7 X8 (init X5 X6 g9 g10 g11 g12 g13) ⊢ Mem c arg5 arg6 harg5 harg6 arg7 harg7 arg8 harg8 arg9 harg9 arg10 harg10 arg11 harg11 arg12 harg12 arg13 harg13 X5 X6 X7 X8 (walk X1 X2 X3 X4 X5 X6 X7 X8 (init X5 X6 g9 g10 g11 g12 g13) 0) := .rfl
  generalize (init X5 X6 g9 g10 g11 g12 g13) = σ₀ at hok h00 ⊢
  ihave HM := h00 $$ HM
  iapply (Scf.wp_for_bind (Fr := frame) (wpE := wpE (defs₀ (F := F)) Variants.none (c : Thread nD τ) none) (Es := Set.univ) _ _ _ k0_t1_ok _ _
    (fun k acc => iprop(⌜acc = carry (walk X1 X2 X3 X4 X5 X6 X7 X8 σ₀ k)⌝ ∗ Mem c arg5 arg6 harg5 harg6 arg7 harg7 arg8 harg8 arg9 harg9 arg10 harg10 arg11 harg11 arg12 harg12 arg13 harg13 X5 X6 X7 X8 (walk X1 X2 X3 X4 X5 X6 X7 X8 σ₀ k))) ?step) $$ [HM]
  case step =>
    intro k acc
    iintro ⟨%e, HM⟩
    subst e
    have ht : trip lane0 ninf0 (lamOf X1 X2 X3 X4) X5 X6 X7 X8 (walk X1 X2 X3 X4 X5 X6 X7 X8 σ₀ k) = walk X1 X2 X3 X4 X5 X6 X7 X8 σ₀ (k.val + 1) := rfl
    obtain ⟨hA, hB, hC⟩ := hok k.val
    generalize (walk X1 X2 X3 X4 X5 X6 X7 X8 σ₀ k.val) = σ at hA hB hC ht ⊢
    generalize (walk X1 X2 X3 X4 X5 X6 X7 X8 σ₀ (k.val + 1)) = τ at ht ⊢
    subst ht
    rw [show k0_t1_body i arg1 harg1 arg2 harg2 arg3 harg3 arg4 harg4 arg5 harg5 arg6 harg6 arg7 harg7 arg8 harg8 arg9 harg9 arg10 harg10 arg11 harg11 arg12 harg12 arg13 harg13 (lamOf X1 X2 X3 X4) lane0 ninf0 k (carry σ) = _ from trip_eq i arg1 harg1 arg2 harg2 arg3 harg3 arg4 harg4 arg5 harg5 arg6 harg6 arg7 harg7 arg8 harg8 arg9 harg9 arg10 harg10 arg11 harg11 arg12 harg12 arg13 harg13 (lamOf X1 X2 X3 X4) lane0 ninf0 k (wd σ.a.1) (wd σ.a.2) (wd σ.b.1) (wd σ.b.2) (wd σ.c.1) (wd σ.c.2) σ.x.1 σ.x.2.1 σ.x.2.2.1 σ.x.2.2.2 σ.m.1 σ.m.2.1 σ.m.2.2.1 σ.m.2.2.2]
    iapply (wp_trip c i arg1 harg1 arg2 harg2 arg3 harg3 arg4 harg4 arg5 harg5 arg6 harg6 arg7 harg7 arg8 harg8 arg9 harg9 arg10 harg10 arg11 harg11 arg12 harg12 arg13 harg13 X5 X6 X7 X8 (lamOf X1 X2 X3 X4) lane0 ninf0 σ hA hB hC _) $$ HM
    iintro HM
    isplitr; · ipureintro; rfl
    iexact HM
  · isplitr; · ipureintro; rfl
    iexact HM
  iintro %acc ⟨%e, HM⟩
  iapply (wp_pure' c _ _)
  have hT : Scf.trips k0_t1_loop.lb k0_t1_loop.ub k0_t1_loop.st = 264 := trips_eq
  rw [hT]
  iapply Hk $$ H1 H2 H3 H4 HM

end Cert.Proof.Attn

end
-- ==== Proof.Run.lean ====
/-
  The run of the attention kernel, over any float values: the pipeline's proof data, the body at a grid point, the launch.

  At a grid point the kernel leaves in the result's block what the walk leaves there from some contents of the block and the
  scratches; so much is all that is said of the result here, and it is said as a relation.
-/
module

public import proofs.«01_k».proof.Proof.Start
public import proofs.«01_k».proof.Proof.Gen.KernelIdeal.Frame
public import Idealize.ShloMosaic.Lib.Pipeline.DatRel
public import Idealize.ShloMosaic.Lib.Pipeline.ArrRel

@[expose] public section

set_option maxRecDepth 65536

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationRel cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one output. -/
def fgt0 : Fin 9 → Bool := fun | ⟨8, _⟩ => true | _ => false

/-- What a head's grid point leaves in the result's block, from given contents of the block and the scratches. -/
def outAt (c : Dev nD) (t : Fin cfg0.N) (g9 : Vec F S16384x128 .f32) (g10 : Vec F S2x2x512x512 .f32) (g11 : Vec F S2x2x512x512 .bf16)
    (g12 : Vec F S2x2x1x512 .f32) (g13 : Vec F S2x2x144x512 .f32) : Vec F S16384x128 .f32 :=
  (walk (iblk m c 0 t) (iblk m c 1 t) (iblk m c 2 t) (iblk m c 3 t) (iblk m c 4 t) (iblk m c 5 t) (iblk m c 6 t) (iblk m c 7 t)
    (init (iblk m c 4 t) (iblk m c 5 t) g9 g10 g11 g12 g13) 264).X9

/-- What is said of the result's block after a grid point. -/
def Rl0 (c : Dev nD) : (w : Fin cfg0.W) → Fin cfg0.N → ((cfg0.win w).block.Idx → Elt F (cfg0.win w).elt) → Prop
  | ⟨8, _⟩ => fun t X => ∃ g9 g10 g11 g12 g13, X = outAt m c t g9 g10 g11 g12 g13
  | _ => fun _ _ => True

/-- The pipeline's proof data: the inputs' blocks stay; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

omit [FloatOps F] in
/-- A whole memref owned at `X` reads `X`. -/
theorem has_of_owns (c : Dev nD) {s : Shape} {e : EltTy} (M : Memref sig .tc .vmem s e) (h : M.IsWhole) (X : s.Idx → Elt F e) :
    (owns (c : Thread nD τ) M fullShare X : sProp 𝕄) ⊢ has c M h X := by
  unfold owns has
  iintro ⟨%f, %hf, H⟩
  obtain rfl := h.eq_unread hf
  rw [h.set_eq_univ]
  iexact H

omit [FloatOps F] in
theorem owns_of_has (c : Dev nD) {s : Shape} {e : EltTy} (M : Memref sig .tc .vmem s e) (h : M.IsWhole) (X : s.Idx → Elt F e) :
    has c M h X ⊢ (owns (c : Thread nD τ) M fullShare X : sProp 𝕄) := by
  unfold owns has
  iintro H
  iexists _
  isplitr
  · ipureintro; exact h.read_unread X
  rw [h.set_eq_univ]
  iexact H

omit [FloatOps F] in
/-- A whole memref's buffer at some contents, read through the memref. -/
theorem has_of_some (c : Dev nD) {s : Shape} {e : EltTy} (M : Memref sig .tc .vmem s e) (h : M.IsWhole) :
    iprop(∃ f, M.view.loc (c : Thread nD τ) ↦{fullShare} f) ⊢ iprop(∃ X : s.Idx → Elt F e, has c M h X : sProp 𝕄) := by
  unfold has
  iintro ⟨%f, H⟩
  iexists (M.view.read (Elt F) f)
  rw [h.unread_read]
  iexact H

omit [FloatOps F] in
theorem some_of_has (c : Dev nD) {s : Shape} {e : EltTy} (M : Memref sig .tc .vmem s e) (h : M.IsWhole) :
    iprop(∃ X : s.Idx → Elt F e, has c M h X) ⊢ iprop(∃ f, M.view.loc (c : Thread nD τ) ↦{fullShare} f : sProp 𝕄) := by
  unfold has
  iintro ⟨%X, H⟩
  iexists _
  iexact H

/-- The body from owned memrefs to owned memrefs: the inputs stay, the scratches hold anything, the block is `walk`'s. -/
theorem wp_owned (c : Dev nD) (i : grid0.Coords) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S1x144x16384 .bf16) (harg7 : arg7.IsWhole) (arg8 : Memref sig .tc .vmem S1x128 .f32) (harg8 : arg8.IsWhole) (arg9 : Memref sig .tc .vmem S16384x128 .f32) (harg9 : arg9.IsWhole) (arg10 : Memref sig .tc .vmem S2x2x512x512 .f32) (harg10 : arg10.IsWhole) (arg11 : Memref sig .tc .vmem S2x2x512x512 .bf16) (harg11 : arg11.IsWhole) (arg12 : Memref sig .tc .vmem S2x2x1x512 .f32) (harg12 : arg12.IsWhole) (arg13 : Memref sig .tc .vmem S2x2x144x512 .f32) (harg13 : arg13.IsWhole) (X1 X2 X3 X4 : Vec F S1x64 .f32) (X5 X6 : Vec F S16384x128 .bf16) (X7 : Vec F S1x144x16384 .bf16) (X8 : Vec F S1x128 .f32)
    (R : sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ Y, owns (c : Thread nD τ) arg9 fullShare Y) ∗ ((∃ f, has c arg10 harg10 f) ∗ (∃ f, has c arg11 harg11 f) ∗ (∃ f, has c arg12 harg12 f) ∗ (∃ f, has c arg13 harg13 f)) ∗ R)
      ⊢ WP c (cc0_diff_attn (F := F) i arg1 harg1 arg2 harg2 arg3 harg3 arg4 harg4 arg5 harg5 arg6 harg6 arg7 harg7 arg8 harg8 arg9 harg9 arg10 harg10 arg11 harg11 arg12 harg12 arg13 harg13) (fun _ =>
        iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ X, ⌜∃ g9 g10 g11 g12 g13, X = (walk X1 X2 X3 X4 X5 X6 X7 X8 (init X5 X6 g9 g10 g11 g12 g13) 264).X9⌝ ∗ owns (c : Thread nD τ) arg9 fullShare X) ∗ ((∃ f, has c arg10 harg10 f) ∗ (∃ f, has c arg11 harg11 f) ∗ (∃ f, has c arg12 harg12 f) ∗ (∃ f, has c arg13 harg13 f)) ∗ R)) := by
  iintro ⟨H1, H2, H3, H4, H5, H6, H7, H8, ⟨%Y, H9⟩, ⟨⟨%f0, S0⟩, ⟨%f1, S1⟩, ⟨%f2, S2⟩, ⟨%f3, S3⟩⟩, HR⟩
  ihave H1 := (has_of_owns c arg1 harg1 X1) $$ H1
  ihave H2 := (has_of_owns c arg2 harg2 X2) $$ H2
  ihave H3 := (has_of_owns c arg3 harg3 X3) $$ H3
  ihave H4 := (has_of_owns c arg4 harg4 X4) $$ H4
  ihave H5 := (has_of_owns c arg5 harg5 X5) $$ H5
  ihave H6 := (has_of_owns c arg6 harg6 X6) $$ H6
  ihave H7 := (has_of_owns c arg7 harg7 X7) $$ H7
  ihave H8 := (has_of_owns c arg8 harg8 X8) $$ H8
  ihave H9 := (has_of_owns c arg9 harg9 Y) $$ H9
  iapply (wp_body c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 X8 Y f0 f1 f2 f3) $$ H1 H2 H3 H4 H5 H6 H7 H8 H9 S0 S1 S2 S3
  iintro H1 H2 H3 H4 HM
  unfold Mem
  generalize hσ : walk X1 X2 X3 X4 X5 X6 X7 X8 (init X5 X6 Y f0 f1 f2 f3) 264 = σ
  icases HM with ⟨H5, H6, H7, H8, H9, S0, S1, S2, S3⟩
  ihave H1 := (owns_of_has c arg1 harg1 X1) $$ H1
  ihave H2 := (owns_of_has c arg2 harg2 X2) $$ H2
  ihave H3 := (owns_of_has c arg3 harg3 X3) $$ H3
  ihave H4 := (owns_of_has c arg4 harg4 X4) $$ H4
  ihave H5 := (owns_of_has c arg5 harg5 X5) $$ H5
  ihave H6 := (owns_of_has c arg6 harg6 X6) $$ H6
  ihave H7 := (owns_of_has c arg7 harg7 X7) $$ H7
  ihave H8 := (owns_of_has c arg8 harg8 X8) $$ H8
  ihave H9 := (owns_of_has c arg9 harg9 σ.X9) $$ H9
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists σ.X9
    isplitr; · ipureintro; exact ⟨Y, f0, f1, f2, f3, by rw [hσ]⟩
    iexact H9
  isplitr [HR]
  · isplitl [S0]; · iexists _; iexact S0
    isplitl [S1]; · iexists _; iexact S1
    isplitl [S2]; · iexists _; iexact S2
    iexists _; iexact S3
  iexact HR

/-- What the body is called with at a grid point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ Y, ⌜((dats m 0 c).toRRel fgt0 (Rl0 m c)).Finds 8 t Y⌝ ∗ owns (c : Thread nD τ) (st0_8 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, ⌜Rl0 m c 8 t X⌝ ∗ owns (c : Thread nD τ) (st0_8 t) fullShare X))

set_option maxHeartbeats 1000000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  refine triple_restated (wp_owned c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) (iblk m c 6 t) (iblk m c 7 t) (iprop((∃ r, prngReg c r) ∗ (dats m 0 c).owesAt () t.castSucc))) rfl ?_ fun _ => ?_
  · unfold bodyPre
    have b0 : ∀ d, (dats m 0 c).before 0 t d = iblk m c 0 t := before0_0_of m (dats m 0 c) (A_eq m c 0) (fun _ => rfl) t
    have b1 : ∀ d, (dats m 0 c).before 1 t d = iblk m c 1 t := before0_1_of m (dats m 0 c) (A_eq m c 1) (fun _ => rfl) t
    have b2 : ∀ d, (dats m 0 c).before 2 t d = iblk m c 2 t := before0_2_of m (dats m 0 c) (A_eq m c 2) (fun _ => rfl) t
    have b3 : ∀ d, (dats m 0 c).before 3 t d = iblk m c 3 t := before0_3_of m (dats m 0 c) (A_eq m c 3) (fun _ => rfl) t
    have b4 : ∀ d, (dats m 0 c).before 4 t d = iblk m c 4 t := before0_4_of m (dats m 0 c) (A_eq m c 4) (fun _ => rfl) t
    have b5 : ∀ d, (dats m 0 c).before 5 t d = iblk m c 5 t := before0_5_of m (dats m 0 c) (A_eq m c 5) (fun _ => rfl) t
    have b6 : ∀ d, (dats m 0 c).before 6 t d = iblk m c 6 t := before0_6_of m (dats m 0 c) (A_eq m c 6) (fun _ => rfl) t
    have b7 : ∀ d, (dats m 0 c).before 7 t d = iblk m c 7 t := before0_7_of m (dats m 0 c) (A_eq m c 7) (fun _ => rfl) t
    simp only [b0, b1, b2, b3, b4, b5, b6, b7]
    rw [show (dats m 0 c).Φ t.castSucc = Pipeline.ΦA spec0 c from rfl]
    unfold Pipeline.ΦA
    rw [scopedRest0_eq]
    iintro ⟨⟨⟨S0, S1, S2, S3⟩, Hp⟩, HO, ⟨%d0, H0⟩, ⟨%d1, H1⟩, ⟨%d2, H2⟩, ⟨%d3, H3⟩, ⟨%d4, H4⟩, ⟨%d5, H5⟩, ⟨%d6, H6⟩, ⟨%d7, H7⟩, ⟨%Y, %hY, H8⟩⟩
    ihave S0 := (show (iprop(∃ f : Buf (Elt F) ((c : Thread nD τ).loc cc0_scratch0), ((c : Thread nD τ).loc cc0_scratch0) ↦{fullShare} f) : sProp 𝕄) ⊢ _ from has_of_some c (Memref.whole cc0_scratch0) (Memref.isWhole_whole _)) $$ S0
    ihave S1 := (show (iprop(∃ f : Buf (Elt F) ((c : Thread nD τ).loc cc0_scratch1), ((c : Thread nD τ).loc cc0_scratch1) ↦{fullShare} f) : sProp 𝕄) ⊢ _ from has_of_some c (Memref.whole cc0_scratch1) (Memref.isWhole_whole _)) $$ S1
    ihave S2 := (show (iprop(∃ f : Buf (Elt F) ((c : Thread nD τ).loc cc0_scratch2), ((c : Thread nD τ).loc cc0_scratch2) ↦{fullShare} f) : sProp 𝕄) ⊢ _ from has_of_some c (Memref.whole cc0_scratch2) (Memref.isWhole_whole _)) $$ S2
    ihave S3 := (show (iprop(∃ f : Buf (Elt F) ((c : Thread nD τ).loc cc0_scratch3), ((c : Thread nD τ).loc cc0_scratch3) ↦{fullShare} f) : sProp 𝕄) ⊢ _ from has_of_some c (Memref.whole cc0_scratch3) (Memref.isWhole_whole _)) $$ S3
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists Y; iexact H8
    isplitl [S0 S1 S2 S3]
    · isplitl [S0]; · iexact S0
      isplitl [S1]; · iexact S1
      isplitl [S2]; · iexact S2
      iexact S3
    isplitl [Hp]; · iexact Hp
    iexact HO
  · unfold bodyPost
    rw [show (dats m 0 c).Φ t.succ = Pipeline.ΦA spec0 c from rfl, show (dats m 0 c).owesAt () t.succ = (dats m 0 c).owesAt () t.castSucc from rfl]
    rw [show (dats m 0 c).after 0 t = iblk m c 0 t from rfl]
    rw [show (dats m 0 c).after 1 t = iblk m c 1 t from rfl]
    rw [show (dats m 0 c).after 2 t = iblk m c 2 t from rfl]
    rw [show (dats m 0 c).after 3 t = iblk m c 3 t from rfl]
    rw [show (dats m 0 c).after 4 t = iblk m c 4 t from rfl]
    rw [show (dats m 0 c).after 5 t = iblk m c 5 t from rfl]
    rw [show (dats m 0 c).after 6 t = iblk m c 6 t from rfl]
    rw [show (dats m 0 c).after 7 t = iblk m c 7 t from rfl]
    unfold Pipeline.ΦA
    rw [scopedRest0_eq]
    iintro ⟨H0, H1, H2, H3, H4, H5, H6, H7, ⟨%X, %hX, H8⟩, ⟨S0, S1, S2, S3⟩, Hp, HO⟩
    ihave S0 := (show _ ⊢ (iprop(∃ f : Buf (Elt F) ((c : Thread nD τ).loc cc0_scratch0), ((c : Thread nD τ).loc cc0_scratch0) ↦{fullShare} f) : sProp 𝕄) from some_of_has c (Memref.whole cc0_scratch0) (Memref.isWhole_whole _)) $$ S0
    ihave S1 := (show _ ⊢ (iprop(∃ f : Buf (Elt F) ((c : Thread nD τ).loc cc0_scratch1), ((c : Thread nD τ).loc cc0_scratch1) ↦{fullShare} f) : sProp 𝕄) from some_of_has c (Memref.whole cc0_scratch1) (Memref.isWhole_whole _)) $$ S1
    ihave S2 := (show _ ⊢ (iprop(∃ f : Buf (Elt F) ((c : Thread nD τ).loc cc0_scratch2), ((c : Thread nD τ).loc cc0_scratch2) ↦{fullShare} f) : sProp 𝕄) from some_of_has c (Memref.whole cc0_scratch2) (Memref.isWhole_whole _)) $$ S2
    ihave S3 := (show _ ⊢ (iprop(∃ f : Buf (Elt F) ((c : Thread nD τ).loc cc0_scratch3), ((c : Thread nD τ).loc cc0_scratch3) ↦{fullShare} f) : sProp 𝕄) from some_of_has c (Memref.whole cc0_scratch3) (Memref.isWhole_whole _)) $$ S3
    isplitl [S0 S1 S2 S3 Hp]
    · isplitr [Hp]
      · isplitl [S0]; · iexact S0
        isplitl [S1]; · iexact S1
        isplitl [S2]; · iexact S2
        iexact S3
      iexact Hp
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists X
    isplitr; · ipureintro; exact hX
    iexact H8

/-- The body's row of the table. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt0 (Rl0 m c) := fun t => by
  rw [bigSep_W0, bigSep_W0, defs₀_row]
  exact triple_restated (sound_body m c t) rfl .rfl fun _ => .rfl

-- the run's implicit arguments are found by unifying its conclusion with this statement
set_option backward.isDefEq.respectTransparency.types false in
/-- Every weakly fair run ends, the inputs where they were, the result's blocks as `Rl0` says, the counters at zero. -/
theorem run_main :
    θ_run defs (onTc (τ := τ) (main (F := F))) (s₀ m ρ)
      (fun r => Pipeline.RDat.FramePost (cfgs 0) (fun c => (dats m 0 c).toRRel fgt0 (Rl0 m c)) (V m) r ∧ r.2.sem = fun _ => 0) :=
  Pipeline.RDat.θ_run_frame (Q' := _) cfgs (0 : Fin 1) launch0 defs₀ Variants.none (fun c => (dats m 0 c).toRRel fgt0 (Rl0 m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)
    (hQ' := fun _ h => h)

end Cert.Proof.Attn

end
-- ==== Proof.Frames.lean ====
/- The arguments after a run: as they were launched, for any float values. -/
module

public import proofs.«01_k».proof.Proof.Run

@[expose] public section

set_option maxRecDepth 65536

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationRel cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the run leaves in the arguments. -/
theorem args_of {r : PUnit × MemSt nD τ sig (Elt F)}
    (h : Pipeline.RDat.FramePost (cfgs 0) (fun c => (dats m 0 c).toRRel fgt0 (Rl0 m c)) (V m) r ∧ r.2.sem = fun _ => 0) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    (h.1.arr_in c 7 rfl).trans ((A_eq m c 7).trans (V_main_arg7 m c))⟩

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_of m h, h.2⟩) (run_main m ρ)

end Cert.Proof.Attn

end
-- ==== Proof.Same.lean ====
/- The kernel and its idealization have the same text: their tables of bodies are equal. -/
module

public import proofs.«01_k».proof.Defs
public import proofs.«01_k».proof.Proof.Gen.Kernel
public import proofs.«01_k».proof.Proof.Gen.KernelIdeal

@[expose] public section

set_option maxRecDepth 65536

namespace Cert.Proof

open Idealize.ShloMosaic

variable {F : FTy → Type} [FloatOps F]

theorem body_same : @Cert.Kernel.cc0_diff_attn F _ _ = @Cert.KernelIdeal.cc0_diff_attn F _ _ := rfl

/-- The tables branch on the label each by a function of its own, so they are compared label by label. -/
theorem defs₀_same : Cert.Kernel.defs₀ (F := F) = Cert.KernelIdeal.defs₀ (F := F) := by
  unfold Cert.Kernel.defs₀ Cert.KernelIdeal.defs₀
  refine congrArg Defs.onTc ?_
  funext l a
  rcases l with ⟨_ | n, h⟩
  · obtain ⟨t, s⟩ := a
    dsimp only
    rw [body_same]
    rfl
  · exact absurd h (Nat.not_lt.2 (Nat.le_add_left _ _))

theorem defs_same : Cert.Kernel.defs (F := F) = Cert.KernelIdeal.defs (F := F) := by
  unfold Cert.Kernel.defs Cert.KernelIdeal.defs
  rw [defs₀_same]
  rfl

end Cert.Proof
-- ==== Proof.Finite.lean ====
/-
  What the precondition says: every entry of the first seven arguments is a real number.
-/
module

public import proofs.«01_k».proof.Proof.Gen.Pre_finite
public import Idealize.ShloMosaic.Lib.Pointwise
public import Idealize.ShloMosaic.Lib.ReduceAll

@[expose] public section

set_option maxRecDepth 65536

noncomputable section

namespace Cert.Proof.Attn

open Cert.Pre_finite Cert.Pre_finite.Gen
open Idealize.ShloMosaic

/-- An array's entries as real numbers. -/
def realOf {n k : ℕ} (A : (⟨2, ![n, k]⟩ : Shape).Idx → EReal) (i j : ℕ) : ℝ := if h : i < n ∧ j < k then (A (ix2 ⟨i, h.1⟩ ⟨j, h.2⟩)).toReal else 0

theorem realOf_apply {n k : ℕ} (A : (⟨2, ![n, k]⟩ : Shape).Idx → EReal) (i : Fin n) (j : Fin k) (h : A (ix2 i j) ≠ ⊤ ∧ A (ix2 i j) ≠ ⊥) :
    A (ix2 i j) = ((realOf A i.val j.val : ℝ) : EReal) := by
  unfold realOf
  rw [dif_pos ⟨i.isLt, j.isLt⟩]
  exact (EReal.coe_toReal h.1 h.2).symm

theorem inf_top : Ideal.ofBits .f32 0x7F800000#32 = ⊤ := by
  simp [Ideal.ofBits, Ideal.ieee]

/-- An entry whose absolute value is below infinity is real. -/
theorem abs_lt (x : EReal) (h : Ideal.cmp .olt (max x (-x)) (Ideal.ofBits .f32 0x7F800000#32) = 1#1) : x ≠ ⊤ ∧ x ≠ ⊥ := by
  rw [inf_top] at h
  constructor <;> rintro rfl <;> simp [Ideal.cmp] at h

/-- One of the precondition's conjuncts over a row, -/
def allRow (A : FVec Ideal S1x64 .f32) : IVec S_ 1 :=
  Host.reduce IntOp.andi (cmpf .olt (Host.absf A) (broadcastInDim S1x64 ![] bcast_S_S1x64 (constant S_ .f32 0x7F800000#32))) (constantI S_ 1 1#1) reducesTo_S1x64_S_d0_1 h_S_
/-- and one over a matrix. -/
def allMat (A : FVec Ideal S16384x512 .f32) : IVec S_ 1 :=
  Host.reduce IntOp.andi (cmpf .olt (Host.absf A) (broadcastInDim S16384x512 ![] bcast_S_S16384x512 (constant S_ .f32 0x7F800000#32))) (constantI S_ 1 1#1) reducesTo_S16384x512_S_d0_1 h_S_

instance : Subsingleton S_.Idx := ⟨fun a b => funext fun x => x.elim0⟩

theorem row_real (A : FVec Ideal S1x64 .f32) (h : allRow A ix0 = 1#1) (i : Fin 1) (j : Fin 64) : A (ix2 i j) = ((realOf A i.val j.val : ℝ) : EReal) :=
  realOf_apply A i j (abs_lt _ (Host.reduce_andi_all _ _ _ _ ix0 h (ix2 i j)))
theorem mat_real (A : FVec Ideal S16384x512 .f32) (h : allMat A ix0 = 1#1) (i : Fin 16384) (j : Fin 512) : A (ix2 i j) = ((realOf A i.val j.val : ℝ) : EReal) :=
  realOf_apply A i j (abs_lt _ (Host.reduce_andi_all _ _ _ _ ix0 h (ix2 i j)))

/-- The precondition in its conjuncts. -/
theorem finite_all (A0 A1 A2 A3 : FVec Ideal S1x64 .f32) (A4 A5 A6 : FVec Ideal S16384x512 .f32) (A7 : FVec Ideal S1x128 .f32)
    (h : Cert.Pre_finite.fn (F := Ideal) A0 A1 A2 A3 A4 A5 A6 A7 = fun _ => 1#1) :
    allRow A0 ix0 = 1#1 ∧ allRow A1 ix0 = 1#1 ∧ allRow A2 ix0 = 1#1 ∧ allRow A3 ix0 = 1#1 ∧ allMat A4 ix0 = 1#1 ∧ allMat A5 ix0 = 1#1 ∧ allMat A6 ix0 = 1#1 := by
  have h0 := congrFun h ix0
  have h1 : IntOp.andi (IntOp.andi (IntOp.andi (IntOp.andi (IntOp.andi (IntOp.andi (IntOp.andi 1#1 (allRow A0 ix0)) (allRow A1 ix0)) (allRow A2 ix0)) (allRow A3 ix0)) (allMat A4 ix0)) (allMat A5 ix0)) (allMat A6 ix0) = 1#1 := h0
  simp only [IntOp.andi_eq_one] at h1
  obtain ⟨⟨⟨⟨⟨⟨⟨-, a⟩, b⟩, c⟩, d⟩, e⟩, f⟩, g⟩ := h1
  exact ⟨a, b, c, d, e, f, g⟩

end Cert.Proof.Attn

end
-- ==== Proof.Slots.lean ====
/-
  The scratches read at an entry, after the puts of a half trip.
-/
module

public import proofs.«01_k».proof.Proof.Step
public import Idealize.ShloMosaic.Lib.Pointwise

@[expose] public section

set_option maxRecDepth 65536

noncomputable section

namespace Cert.Proof.Attn

open Cert.KernelIdeal Cert.KernelIdeal.Gen
open Idealize.ShloMosaic

theorem put_hit {α : Type} {s : Shape} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hh : ∀ a, off a ≤ (y a).val ∧ (y a).val < off a + size a := fun a => by
    have := h a; have := (z a).isLt; omega
  show (if h : _ then w (Rect.unitLocal (s := s) (off := off) (size := size) y h) else _) = w z
  rw [dif_pos hh]
  exact congrArg w (funext fun a => Fin.ext (by
    show (y a).val - off a = (z a).val
    have := h a; omega))

theorem put_miss {α : Type} {s : Shape} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  show (if h : _ then w (Rect.unitLocal (s := s) (off := off) (size := size) y h) else _) = _
  rw [dif_neg fun hh => by have := hh a; omega]

theorem window_at {α : Type} {s : Shape} (x : s.Idx → α) (off size : Fin s.rank → ℕ) (inb : ∀ a, off a + size a ≤ s.size a)
    (y : (Rect.unit off size inb).shape.Idx) (z : s.Idx) (h : ∀ a, (z a).val = off a + (y a).val) : VecWindow.window x off size inb y = x z := by
  show x _ = x z
  exact congrArg x (funext fun a => Fin.ext (by
    have e : ((Rect.unit off size inb).emb y a).val = off a + 1 * (y a).val := rfl
    rw [e, h a, one_mul]))

variable {F : FTy → Type} [FloatOps F]

/-- Which of the four tiles an entry lies in. -/
abbrev nOf (c : Fin 2) (i : Fin 512) : ℕ := 2 * c.val + i.val / 256
/-- Its column there. -/
abbrev rOf (i : Fin 512) : Fin 256 := ⟨i.val % 256, Nat.mod_lt _ (by omega)⟩

theorem put4_miss {e : EltTy} (X : S2x2x512x512.Idx → Elt F e) (s : ℕ) (w : ℕ → S1x1x512x256.Idx → Elt F e) (s' c : Fin 2) (j i : Fin 512)
    (h : s'.val ≠ s) : put4 X s w (ix4 s' c j i) = X (ix4 s' c j i) := by
  have hm : ∀ k n, (((ix4 s' c j i : S2x2x512x512.Idx) 0).val < bo s k n 0 ∨ bo s k n 0 + S1x1x512x256.size 0 ≤ ((ix4 s' c j i : S2x2x512x512.Idx) 0).val) := fun k n => by
    show s'.val < s ∨ s + 1 ≤ s'.val; omega
  unfold put4
  rw [put_miss _ _ _ _ _ 0 (hm _ _), put_miss _ _ _ _ _ 0 (hm _ _), put_miss _ _ _ _ _ 0 (hm _ _), put_miss _ _ _ _ _ 0 (hm _ _)]

theorem put4_hit {e : EltTy} (X : S2x2x512x512.Idx → Elt F e) (s : ℕ) (w : ℕ → S1x1x512x256.Idx → Elt F e) (s' c : Fin 2) (j i : Fin 512)
    (h : s'.val = s) : put4 X s w (ix4 s' c j i) = w (nOf c i) (ix4 0 0 j (rOf i)) := by
  subst h
  have hit : ∀ (k n : ℕ) (Y : S2x2x512x512.Idx → Elt F e) (w' : S1x1x512x256.Idx → Elt F e), c.val = k → 256 * (i.val / 256) = n →
      VecWindow.put Y (bo s'.val k n) S1x1x512x256.size w' (ix4 s' c j i) = w' (ix4 0 0 j (rOf i)) := fun k n Y w' hk hn =>
    put_hit Y _ _ w' _ (ix4 0 0 j (rOf i)) fun a => match a with
      | ⟨0, _⟩ => rfl
      | ⟨1, _⟩ => hk
      | ⟨2, _⟩ => (Nat.zero_add _).symm
      | ⟨3, _⟩ => by show i.val = n + i.val % 256; omega
  have missC : ∀ (k n : ℕ) (Y : S2x2x512x512.Idx → Elt F e) (w' : S1x1x512x256.Idx → Elt F e), c.val ≠ k →
      VecWindow.put Y (bo s'.val k n) S1x1x512x256.size w' (ix4 s' c j i) = Y (ix4 s' c j i) := fun k n Y w' hk =>
    put_miss Y _ _ w' _ 1 (by show c.val < k ∨ k + 1 ≤ c.val; omega)
  have missN : ∀ (k n : ℕ) (Y : S2x2x512x512.Idx → Elt F e) (w' : S1x1x512x256.Idx → Elt F e), (i.val < n ∨ n + 256 ≤ i.val) →
      VecWindow.put Y (bo s'.val k n) S1x1x512x256.size w' (ix4 s' c j i) = Y (ix4 s' c j i) := fun k n Y w' hk =>
    put_miss Y _ _ w' _ 3 (by show i.val < n ∨ n + 256 ≤ i.val; omega)
  have hi := i.isLt
  unfold put4 nOf
  obtain hc | hc : c.val = 0 ∨ c.val = 1 := by omega
  all_goals obtain hn | hn : i.val / 256 = 0 ∨ i.val / 256 = 1 := by omega
  · rw [missC 1 256 _ _ (by omega), missC 1 0 _ _ (by omega), missN 0 256 _ _ (by omega), hit 0 0 _ _ hc (by omega), hn, hc]
  · rw [missC 1 256 _ _ (by omega), missC 1 0 _ _ (by omega), hit 0 256 _ _ hc (by omega), hn, hc]
  · rw [missN 1 256 _ _ (by omega), hit 1 0 _ _ hc (by omega), hn, hc]
  · rw [hit 1 256 _ _ hc (by omega), hn, hc]

theorem putA_miss (X : Vec F S2x2x1x512 .f32) (s : ℕ) (w : ℕ → Vec F S1x1x1x256 .f32) (s' c : Fin 2) (i : Fin 512)
    (h : s'.val ≠ s) : putA X s w (ix4 s' c 0 i) = X (ix4 s' c 0 i) := by
  have hm : ∀ k n, (((ix4 s' c 0 i : S2x2x1x512.Idx) 0).val < bo s k n 0 ∨ bo s k n 0 + S1x1x1x256.size 0 ≤ ((ix4 s' c 0 i : S2x2x1x512.Idx) 0).val) := fun k n => by
    show s'.val < s ∨ s + 1 ≤ s'.val; omega
  unfold putA
  rw [put_miss _ _ _ _ _ 0 (hm _ _), put_miss _ _ _ _ _ 0 (hm _ _), put_miss _ _ _ _ _ 0 (hm _ _), put_miss _ _ _ _ _ 0 (hm _ _)]

theorem putA_hit (X : Vec F S2x2x1x512 .f32) (s : ℕ) (w : ℕ → Vec F S1x1x1x256 .f32) (s' c : Fin 2) (i : Fin 512)
    (h : s'.val = s) : putA X s w (ix4 s' c 0 i) = w (nOf c i) (ix4 0 0 0 (rOf i)) := by
  subst h
  have hit : ∀ (k n : ℕ) (Y : Vec F S2x2x1x512 .f32) (w' : Vec F S1x1x1x256 .f32), c.val = k → 256 * (i.val / 256) = n →
      VecWindow.put Y (bo s'.val k n) S1x1x1x256.size w' (ix4 s' c 0 i) = w' (ix4 0 0 0 (rOf i)) := fun k n Y w' hk hn =>
    put_hit Y _ _ w' _ (ix4 0 0 0 (rOf i)) fun a => match a with
      | ⟨0, _⟩ => rfl
      | ⟨1, _⟩ => hk
      | ⟨2, _⟩ => rfl
      | ⟨3, _⟩ => by show i.val = n + i.val % 256; omega
  have missC : ∀ (k n : ℕ) (Y : Vec F S2x2x1x512 .f32) (w' : Vec F S1x1x1x256 .f32), c.val ≠ k →
      VecWindow.put Y (bo s'.val k n) S1x1x1x256.size w' (ix4 s' c 0 i) = Y (ix4 s' c 0 i) := fun k n Y w' hk =>
    put_miss Y _ _ w' _ 1 (by show c.val < k ∨ k + 1 ≤ c.val; omega)
  have missN : ∀ (k n : ℕ) (Y : Vec F S2x2x1x512 .f32) (w' : Vec F S1x1x1x256 .f32), (i.val < n ∨ n + 256 ≤ i.val) →
      VecWindow.put Y (bo s'.val k n) S1x1x1x256.size w' (ix4 s' c 0 i) = Y (ix4 s' c 0 i) := fun k n Y w' hk =>
    put_miss Y _ _ w' _ 3 (by show i.val < n ∨ n + 256 ≤ i.val; omega)
  have hi := i.isLt
  unfold putA nOf
  obtain hc | hc : c.val = 0 ∨ c.val = 1 := by omega
  all_goals obtain hn | hn : i.val / 256 = 0 ∨ i.val / 256 = 1 := by omega
  · rw [missC 1 256 _ _ (by omega), missC 1 0 _ _ (by omega), missN 0 256 _ _ (by omega), hit 0 0 _ _ hc (by omega), hn, hc]
  · rw [missC 1 256 _ _ (by omega), missC 1 0 _ _ (by omega), hit 0 256 _ _ hc (by omega), hn, hc]
  · rw [missN 1 256 _ _ (by omega), hit 1 0 _ _ hc (by omega), hn, hc]
  · rw [hit 1 256 _ _ hc (by omega), hn, hc]

theorem win4_at (X : Vec F S2x2x512x512 .f32) (s : ℕ) (hs : s < 2) (c : Fin 2) (j i : Fin 512) :
    win4 X s hs (nOf c i) (ix4 0 0 j (rOf i)) = X (ix4 ⟨s, hs⟩ c j i) := by
  have hi := i.isLt
  unfold nOf
  obtain hc | hc : c.val = 0 ∨ c.val = 1 := by omega
  all_goals obtain hn | hn : i.val / 256 = 0 ∨ i.val / 256 = 1 := by omega
  all_goals
    rw [hc, hn]
    refine window_at X _ _ _ _ _ fun a => ?_
    match a with
    | ⟨0, _⟩ => rfl
    | ⟨1, _⟩ => exact hc
    | ⟨2, _⟩ => exact (Nat.zero_add _).symm
    | ⟨3, _⟩ => first | (show i.val = 0 + i.val % 256; omega) | (show i.val = 256 + i.val % 256; omega)

end Cert.Proof.Attn

end
-- ==== Proof.Spec.lean ====
/-
  The softmax's sums in real numbers: the scores of one map, the weights at a shift of the exponent, their sums with the
  values, and how the sums change with the shift and grow with the keys.
-/
module

public import Idealize.ShloMosaic.PureOps.Ideal

@[expose] public section

set_option maxRecDepth 65536

noncomputable section

namespace Cert.Proof.Attn

open Idealize.ShloMosaic

variable (Q K V : ℕ → ℕ → ℝ)

/-- The score of key `j` for query `i` in map `c`, as a power of two, -/
def sc (c i j : ℕ) : ℝ := ∑ d ∈ Finset.range 64, K j (64 * c + d) * Q i (64 * c + d)
/-- masked, -/
def scM (c i j : ℕ) : EReal := if j ≤ i then ((sc Q K c i j : ℝ) : EReal) else ⊥
/-- its weight at shift `μ`, -/
def wt (μ : ℝ) (c i j : ℕ) : ℝ := if j ≤ i then Real.rpow 2 (sc Q K c i j - μ) else 0
/-- and the sum of the first `n` weights with a row of values. -/
def accR (μ : ℝ) (c i e n : ℕ) : ℝ := ∑ j ∈ Finset.range n, V e j * wt Q K μ c i j

theorem exp2_scM (μ : ℝ) (c i j : ℕ) : Ideal.exp2 (scM Q K c i j - (μ : EReal)) = ((wt Q K μ c i j : ℝ) : EReal) := by
  unfold scM wt
  split
  · rw [← EReal.coe_sub, Ideal.exp2_coe]
  · rw [EReal.bot_sub, Ideal.exp2_bot, EReal.coe_zero]

theorem wt_shift (μ ν : ℝ) (c i j : ℕ) : Real.rpow 2 (μ - ν) * wt Q K μ c i j = wt Q K ν c i j := by
  unfold wt
  split
  · show (2 : ℝ) ^ (μ - ν) * (2 : ℝ) ^ (sc Q K c i j - μ) = (2 : ℝ) ^ (sc Q K c i j - ν)
    rw [← Real.rpow_add (by norm_num)]; congr 1; ring
  · exact mul_zero _

theorem accR_shift (μ ν : ℝ) (c i e n : ℕ) : Real.rpow 2 (μ - ν) * accR Q K V μ c i e n = accR Q K V ν c i e n := by
  unfold accR
  rw [Finset.mul_sum]
  exact Finset.sum_congr rfl fun j _ => by rw [mul_left_comm, wt_shift]

theorem accR_tile (μ : ℝ) (c i e t : ℕ) :
    accR Q K V μ c i e (512 * t) + ∑ j : Fin 512, V e (512 * t + j.val) * wt Q K μ c i (512 * t + j.val) = accR Q K V μ c i e (512 * (t + 1)) := by
  unfold accR
  rw [mul_add, mul_one, Finset.sum_range_add, Finset.sum_range (fun x => V e (512 * t + x) * wt Q K μ c i (512 * t + x))]

/-- The keys past the query weigh nothing. -/
theorem accR_past (μ : ℝ) (c i e n : ℕ) (h : i < n) : accR Q K V μ c i e n = accR Q K V μ c i e (i + 1) := by
  unfold accR
  symm
  refine Finset.sum_subset (fun x hx => ?_) (fun x _ hx => ?_)
  · rw [Finset.mem_range] at hx ⊢; omega
  · rw [Finset.mem_range] at hx
    unfold wt
    rw [if_neg (by omega), mul_zero]

/-- A weighted mean of the values does not depend on the shift. -/
theorem accR_div (μ ν : ℝ) (c i e f n : ℕ) : accR Q K V μ c i e n / accR Q K V μ c i f n = accR Q K V ν c i e n / accR Q K V ν c i f n := by
  rw [← accR_shift Q K V μ ν, ← accR_shift Q K V μ ν c i f]
  exact (mul_div_mul_left _ _ (ne_of_gt (Real.rpow_pos_of_pos (by norm_num) _))).symm

theorem accR_ones_pos (μ : ℝ) (c i f : ℕ) (h : ∀ j ≤ i, V f j = 1) : 0 < accR Q K V μ c i f (i + 1) := by
  unfold accR
  refine Finset.sum_pos (fun j hj => ?_) ⟨0, Finset.mem_range.2 (by omega)⟩
  have hj : j ≤ i := by rw [Finset.mem_range] at hj; omega
  rw [h j hj, one_mul]
  unfold wt
  rw [if_pos hj]
  exact Real.rpow_pos_of_pos (by norm_num) _

/-- A sum of reals is real. -/
theorem coe_sum_fin {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A largest of finitely many that are none of them infinite is not infinite, -/
theorem fold_max_ne_top {ι : Type} (s : Finset ι) (f : ι → EReal) (h : ∀ x ∈ s, f x ≠ ⊤) : s.fold max ⊥ f ≠ ⊤ := by
  classical
  induction s using Finset.induction_on with
  | empty => simp
  | insert a s ha ih =>
    rw [Finset.fold_insert ha]
    rcases max_choice (f a) (s.fold max ⊥ f) with e | e <;> rw [e]
    · exact h a (Finset.mem_insert_self a s)
    · exact ih fun x hx => h x (Finset.mem_insert_of_mem hx)

/-- nor minus infinity, if one of them is not. -/
theorem fold_max_ne_bot {ι : Type} (s : Finset ι) (f : ι → EReal) (x : ι) (hx : x ∈ s) (h : f x ≠ ⊥) : s.fold max ⊥ f ≠ ⊥ := by
  have : f x ≤ s.fold max ⊥ f := (Finset.le_fold_max (f x)).2 (.inr ⟨x, hx, le_rfl⟩)
  intro e
  rw [e] at this
  exact h (le_bot_iff.1 this)

end Cert.Proof.Attn

end
-- ==== Proof.Read.lean ====
/-
  The kernel's operations at the ideal instance, each read at an entry: the products of a tile's keys and queries, the
  mask, the weights, the factors, the accumulator and the row that ends.
-/
module

public import proofs.«01_k».proof.Proof.Slots
public import proofs.«01_k».proof.Proof.Start
public import proofs.«01_k».proof.Proof.Spec
public import Idealize.ShloMosaic.Lib.Pointwise

@[expose] public section

set_option maxRecDepth 65536

noncomputable section

namespace Cert.Proof.Attn

open Cert.KernelIdeal Cert.KernelIdeal.Gen
open Idealize.ShloMosaic

theorem neg_inf : Ideal.ofBits .f32 0xFF800000#32 = ⊥ := by
  simp [Ideal.ofBits, Ideal.ieee]

/-- A sum over the lanes below 64, -/
theorem sum_lo (f : Fin 128 → EReal) :
    ∑ x : Fin 128, Scalar.select (IntOp.cmpi .slt (BitVec.ofNat 32 x.val) 64#32) (f x) 0 = ∑ d : Fin 64, f ⟨d.val, by omega⟩ := by
  have h : ∀ x : Fin 128, IntOp.cmpi .slt (BitVec.ofNat 32 x.val) 64#32 = if x.val < 64 then 1#1 else 0#1 := by decide +kernel
  rw [Fin.sum_univ_add (a := 64) (b := 64) (f := fun x : Fin 128 => Scalar.select (IntOp.cmpi .slt (BitVec.ofNat 32 x.val) 64#32) (f x) 0)]
  rw [Finset.sum_eq_zero (s := (Finset.univ : Finset (Fin 64))) (f := fun i : Fin 64 => Scalar.select (IntOp.cmpi .slt (BitVec.ofNat 32 (Fin.natAdd 64 i : Fin 128).val) 64#32) (f (Fin.natAdd 64 i)) 0)
    (fun i _ => by rw [h, if_neg (by simp)]; rfl), add_zero]
  exact Finset.sum_congr rfl fun i _ => by
    rw [h, if_pos (by simp)]; rfl

/-- and over those from 64 on. -/
theorem sum_hi (f : Fin 128 → EReal) :
    ∑ x : Fin 128, Scalar.select (IntOp.cmpi .sge (BitVec.ofNat 32 x.val) 64#32) (f x) 0 = ∑ d : Fin 64, f ⟨64 + d.val, by omega⟩ := by
  have h : ∀ x : Fin 128, IntOp.cmpi .sge (BitVec.ofNat 32 x.val) 64#32 = if x.val < 64 then 0#1 else 1#1 := by decide +kernel
  rw [Fin.sum_univ_add (a := 64) (b := 64) (f := fun x : Fin 128 => Scalar.select (IntOp.cmpi .sge (BitVec.ofNat 32 x.val) 64#32) (f x) 0)]
  rw [Finset.sum_eq_zero (s := (Finset.univ : Finset (Fin 64))) (f := fun i : Fin 64 => Scalar.select (IntOp.cmpi .sge (BitVec.ofNat 32 (Fin.castAdd 64 i : Fin 128).val) 64#32) (f (Fin.castAdd 64 i)) 0)
    (fun i _ => by rw [h, if_pos (by simp)]; rfl), zero_add]
  exact Finset.sum_congr rfl fun i _ => by
    rw [h, if_neg (by simp)]; rfl

theorem dotA_lo (k q : Vec Ideal S512x128 .bf16) (j : Fin 512) (r : Fin 256) :
    dotA k (qLo lane0 q) (ix2 j r) = ∑ d : Fin 64, k (ix2 j ⟨d.val, by omega⟩) * q (ix2 ⟨r.val, by omega⟩ ⟨d.val, by omega⟩) := by
  rw [← sum_lo (fun d => k (ix2 j d) * q (ix2 ⟨r.val, by omega⟩ d))]
  pointwise [dotA, qLo]

theorem dotA_hi (k q : Vec Ideal S512x128 .bf16) (j : Fin 512) (r : Fin 256) :
    dotA k (qHi lane0 q) (ix2 j r) = ∑ d : Fin 64, k (ix2 j ⟨64 + d.val, by omega⟩) * q (ix2 ⟨r.val, by omega⟩ ⟨64 + d.val, by omega⟩) := by
  rw [← sum_hi (fun d => k (ix2 j d) * q (ix2 ⟨r.val, by omega⟩ d))]
  pointwise [dotA, qHi]

theorem dotB_lo (k q : Vec Ideal S512x128 .bf16) (j : Fin 512) (r : Fin 256) :
    dotB k (qLo lane0 q) (ix2 j r) = ∑ d : Fin 64, k (ix2 j ⟨d.val, by omega⟩) * q (ix2 ⟨256 + r.val, by omega⟩ ⟨d.val, by omega⟩) := by
  rw [← sum_lo (fun d => k (ix2 j d) * q (ix2 ⟨256 + r.val, by omega⟩ d))]
  pointwise [dotB, qLo]

theorem dotB_hi (k q : Vec Ideal S512x128 .bf16) (j : Fin 512) (r : Fin 256) :
    dotB k (qHi lane0 q) (ix2 j r) = ∑ d : Fin 64, k (ix2 j ⟨64 + d.val, by omega⟩) * q (ix2 ⟨256 + r.val, by omega⟩ ⟨64 + d.val, by omega⟩) := by
  rw [← sum_hi (fun d => k (ix2 j d) * q (ix2 ⟨256 + r.val, by omega⟩ d))]
  pointwise [dotB, qHi]

theorem sle_select (a b : ℕ) (ha : a < 2 ^ 20) (hb : b < 2 ^ 20) (x y : EReal) :
    Scalar.select (IntOp.cmpi .sle (BitVec.ofNat 32 a) (BitVec.ofNat 32 b)) x y = if a ≤ b then x else y := by
  have h : IntOp.cmpi .sle (BitVec.ofNat 32 a) (BitVec.ofNat 32 b) = BitVec.ofBool ((BitVec.ofNat 32 a).sle (BitVec.ofNat 32 b)) := rfl
  have h2 : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  rw [h, h2]
  by_cases hab : a ≤ b
  · rw [if_pos hab, decide_eq_true hab]; rfl
  · rw [if_neg hab, decide_eq_false hab]; rfl

theorem causal_apply (qw kw : Fin 32) (d : ℕ) (hd : d ≤ 256) (s : FVec Ideal S512x256 .f32) (j : Fin 512) (r : Fin 256) :
    causal (wd qw) (wd kw) (BitVec.ofNat 32 d) s (ix2 j r) = if 512 * kw.val + j.val ≤ 512 * qw.val + d + r.val then s (ix2 j r) else ⊥ := by
  rw [← sle_select (512 * kw.val + j.val) (512 * qw.val + d + r.val) (by omega) (by omega)]
  have e1 : BitVec.ofNat 32 (512 * kw.val + j.val) = IntOp.addi (BitVec.ofNat 32 ↑j) (Scalar.muli (wd kw) 512#32) := by
    show _ = BitVec.ofNat 32 ↑j + BitVec.ofNat 32 kw.val * 512#32
    apply BitVec.eq_of_toNat_eq
    simp
    omega
  have e2 : BitVec.ofNat 32 (512 * qw.val + d + r.val) = IntOp.addi (BitVec.ofNat 32 ↑r) (Scalar.addi (Scalar.muli (wd qw) 512#32) (BitVec.ofNat 32 d)) := by
    show _ = BitVec.ofNat 32 ↑r + (BitVec.ofNat 32 qw.val * 512#32 + BitVec.ofNat 32 d)
    apply BitVec.eq_of_toNat_eq
    simp
    omega
  rw [e1, e2, ← neg_inf]
  pointwise [causal]

theorem up_apply (s : FVec Ideal S512x256 .f32) (j : Fin 512) (r : Fin 256) : up s (ix4 0 0 j r) = s (ix2 j r) := by
  pointwise [up]

theorem alphaOf_apply (t : BitVec 32) (mx m : FVec Ideal S1x256 .f32) (r : Fin 256) :
    alphaOf ninf0 t mx m (ix4 0 0 0 r) = Ideal.exp2 (mOld ninf0 t m (ix2 0 r) - max (mOld ninf0 t m (ix2 0 r)) (mx (ix2 0 r))) := by
  pointwise [alphaOf, mNew]
  rfl

theorem probOf_apply (mn : FVec Ideal S1x256 .f32) (s : Vec Ideal S1x1x512x256 .f32) (j : Fin 512) (r : Fin 256) :
    probOf mn s (ix4 0 0 j r) = Ideal.exp2 (s (ix4 0 0 j r) - mn (ix2 0 r)) := by
  pointwise [probOf]
  rfl

theorem accOf_apply (v : Vec Ideal S1x144x512 .bf16) (p : Vec Ideal S1x1x512x512 .bf16) (al : Vec Ideal S1x1x1x512 .f32) (acc : Vec Ideal S1x1x144x512 .f32)
    (e : Fin 144) (i : Fin 512) :
    accOf v p al acc (ix4 0 0 e i) = al (ix4 0 0 0 i) * acc (ix4 0 0 e i) + ∑ j : Fin 512, v (ix3 0 e j) * p (ix4 0 0 j i) := by
  pointwise [accOf]

theorem colMax_apply (s : FVec Ideal S512x256 .f32) (r : Fin 256) : colMax s (ix2 0 r) = Finset.fold max ⊥ (fun x : Fin 512 => s (ix2 x r)) Finset.univ := by
  rw [← neg_inf]
  pointwise [colMax]

theorem ninf_apply (r : Fin 256) : (ninf0 (F := Ideal)) (ix2 0 r) = ⊥ := by
  pointwise [k0_pay252]
  exact neg_inf

theorem zero_apply (s c : Fin 2) (e : Fin 144) (i : Fin 512) : (k0_pay253 (F := Ideal)) (ix4 s c e i) = 0 := by
  pointwise [k0_pay253]

/-- The running maximum a row starts from. -/
theorem mOld_apply (t : Fin 32) (m : FVec Ideal S1x256 .f32) (r : Fin 256) :
    mOld ninf0 (wd t) m (ix2 0 r) = if t = 0 then ⊥ else m (ix2 0 r) := by
  have h : ∀ t : Fin 32, Scalar.cmpi .eq (wd t) 0#32 = if t = 0 then 1#1 else 0#1 := by decide +kernel
  unfold mOld
  rw [h]
  split
  · exact ninf_apply r
  · rfl

variable (Q K : ℕ → ℕ → ℝ)

/-- A sum of products of reals over 64 lanes. -/
theorem sum_coe (f g : Fin 64 → EReal) (a b : ℕ → ℝ) (hf : ∀ d, f d = ((a d.val : ℝ) : EReal)) (hg : ∀ d, g d = ((b d.val : ℝ) : EReal)) :
    ∑ d : Fin 64, f d * g d = ((∑ d ∈ Finset.range 64, a d * b d : ℝ) : EReal) := by
  rw [Finset.sum_range (fun d => a d * b d), ← coe_sum_fin]
  exact Finset.sum_congr rfl fun d _ => by rw [hf, hg, EReal.coe_mul]

theorem tileOf_apply (X : Vec Ideal S16384x128 .bf16) (R : ℕ → ℕ → ℝ) (hX : ∀ (i : Fin 16384) (d : Fin 128), X (ix2 i d) = ((R i.val d.val : ℝ) : EReal))
    (q : Fin 32) (j : Fin 512) (d : Fin 128) : tileOf X q (ix2 j d) = ((R (512 * q.val + j.val) d.val : ℝ) : EReal) := by
  rw [← hX ⟨512 * q.val + j.val, by omega⟩ d]
  refine window_at X _ _ _ _ _ fun a => ?_
  match a with
  | ⟨0, _⟩ => rfl
  | ⟨1, _⟩ => exact (Nat.zero_add _).symm

/-- The scores a half trip puts into the scratch. -/
theorem scoresOf_apply (X5 X6 : Vec Ideal S16384x128 .bf16) (h5 : ∀ (i : Fin 16384) (d : Fin 128), X5 (ix2 i d) = ((Q i.val d.val : ℝ) : EReal))
    (h6 : ∀ (i : Fin 16384) (d : Fin 128), X6 (ix2 i d) = ((K i.val d.val : ℝ) : EReal)) (b : Bool) (p : Pos) (hp : p.2 ≤ p.1) (hb : b = decide (p.1 = p.2))
    (c : Fin 2) (j i : Fin 512) :
    scoresOf lane0 b X5 X6 p (nOf c i) (ix2 j (rOf i)) = scM Q K c.val (512 * p.1.val + i.val) (512 * p.2.val + j.val) := by
  have hm : ∀ (n : ℕ) (s : FVec Ideal S512x256 .f32), n = 256 * (i.val / 256) → s (ix2 j (rOf i)) = ((sc Q K c.val (512 * p.1.val + i.val) (512 * p.2.val + j.val) : ℝ) : EReal) →
      masked b (wd p.1) (wd p.2) (BitVec.ofNat 32 n) s (ix2 j (rOf i)) = scM Q K c.val (512 * p.1.val + i.val) (512 * p.2.val + j.val) := fun n s hn hs => by
    have hi := i.isLt
    have hj := j.isLt
    unfold scM
    cases b with
    | true =>
      show causal _ _ _ _ _ = _
      rw [causal_apply _ _ _ (by omega), hs]
      show (if 512 * p.2.val + j.val ≤ 512 * p.1.val + n + i.val % 256 then _ else _) = _
      rw [show 512 * p.1.val + n + i.val % 256 = 512 * p.1.val + i.val by omega]
    | false =>
      show s _ = _
      have hne : p.1 ≠ p.2 := by simpa using hb.symm
      have : p.2.val < p.1.val := lt_of_le_of_ne hp fun e => hne (Fin.ext e.symm)
      rw [hs, if_pos (by omega)]
  have hi := i.isLt
  unfold scoresOf nOf
  obtain hc | hc : c.val = 0 ∨ c.val = 1 := by omega
  all_goals obtain hn | hn : i.val / 256 = 0 ∨ i.val / 256 = 1 := by omega
  all_goals rw [hn]
  · rw [show 2 * c.val + 0 = 0 by omega]
    refine hm 0 _ (by omega) ?_
    rw [dotA_lo, sum_coe _ _ (fun d => K (512 * p.2.val + j.val) (64 * c.val + d)) (fun d => Q (512 * p.1.val + i.val) (64 * c.val + d))]
    · rfl
    · intro d; rw [tileOf_apply X6 K h6, hc]; simp
    · intro d; rw [tileOf_apply X5 Q h5, hc]; simp; congr 2; omega
  · rw [show 2 * c.val + 1 = 1 by omega]
    refine hm 256 _ (by omega) ?_
    rw [dotB_lo, sum_coe _ _ (fun d => K (512 * p.2.val + j.val) (64 * c.val + d)) (fun d => Q (512 * p.1.val + i.val) (64 * c.val + d))]
    · rfl
    · intro d; rw [tileOf_apply X6 K h6, hc]; simp
    · intro d; rw [tileOf_apply X5 Q h5, hc]; simp; congr 2; omega
  · rw [show 2 * c.val + 0 = 2 by omega]
    refine hm 0 _ (by omega) ?_
    rw [dotA_hi, sum_coe _ _ (fun d => K (512 * p.2.val + j.val) (64 * c.val + d)) (fun d => Q (512 * p.1.val + i.val) (64 * c.val + d))]
    · rfl
    · intro d; rw [tileOf_apply X6 K h6, hc]
    · intro d; rw [tileOf_apply X5 Q h5, hc]; simp; congr 2; omega
  · rw [show 2 * c.val + 1 = 3 by omega]
    refine hm 256 _ (by omega) ?_
    rw [dotB_hi, sum_coe _ _ (fun d => K (512 * p.2.val + j.val) (64 * c.val + d)) (fun d => Q (512 * p.1.val + i.val) (64 * c.val + d))]
    · rfl
    · intro d; rw [tileOf_apply X6 K h6, hc]
    · intro d; rw [tileOf_apply X5 Q h5, hc]; simp; congr 2; omega

end Cert.Proof.Attn

end
-- ==== Proof.Half.lean ====
/-
  Half a trip in numbers: where the weights of a position and the factors of its sums are ready, the sums become those of
  one more tile of keys, and the weights and factors of the next position become ready.
-/
module

public import proofs.«01_k».proof.Proof.Read

@[expose] public section

set_option maxRecDepth 65536

noncomputable section

namespace Cert.Proof.Attn

open Cert.KernelIdeal Cert.KernelIdeal.Gen
open Idealize.ShloMosaic

variable (Q K V : ℕ → ℕ → ℝ)

/-- The accumulators' slot of a row of tiles. -/
abbrev par (q : Fin 32) : Fin 2 := ⟨q.val % 2, Nat.mod_lt _ (by omega)⟩

/-- A column of four rows. -/
abbrev col (x : V4 Ideal) (c : Fin 2) (i : Fin 512) : EReal := pick x (nOf c i) (ix2 0 (rOf i))

/-- At shift `μ`, position `p`'s weights and factors are in slot `s`. -/
structure Ready (μ : Fin 2 → Fin 512 → ℝ) (s : Fin 2) (p : Pos) (σ : St Ideal) : Prop where
  m : ∀ c i, col σ.m c i = ((μ c i : ℝ) : EReal)
  w : ∀ (c : Fin 2) (j i : Fin 512), σ.X11 (ix4 s c j i) = ((wt Q K (μ c i) c.val (512 * p.1.val + i.val) (512 * p.2.val + j.val) : ℝ) : EReal)
  acc : ∀ (c : Fin 2) (e : Fin 144) (i : Fin 512), σ.X12 (ix4 s c 0 i) * σ.X13 (ix4 (par p.1) c e i)
    = ((accR Q K V (μ c i) c.val (512 * p.1.val + i.val) e.val (512 * p.2.val) : ℝ) : EReal)

/-- Position `p`'s scores are in slot `s`, their maxima at hand. -/
structure Scored (s : Fin 2) (p : Pos) (σ : St Ideal) : Prop where
  w : ∀ (c : Fin 2) (j i : Fin 512), σ.X10 (ix4 s c j i) = scM Q K c.val (512 * p.1.val + i.val) (512 * p.2.val + j.val)
  top : ∀ c i, col σ.x c i ≠ ⊤
  bot : p.2 = 0 → ∀ c i, col σ.x c i ≠ ⊥

/-- The sums of a position's row through its tile are in the accumulators. -/
def Done (μ : Fin 2 → Fin 512 → ℝ) (p : Pos) (X13 : Vec Ideal S2x2x144x512 .f32) : Prop :=
  ∀ (c : Fin 2) (e : Fin 144) (i : Fin 512), X13 (ix4 (par p.1) c e i) = ((accR Q K V (μ c i) c.val (512 * p.1.val + i.val) e.val (512 * (p.2.val + 1)) : ℝ) : EReal)

theorem slot_hit {α : Type} (X : S2x2x144x512.Idx → α) (w : S1x1x144x512.Idx → α) (q : Fin 32) (c : Fin 2) (e : Fin 144) (i : Fin 512) :
    VecWindow.put X (slotO q c.val) S1x1x144x512.size w (ix4 (par q) c e i) = w (ix4 0 0 e i) := by
  refine put_hit (s := S2x2x144x512) X (slotO q c.val) S1x1x144x512.size w (ix4 (par q) c e i) (show S1x1x144x512.Idx from ix4 0 0 e i) fun a => ?_
  match a with
  | ⟨0, _⟩ => rfl
  | ⟨1, _⟩ => rfl
  | ⟨2, _⟩ => exact (Nat.zero_add _).symm
  | ⟨3, _⟩ => exact (Nat.zero_add _).symm

theorem slot_miss {α : Type} (X : S2x2x144x512.Idx → α) (w : S1x1x144x512.Idx → α) (q : Fin 32) (k : ℕ) (s c : Fin 2) (e : Fin 144) (i : Fin 512)
    (h : s ≠ par q ∨ c.val ≠ k) : VecWindow.put X (slotO q k) S1x1x144x512.size w (ix4 s c e i) = X (ix4 s c e i) := by
  rcases h with h | h
  · have h' : s.val ≠ q.val % 2 := fun e => h (Fin.ext e)
    exact put_miss X _ _ w _ 0 (by show s.val < q.val % 2 ∨ q.val % 2 + 1 ≤ s.val; omega)
  · exact put_miss X _ _ w _ 1 (by show c.val < k ∨ k + 1 ≤ c.val; omega)

theorem slot_window {α : Type} (X : S2x2x144x512.Idx → α) (q : Fin 32) (c : Fin 2) (k : ℕ) (hk : c.val = k) (hw) (e : Fin 144) (i : Fin 512) :
    VecWindow.window X (slotO q k) S1x1x144x512.size hw (ix4 0 0 e i) = X (ix4 (par q) c e i) :=
  window_at X _ _ _ _ _ fun a => match a with
    | ⟨0, _⟩ => rfl
    | ⟨1, _⟩ => hk
    | ⟨2, _⟩ => (Nat.zero_add _).symm
    | ⟨3, _⟩ => (Nat.zero_add _).symm

/-- One map's accumulator, after. -/
theorem accX_hit (s k : ℕ) (hs : s < 2) (hk : k < 2) (c : Fin 2) (hc : c.val = k) (q t : Fin 32) (ha) (hv) (X7 : Vec Ideal S1x144x16384 .bf16)
    (X11 : Vec Ideal S2x2x512x512 .bf16) (X12 : Vec Ideal S2x2x1x512 .f32) (X13 : Vec Ideal S2x2x144x512 .f32) (e : Fin 144) (i : Fin 512) :
    accX s k hs hk (VecWindow.window X7 (colO t) S1x144x512.size hv) (slotO q k) ha X11 X12 X13 (ix4 (par q) c e i)
      = X12 (ix4 ⟨s, hs⟩ c 0 i) * X13 (ix4 (par q) c e i) + ∑ j : Fin 512, X7 (ix3 0 e ⟨512 * t.val + j.val, by omega⟩) * X11 (ix4 ⟨s, hs⟩ c j i) := by
  subst hc
  unfold accX
  rw [slot_hit, accOf_apply, slot_window X13 q c _ rfl]
  congr 1
  · congr 1
    exact window_at X12 _ _ _ _ _ fun a => match a with
      | ⟨0, _⟩ => rfl
      | ⟨1, _⟩ => rfl
      | ⟨2, _⟩ => rfl
      | ⟨3, _⟩ => (Nat.zero_add _).symm
  · refine Finset.sum_congr rfl fun j _ => ?_
    congr 1
    · exact window_at X7 _ _ _ _ _ fun a => match a with
        | ⟨0, _⟩ => rfl
        | ⟨1, _⟩ => (Nat.zero_add _).symm
        | ⟨2, _⟩ => rfl
    · exact window_at X11 _ _ _ _ _ fun a => match a with
        | ⟨0, _⟩ => rfl
        | ⟨1, _⟩ => rfl
        | ⟨2, _⟩ => (Nat.zero_add _).symm
        | ⟨3, _⟩ => (Nat.zero_add _).symm

theorem pvX_hit (s : ℕ) (hs : s < 2) (q t : Fin 32) (ha hb hv) (X7 : Vec Ideal S1x144x16384 .bf16)
    (X11 : Vec Ideal S2x2x512x512 .bf16) (X12 : Vec Ideal S2x2x1x512 .f32) (X13 : Vec Ideal S2x2x144x512 .f32) (c : Fin 2) (e : Fin 144) (i : Fin 512) :
    pvX s hs (colO t) hv (slotO q 0) (slotO q 1) ha hb X7 X11 X12 X13 (ix4 (par q) c e i)
      = X12 (ix4 ⟨s, hs⟩ c 0 i) * X13 (ix4 (par q) c e i) + ∑ j : Fin 512, X7 (ix3 0 e ⟨512 * t.val + j.val, by omega⟩) * X11 (ix4 ⟨s, hs⟩ c j i) := by
  unfold pvX
  obtain hc | hc : c.val = 0 ∨ c.val = 1 := by omega
  · rw [show ∀ Y : Vec Ideal S2x2x144x512 .f32, accX s 1 hs (by omega) (VecWindow.window X7 (colO t) S1x144x512.size hv) (slotO q 1) hb X11 X12 Y (ix4 (par q) c e i) = Y (ix4 (par q) c e i)
      from fun Y => slot_miss Y _ q 1 _ c e i (.inr (by omega))]
    exact accX_hit s 0 hs _ c hc q t ha hv X7 X11 X12 X13 e i
  · rw [accX_hit s 1 hs _ c hc q t hb hv X7 X11 X12 _ e i]
    rw [show accX s 0 hs (by omega) (VecWindow.window X7 (colO t) S1x144x512.size hv) (slotO q 0) ha X11 X12 X13 (ix4 (par q) c e i) = X13 (ix4 (par q) c e i)
      from slot_miss X13 _ q 0 _ c e i (.inr (by omega))]

theorem pvX_miss (s : ℕ) (hs : s < 2) (q t : Fin 32) (ha hb hv) (X7 : Vec Ideal S1x144x16384 .bf16)
    (X11 : Vec Ideal S2x2x512x512 .bf16) (X12 : Vec Ideal S2x2x1x512 .f32) (X13 : Vec Ideal S2x2x144x512 .f32) (s' c : Fin 2) (h : s' ≠ par q) (e : Fin 144) (i : Fin 512) :
    pvX s hs (colO t) hv (slotO q 0) (slotO q 1) ha hb X7 X11 X12 X13 (ix4 s' c e i) = X13 (ix4 s' c e i) := by
  unfold pvX accX
  rw [slot_miss _ _ q 1 _ c e i (.inl h), slot_miss _ _ q 0 _ c e i (.inl h)]

theorem pick_mNew4 (t : BitVec 32) (x m : V4 Ideal) (n : ℕ) : pick (mNew4 ninf0 t x m) n = mNew ninf0 t (pick x n) (pick m n) := by
  rcases n with _ | _ | _ | n <;> rfl

theorem pick_max4 (T : ℕ → FVec Ideal S512x256 .f32) (n : ℕ) (h : n < 4) : pick (max4 T) n = colMax (T n) := by
  obtain rfl | rfl | rfl | rfl : n = 0 ∨ n = 1 ∨ n = 2 ∨ n = 3 := by omega
  all_goals simp only [pick, max4]

theorem nOf_lt (c : Fin 2) (i : Fin 512) : nOf c i < 4 := by
  have := c.isLt; have := i.isLt; unfold nOf; omega

theorem scM_ne_top (c i j : ℕ) : scM Q K c i j ≠ ⊤ := by
  unfold scM; split
  · exact EReal.coe_ne_top _
  · exact bot_ne_top

section
variable (X5 X6 : Vec Ideal S16384x128 .bf16) (X7 : Vec Ideal S1x144x16384 .bf16)
  (h5 : ∀ (i : Fin 16384) (d : Fin 128), X5 (ix2 i d) = ((Q i.val d.val : ℝ) : EReal))
  (h6 : ∀ (i : Fin 16384) (d : Fin 128), X6 (ix2 i d) = ((K i.val d.val : ℝ) : EReal))
  (h7 : ∀ (e : Fin 144) (j : Fin 16384), X7 (ix3 0 e j) = ((V e.val j.val : ℝ) : EReal))
  (s s' : ℕ) (hs : s < 2) (hs' : s' < 2) (hne : s ≠ s') (d : Bool) (p : Pos) (t : Fin 32) (r : Pos) (σ : St Ideal) (μ : Fin 2 → Fin 512 → ℝ)

include h7 hne in
/-- The values of a ready position are added. -/
theorem half_done (h : Ready Q K V μ ⟨s, hs⟩ r σ) : Done Q K V μ r (half lane0 ninf0 X5 X6 X7 s s' hs hs' d p t r σ).X13 := by
  intro c e i
  show pvX s hs (colO r.2) _ (slotO r.1 0) (slotO r.1 1) _ _ X7 _ _ σ.X13 (ix4 (par r.1) c e i) = _
  rw [pvX_hit]
  have e12 : softX12 ninf0 (wd t) s' σ.x σ.m σ.X12 (ix4 ⟨s, hs⟩ c 0 i) = σ.X12 (ix4 ⟨s, hs⟩ c 0 i) := putA_miss _ _ _ _ _ _ hne
  rw [e12, h.acc, ← accR_tile, EReal.coe_add, ← coe_sum_fin]
  congr 1
  refine Finset.sum_congr rfl fun j _ => ?_
  rw [h7]
  have e11 : ∀ Y, softX11 ninf0 (wd t) s' hs' σ.x σ.m Y σ.X11 (ix4 ⟨s, hs⟩ c j i) = σ.X11 (ix4 ⟨s, hs⟩ c j i) := fun Y => put4_miss (F := Ideal) (e := .bf16) _ _ _ _ _ _ _ hne
  rw [e11, h.w, EReal.coe_mul]

/-- The other accumulators stay. -/
theorem half_other (s'' c : Fin 2) (h : s'' ≠ par r.1) (e : Fin 144) (i : Fin 512) :
    (half lane0 ninf0 X5 X6 X7 s s' hs hs' d p t r σ).X13 (ix4 s'' c e i) = σ.X13 (ix4 s'' c e i) := pvX_miss _ _ _ _ _ _ _ _ _ _ _ _ _ h _ _

include h5 h6 in
theorem half_scored (hp : p.2 ≤ p.1) (hd : d = decide (p.1 = p.2)) : Scored Q K ⟨s, hs⟩ p (half lane0 ninf0 X5 X6 X7 s s' hs hs' d p t r σ) where
  w c j i := by
    show put4 (F := Ideal) (e := .f32) σ.X10 s (fun j => up (scoresOf lane0 d X5 X6 p j)) (ix4 ⟨s, hs⟩ c j i) = _
    rw [put4_hit (F := Ideal) (e := .f32) σ.X10 s _ ⟨s, hs⟩ c j i rfl]
    exact (up_apply _ _ _).trans (scoresOf_apply Q K X5 X6 h5 h6 d p hp hd c j i)
  top c i := by
    show pick (max4 (scoresOf lane0 d X5 X6 p)) (nOf c i) (ix2 0 (rOf i)) ≠ ⊤
    rw [pick_max4 _ _ (nOf_lt c i), colMax_apply]
    refine fold_max_ne_top _ _ fun j _ => ?_
    rw [scoresOf_apply Q K X5 X6 h5 h6 d p hp hd c j i]
    exact scM_ne_top _ _ _ _ _
  bot hz c i := by
    show pick (max4 (scoresOf lane0 d X5 X6 p)) (nOf c i) (ix2 0 (rOf i)) ≠ ⊥
    rw [pick_max4 _ _ (nOf_lt c i), colMax_apply]
    refine fold_max_ne_bot _ _ 0 (Finset.mem_univ _) ?_
    rw [scoresOf_apply Q K X5 X6 h5 h6 d p hp hd c 0 i]
    unfold scM
    rw [hz, if_pos (by simp)]
    exact EReal.coe_ne_bot _

end

/-- The shift of a position: the maximum after its tile. -/
def shift (t : Fin 32) (x m : V4 Ideal) (c : Fin 2) (i : Fin 512) : ℝ := (max (if t = 0 then ⊥ else col m c i) (col x c i)).toReal

theorem shift_coe (t : Fin 32) (x m : V4 Ideal) (c : Fin 2) (i : Fin 512) (hm : t ≠ 0 → ∃ μ : ℝ, col m c i = (μ : EReal)) (htop : col x c i ≠ ⊤) (hbot : t = 0 → col x c i ≠ ⊥) :
    max (if t = 0 then ⊥ else col m c i) (col x c i) = ((shift t x m c i : ℝ) : EReal) := by
  symm
  apply EReal.coe_toReal
  · by_cases h : t = 0
    · rw [if_pos h, max_eq_right bot_le]; exact htop
    · rw [if_neg h]
      obtain ⟨μ, e⟩ := hm h
      rw [e]
      rcases max_choice (μ : EReal) (col x c i) with e | e <;> rw [e]
      · exact EReal.coe_ne_top _
      · exact htop
  · by_cases h : t = 0
    · rw [if_pos h, max_eq_right bot_le]; exact hbot h
    · rw [if_neg h]
      obtain ⟨μ, e⟩ := hm h
      rw [e]
      intro h'
      have := le_max_left (μ : EReal) (col x c i)
      rw [h'] at this
      exact EReal.coe_ne_bot _ (le_bot_iff.1 this)

/-- The softmax's step on scored columns. -/
theorem soft_ready (s : ℕ) (hs : s < 2) (p : Pos) (x m : V4 Ideal) (X10 : Vec Ideal S2x2x512x512 .f32) (X11 : Vec Ideal S2x2x512x512 .bf16) (X12 : Vec Ideal S2x2x1x512 .f32)
    (hx : ∀ (c : Fin 2) (j i : Fin 512), X10 (ix4 ⟨s, hs⟩ c j i) = scM Q K c.val (512 * p.1.val + i.val) (512 * p.2.val + j.val))
    (hm : p.2 ≠ 0 → ∀ c i, ∃ μ : ℝ, col m c i = (μ : EReal)) (htop : ∀ c i, col x c i ≠ ⊤) (hbot : p.2 = 0 → ∀ c i, col x c i ≠ ⊥) :
    (∀ c i, col (mNew4 ninf0 (wd p.2) x m) c i = ((shift p.2 x m c i : ℝ) : EReal)) ∧
    (∀ (c : Fin 2) (j i : Fin 512), softX11 ninf0 (wd p.2) s hs x m X10 X11 (ix4 ⟨s, hs⟩ c j i) = ((wt Q K (shift p.2 x m c i) c.val (512 * p.1.val + i.val) (512 * p.2.val + j.val) : ℝ) : EReal)) ∧
    (∀ (c : Fin 2) (i : Fin 512), softX12 ninf0 (wd p.2) s x m X12 (ix4 ⟨s, hs⟩ c 0 i) = Ideal.exp2 ((if p.2 = 0 then ⊥ else col m c i) - ((shift p.2 x m c i : ℝ) : EReal))) := by
  have hmn : ∀ c i, col (mNew4 ninf0 (wd p.2) x m) c i = ((shift p.2 x m c i : ℝ) : EReal) := fun c i => by
    rw [← shift_coe p.2 x m c i (fun h => hm h c i) (htop c i) (fun h => hbot h c i)]
    unfold col
    rw [pick_mNew4]
    show max (mOld ninf0 (wd p.2) (pick m (nOf c i)) (ix2 0 (rOf i))) _ = _
    rw [mOld_apply]
  refine ⟨hmn, fun c j i => ?_, fun c i => ?_⟩
  · unfold softX11
    rw [put4_hit (F := Ideal) (e := .bf16) X11 s _ ⟨s, hs⟩ c j i rfl, probOf_apply, win4_at, hx]
    rw [show pick (mNew4 ninf0 (wd p.2) x m) (nOf c i) (ix2 0 (rOf i)) = _ from hmn c i, exp2_scM]
  · unfold softX12
    rw [putA_hit X12 s _ ⟨s, hs⟩ c i rfl, alphaOf_apply, mOld_apply, shift_coe p.2 x m c i (fun h => hm h c i) (htop c i) (fun h => hbot h c i)]

/-- What follows a position that is not the last. -/
theorem nxt_cases (r : Pos) : r ≠ (31, 31) → (nxt r).2 ≠ 0 → (nxt r).1 = r.1 ∧ (nxt r).2.val = r.2.val + 1 := by revert r; decide +kernel

section
variable (X5 X6 : Vec Ideal S16384x128 .bf16) (X7 : Vec Ideal S1x144x16384 .bf16)
  (h7 : ∀ (e : Fin 144) (j : Fin 16384), X7 (ix3 0 e j) = ((V e.val j.val : ℝ) : EReal))
  (s s' : ℕ) (hs : s < 2) (hs' : s' < 2) (hne : s ≠ s') (d : Bool) (p : Pos) (r : Pos) (σ : St Ideal) (μ : Fin 2 → Fin 512 → ℝ)

include h7 hne in
/-- The next position becomes ready. -/
theorem half_ready (h : Ready Q K V μ ⟨s, hs⟩ r σ) (hsc : Scored Q K ⟨s', hs'⟩ (nxt r) σ) (hr : r ≠ (31, 31)) :
    ∃ ν, Ready Q K V ν ⟨s', hs'⟩ (nxt r) (half lane0 ninf0 X5 X6 X7 s s' hs hs' d p (nxt r).2 r σ) := by
  have hmiss : ∀ (c : Fin 2) (j i : Fin 512), put4 (F := Ideal) (e := .f32) σ.X10 s (fun j => up (scoresOf lane0 d X5 X6 p j)) (ix4 ⟨s', hs'⟩ c j i)
      = scM Q K c.val (512 * (nxt r).1.val + i.val) (512 * (nxt r).2.val + j.val) := fun c j i =>
    (put4_miss _ _ _ _ _ _ _ (Ne.symm hne)).trans (hsc.w c j i)
  have hd := half_done Q K V X5 X6 X7 h7 s s' hs hs' hne d p (nxt r).2 r σ μ h
  obtain ⟨k1, k2, k3⟩ := soft_ready Q K s' hs' (nxt r) σ.x σ.m _ σ.X11 σ.X12 hmiss (fun _ c i => ⟨_, h.m c i⟩) hsc.top hsc.bot
  refine ⟨shift (nxt r).2 σ.x σ.m, ⟨k1, k2, fun c e i => ?_⟩⟩
  rw [show (half lane0 ninf0 X5 X6 X7 s s' hs hs' d p (nxt r).2 r σ).X12 (ix4 ⟨s', hs'⟩ c 0 i) = _ from k3 c i]
  by_cases hz : (nxt r).2 = 0
  · rw [if_pos hz, EReal.bot_sub, Ideal.exp2_bot, zero_mul, hz]
    simp [accR]
  · obtain ⟨e1, e2⟩ := nxt_cases r hr hz
    rw [if_neg hz, h.m, ← EReal.coe_sub, Ideal.exp2_coe, e1, hd c e i, ← EReal.coe_mul, accR_shift, e2]

end

end Cert.Proof.Attn

end
-- ==== Proof.Walk.lean ====
/-
  The walk in numbers: before each trip the first position is ready and the second scored, and the rows of tiles that
  have ended are in the result.
-/
module

public import proofs.«01_k».proof.Proof.Half

@[expose] public section

set_option maxRecDepth 65536

noncomputable section

namespace Cert.Proof.Attn

open Cert.KernelIdeal Cert.KernelIdeal.Gen
open Idealize.ShloMosaic

variable (Q K V : ℕ → ℕ → ℝ)

/-- A position's place in the walk. -/
abbrev ord (p : Pos) : ℕ := p.1.val * (p.1.val + 1) / 2 + p.2.val

theorem ord_nxt (p : Pos) : p.2 ≤ p.1 → p ≠ (31, 31) → ord (nxt p) = ord p + 1 := by revert p; decide +kernel
theorem ord_last (p : Pos) : p.2 ≤ p.1 → ord p < 527 → p ≠ (31, 31) := by revert p; decide +kernel
theorem diag_ord (p : Pos) (q : Fin 32) : p.2 ≤ p.1 → ord p = ord (q, q) → p = (q, q) := by
  have h : ∀ q : Fin 32, ∀ p : Pos, p.2 ≤ p.1 → ord p = ord (q, q) → p = (q, q) := by decide +kernel
  exact h q p
theorem flag0_eq (p : Pos) : p ≠ (31, 31) → flag0 p = decide (p.1 = p.2) := by revert p; decide +kernel
theorem par_nxt (q : Fin 32) : ((q, q) : Pos) ≠ (31, 31) → par q ≠ par (nxt (q, q)).1 := by revert q; decide +kernel
theorem not_diag (p : Pos) (q : Fin 32) : p ≠ (31, 31) → nxt p = (q, q) → p.1 ≠ p.2 := by
  have h : ∀ p : Pos, p ≠ (31, 31) → (nxt p).1 = (nxt p).2 → p.1 ≠ p.2 := by decide +kernel
  exact fun a b => h p a (by rw [b])

/-- The difference of the two maps' weighted means: query `g`, value column `e`; row 128 of the values holds the ones. -/
def diffR (l : ℝ) (g e : ℕ) : ℝ :=
  accR Q K V 0 0 g e (g + 1) / accR Q K V 0 0 g 128 (g + 1) - l * (accR Q K V 0 1 g e (g + 1) / accR Q K V 0 1 g 128 (g + 1))

/-- A row over its root mean square, scaled. -/
def normE (o : Fin 128 → EReal) (w : EReal) (e : Fin 128) : EReal :=
  o e * Ideal.rsqrt (Ideal.div (∑ x, o x * o x) (Ideal.ofBits .f32 0x43000000#32) + Ideal.ofBits .f32 0x3727C5AC#32) * w * Ideal.ofBits .f32 0x3F4CCCCD#32

theorem outOf_apply (lam : Ideal .f32) (a0 a1 : Vec Ideal S1x1x144x512 .f32) (nw : Vec Ideal S1x128 .f32) (i : Fin 512) (e : Fin 128) :
    outOf lam a0 a1 nw (ix2 i e) = normE (fun e => Ideal.div (a0 (ix4 0 0 ⟨e.val, by omega⟩ i)) (a0 (ix4 0 0 128 i))
      - lam * Ideal.div (a1 (ix4 0 0 ⟨e.val, by omega⟩ i)) (a1 (ix4 0 0 128 i))) (nw (ix2 0 e)) e := by
  pointwise [outOf, k0_pay2, k0_pay247, k0_pay246, normE]

theorem div_real (a b : ℝ) (h : b ≠ 0) : Ideal.div (a : EReal) (b : EReal) = ((a / b : ℝ) : EReal) := by
  rw [Ideal.div_coe h, ← EReal.coe_mul]; congr 1; ring

variable (l : ℝ) (X8 : Vec Ideal S1x128 .f32)

/-- A row of tiles is in the result. -/
def Row (q : Fin 32) (X9 : Vec Ideal S16384x128 .f32) : Prop :=
  ∀ (i : Fin 512) (e : Fin 128), X9 (ix2 ⟨512 * q.val + i.val, by omega⟩ e)
    = normE (fun e => ((diffR Q K V l (512 * q.val + i.val) e.val : ℝ) : EReal)) (X8 (ix2 0 e)) e

theorem out_row (hV : ∀ j < 16384, V 128 j = 1) (q : Fin 32) (μ : Fin 2 → Fin 512 → ℝ) (X13 : Vec Ideal S2x2x144x512 .f32) (h : Done Q K V μ (q, q) X13) (i : Fin 512) (e : Fin 128) :
    outOf (F := Ideal) (l : EReal) (VecWindow.window X13 (slotO q 0) S1x1x144x512.size (slotO0_inb q)) (VecWindow.window X13 (slotO q 1) S1x1x144x512.size (slotO1_inb q))
      (VecWindow.window X8 ![0, 0] S1x128.size inb_S1x128_S1x128_0_0) (ix2 i e)
      = normE (fun e => ((diffR Q K V l (512 * q.val + i.val) e.val : ℝ) : EReal)) (X8 (ix2 0 e)) e := by
  have hacc : ∀ (c : Fin 2) (k : ℕ) (hk : c.val = k) (hw) (e : Fin 144), VecWindow.window X13 (slotO q k) S1x1x144x512.size hw (ix4 0 0 e i)
      = ((accR Q K V (μ c i) k (512 * q.val + i.val) e.val (512 * q.val + i.val + 1) : ℝ) : EReal) := fun c k hk hw e => by
    rw [slot_window X13 q c k hk hw e i, h c e i, hk]
    exact congrArg _ (accR_past Q K V _ _ _ _ _ (by show 512 * q.val + i.val < 512 * (q.val + 1); omega))
  have hd : ∀ (c : Fin 2) (k : ℕ) (hk : c.val = k) (hw) (e : Fin 144), Ideal.div (VecWindow.window X13 (slotO q k) S1x1x144x512.size hw (ix4 0 0 e i)) (VecWindow.window X13 (slotO q k) S1x1x144x512.size hw (ix4 0 0 128 i))
      = ((accR Q K V 0 k (512 * q.val + i.val) e.val (512 * q.val + i.val + 1) / accR Q K V 0 k (512 * q.val + i.val) 128 (512 * q.val + i.val + 1) : ℝ) : EReal) := fun c k hk hw e => by
    rw [hacc c k hk hw e, hacc c k hk hw 128, show ((128 : Fin 144) : ℕ) = 128 from rfl, div_real _ _ (ne_of_gt (accR_ones_pos Q K V _ _ _ _ fun j hj => hV j (by omega)))]
    exact congrArg _ (accR_div Q K V _ _ _ _ _ _ _)
  rw [outOf_apply]
  have hw8 : VecWindow.window X8 ![0, 0] S1x128.size inb_S1x128_S1x128_0_0 (ix2 0 e) = X8 (ix2 0 e) := window_at X8 _ _ _ _ _ fun a => match a with
    | ⟨0, _⟩ => rfl
    | ⟨1, _⟩ => (Nat.zero_add _).symm
  rw [hw8]
  congr 1
  funext e
  rw [hd 0 0 rfl, hd 1 1 rfl, ← EReal.coe_mul, ← EReal.coe_sub]
  rfl

section
variable (X1 X2 X3 X4 : Vec Ideal S1x64 .f32) (X5 X6 : Vec Ideal S16384x128 .bf16) (X7 : Vec Ideal S1x144x16384 .bf16)
  (h5 : ∀ (i : Fin 16384) (d : Fin 128), X5 (ix2 i d) = ((Q i.val d.val : ℝ) : EReal))
  (h6 : ∀ (i : Fin 16384) (d : Fin 128), X6 (ix2 i d) = ((K i.val d.val : ℝ) : EReal))
  (h7 : ∀ (e : Fin 144) (j : Fin 16384), X7 (ix3 0 e j) = ((V e.val j.val : ℝ) : EReal))
  (hV : ∀ j < 16384, V 128 j = 1)

/-- Before trip `k`. -/
structure Before (k : ℕ) (σ : St Ideal) : Prop where
  le : σ.c.2 ≤ σ.c.1
  b : σ.b = nxt σ.c
  a : σ.a = nxt σ.b
  ord : ord σ.c = 2 * k
  ready : ∃ μ, Ready Q K V μ 0 σ.c σ
  scored : Scored Q K 1 σ.b σ
  rows : ∀ q : Fin 32, Attn.ord (q, q) < 2 * k → Row Q K V l X8 q σ.X9

theorem row_other (q q' : Fin 32) (h : q ≠ q') (X9 : Vec Ideal S16384x128 .f32) (w : S512x128.Idx → EReal) (hr : Row Q K V l X8 q X9) :
    Row Q K V l X8 q (VecWindow.put X9 (rowO q') S512x128.size w) := by
  intro i e
  have h' : q.val ≠ q'.val := fun e => h (Fin.ext e)
  rw [← hr i e]
  exact put_miss X9 _ _ w _ 0 (by
    show 512 * q.val + i.val < 512 * q'.val ∨ 512 * q'.val + 512 ≤ 512 * q.val + i.val
    omega)

include h5 h6 h7 hV in
theorem trip_before (k : ℕ) (hk : k < 264) (σ : St Ideal) (h : Before Q K V l X8 k σ) :
    (∀ q : Fin 32, ord (q, q) < 2 * (k + 1) → Row Q K V l X8 q (trip lane0 ninf0 (l : EReal) X5 X6 X7 X8 σ).X9) ∧
    (k + 1 < 264 → Before Q K V l X8 (k + 1) (trip lane0 ninf0 (l : EReal) X5 X6 X7 X8 σ)) := by
  obtain ⟨μ, hr⟩ := h.ready
  have hcl := ord_last σ.c h.le (by rw [h.ord]; omega)
  have hob := ord_nxt σ.c h.le hcl
  have hbl := nxt_le σ.c h.le
  have hsc := h.scored
  rw [h.b] at hsc
  have ha : σ.a = nxt (nxt σ.c) := by rw [h.a, h.b]
  have hal := nxt_le _ hbl
  obtain ⟨σ1, e1⟩ : ∃ σ1, σ1 = half lane0 ninf0 X5 X6 X7 0 1 (by omega) (by omega) (flag0 σ.a) σ.a σ.b.2 σ.c σ := ⟨_, rfl⟩
  have d1 : Done Q K V μ σ.c σ1.X13 := by rw [e1]; exact half_done Q K V X5 X6 X7 h7 0 1 _ _ (by omega) _ _ _ σ.c σ μ hr
  obtain ⟨ν, r1⟩ : ∃ ν, Ready Q K V ν 1 (nxt σ.c) σ1 := by
    rw [e1, h.b]; exact half_ready Q K V X5 X6 X7 h7 0 1 _ _ (by omega) _ _ σ.c σ μ hr hsc hcl
  obtain ⟨σ2, e2⟩ : ∃ σ2, σ2 = half lane0 ninf0 X5 X6 X7 1 0 (by omega) (by omega) (flag1 σ.a) (nxt σ.a) (nxt σ.b).2 (nxt σ.c) σ1 := ⟨_, rfl⟩
  have d2 : Done Q K V ν (nxt σ.c) σ2.X13 := by rw [e2]; exact half_done Q K V X5 X6 X7 h7 1 0 _ _ (by omega) _ _ _ _ σ1 ν r1
  have eπ : pair lane0 ninf0 X5 X6 X7 σ = σ2 := by rw [e2, e1]; rfl
  have rows : ∀ q : Fin 32, ord (q, q) < 2 * (k + 1) → Row Q K V l X8 q (flush (F := Ideal) (l : EReal) X8 σ.c σ2.X13 σ.X9) := by
    intro q hq
    have hfin : ∀ q : Fin 32, fin σ.c = q → (σ.c.1 = σ.c.2 ∨ (nxt σ.c).1 = (nxt σ.c).2) → (∃ μ, Done Q K V μ (q, q) σ2.X13) →
        Row Q K V l X8 q (flush (F := Ideal) (l : EReal) X8 σ.c σ2.X13 σ.X9) := fun q hf hc ⟨μ', hd⟩ i e => by
      subst hf
      unfold flush
      rw [if_pos hc]
      rw [← out_row Q K V l X8 hV _ μ' σ2.X13 hd i e]
      refine put_hit (s := S16384x128) σ.X9 (rowO (fin σ.c)) S512x128.size _ (ix2 ⟨512 * (fin σ.c).val + i.val, by omega⟩ e) (show S512x128.Idx from ix2 i e) fun a => ?_
      match a with
      | ⟨0, _⟩ => rfl
      | ⟨1, _⟩ => exact (Nat.zero_add _).symm
    by_cases hc : σ.c = (q, q)
    · refine hfin q (by rw [hc]; simp [fin]) (.inl (by rw [hc])) ⟨μ, ?_⟩
      intro c e i
      have hp : par q ≠ par (nxt σ.c).1 := by rw [hc]; exact par_nxt q (hc ▸ hcl)
      have := d1 c e i
      rw [hc] at this
      rw [e2]
      exact (half_other X5 X6 X7 1 0 _ _ _ _ _ _ σ1 _ c hp e i).trans this
    · by_cases hb : nxt σ.c = (q, q)
      · have hnd := not_diag σ.c q hcl hb
        refine hfin q (by show (if σ.c.1 = σ.c.2 then σ.c.1 else (nxt σ.c).1) = q; rw [if_neg hnd, hb]) (.inr (by rw [hb])) ⟨ν, hb ▸ d2⟩
      · have hlt : ord (q, q) < 2 * k := by
          have n1 : ord (q, q) ≠ 2 * k := fun e => hc (diag_ord _ _ h.le (by rw [h.ord, e]))
          have n2 : ord (q, q) ≠ 2 * k + 1 := fun e => hb (diag_ord _ _ hbl (by rw [hob, h.ord, e]))
          omega
        have hr9 := h.rows q hlt
        unfold flush
        split
        · rename_i hc'
          refine row_other Q K V l X8 q _ (fun hq' => ?_) _ _ hr9
          by_cases hd : σ.c.1 = σ.c.2
          · rw [fin, if_pos hd] at hq'
            exact hc (Prod.ext hq'.symm (hd ▸ hq'.symm))
          · rw [fin, if_neg hd] at hq'
            have := hc'.resolve_left hd
            exact hb (Prod.ext hq'.symm (this ▸ hq'.symm))
        · exact hr9
  refine ⟨fun q hq => ?_, fun hk' => ?_⟩
  · unfold trip; dsimp only; rw [eπ]; exact rows q hq
  · have hbn := ord_last _ hbl (by rw [hob, h.ord]; omega)
    have hoa := ord_nxt _ hbl hbn
    have han := ord_last _ hal (by rw [hoa, hob, h.ord]; omega)
    have s1 : Scored Q K 0 (nxt (nxt σ.c)) σ1 := by
      rw [e1, ← ha]
      exact half_scored Q K X5 X6 X7 h5 h6 0 1 _ _ _ σ.a _ _ σ (ha ▸ hal) (flag0_eq _ (ha ▸ han))
    obtain ⟨ξ, r2⟩ : ∃ ξ, Ready Q K V ξ 0 (nxt (nxt σ.c)) σ2 := by
      rw [e2, h.b]; exact half_ready Q K V X5 X6 X7 h7 1 0 _ _ (by omega) _ _ (nxt σ.c) σ1 ν r1 s1 hbn
    have s2 : Scored Q K 1 (nxt σ.a) σ2 := by
      rw [e2]
      exact half_scored Q K X5 X6 X7 h5 h6 1 0 _ _ _ (nxt σ.a) _ _ σ1 (nxt_le _ (ha ▸ hal)) rfl
    unfold trip
    rw [eπ]
    exact {
      le := hal
      b := by show nxt (nxt σ.b) = _; rw [h.b]
      a := by show nxt (nxt σ.a) = _; rw [h.a]
      ord := by show Attn.ord (nxt (nxt σ.c)) = _; rw [hoa, hob, h.ord]; ring
      ready := ⟨ξ, ⟨r2.m, r2.w, r2.acc⟩⟩
      scored := by
        have : nxt (nxt σ.b) = nxt σ.a := by rw [h.a]
        exact ⟨this ▸ s2.w, s2.top, this ▸ s2.bot⟩
      rows := rows }

end

end Cert.Proof.Attn

end
-- ==== Proof.Begin.lean ====
/-
  The walk from its first state to its last: every row of the result.
-/
module

public import proofs.«01_k».proof.Proof.Walk

@[expose] public section

set_option maxRecDepth 65536

noncomputable section

namespace Cert.Proof.Attn

open Cert.KernelIdeal Cert.KernelIdeal.Gen
open Idealize.ShloMosaic

variable (Q K V : ℕ → ℕ → ℝ) (l : ℝ) (X1 X2 X3 X4 : Vec Ideal S1x64 .f32) (X5 X6 : Vec Ideal S16384x128 .bf16) (X7 : Vec Ideal S1x144x16384 .bf16)
  (X8 : Vec Ideal S1x128 .f32)
  (hl : lamOf X1 X2 X3 X4 = ((l : ℝ) : EReal))
  (h5 : ∀ (i : Fin 16384) (d : Fin 128), X5 (ix2 i d) = ((Q i.val d.val : ℝ) : EReal))
  (h6 : ∀ (i : Fin 16384) (d : Fin 128), X6 (ix2 i d) = ((K i.val d.val : ℝ) : EReal))
  (h7 : ∀ (e : Fin 144) (j : Fin 16384), X7 (ix3 0 e j) = ((V e.val j.val : ℝ) : EReal))
  (hV : ∀ j < 16384, V 128 j = 1)
  (g9 : Vec Ideal S16384x128 .f32) (g10 : Vec Ideal S2x2x512x512 .f32) (g11 : Vec Ideal S2x2x512x512 .bf16) (g12 : Vec Ideal S2x2x1x512 .f32) (g13 : Vec Ideal S2x2x144x512 .f32)

include h5 h6 in
/-- The first state is as it should be before the first trip. -/
theorem init_before : Before Q K V l X8 0 (init X5 X6 g9 g10 g11 g12 g13) := by
  have s0 := half_scored Q K X5 X6 (fun _ => 0) h5 h6 0 1 (by omega) (by omega) true p0 0 p0 { init X5 X6 g9 g10 g11 g12 g13 with X10 := g10 } (le_refl _) (by decide)
  have w0 : ∀ (c : Fin 2) (j i : Fin 512), initS X5 X6 g10 (ix4 0 c j i) = scM Q K c.val (512 * p0.1.val + i.val) (512 * p0.2.val + j.val) := fun c j i => by
    unfold initS
    rw [put4_miss (F := Ideal) (e := .f32) _ 1 _ 0 c j i (by decide)]
    exact s0.w c j i
  have s1 := half_scored Q K X5 X6 (fun _ => 0) h5 h6 1 0 (by omega) (by omega) false (nxt p0) 0 p0
    { init X5 X6 g9 g10 g11 g12 g13 with X10 := put4 g10 0 fun j => up (scoresOf lane0 true X5 X6 p0 j) } (by decide) (by decide)
  have sr := soft_ready Q K 0 (by omega) p0 (max4 (scoresOf lane0 true X5 X6 p0)) (ninf0, ninf0, ninf0, ninf0) (initS X5 X6 g10) g11 g12 w0
    (fun h => absurd rfl h) s0.top (s0.bot)
  have hz : ∀ (c : Fin 2) (e : Fin 144) (i : Fin 512), (init X5 X6 g9 g10 g11 g12 g13).X12 (ix4 0 c 0 i) * (init X5 X6 g9 g10 g11 g12 g13).X13 (ix4 (par p0.1) c e i)
      = ((accR Q K V (shift p0.2 (max4 (scoresOf lane0 true X5 X6 p0)) (ninf0, ninf0, ninf0, ninf0) c i) c.val (512 * p0.1.val + i.val) e.val (512 * p0.2.val) : ℝ) : EReal) := fun c e i => by
    have hz : (init X5 X6 g9 g10 g11 g12 g13).X13 (ix4 (par p0.1) c e i) = 0 := by
      refine (put_hit (s := S2x2x144x512) g13 ![0, 0, 0, 0] S2x2x144x512.size _ (ix4 (par p0.1) c e i) (show S2x2x144x512.Idx from ix4 (par p0.1) c e i) fun a => ?_).trans (zero_apply _ _ _ _)
      match a with
      | ⟨0, _⟩ => exact (Nat.zero_add _).symm
      | ⟨1, _⟩ => exact (Nat.zero_add _).symm
      | ⟨2, _⟩ => exact (Nat.zero_add _).symm
      | ⟨3, _⟩ => exact (Nat.zero_add _).symm
    rw [hz, mul_zero]
    rfl
  have w1 : ∀ (c : Fin 2) (j i : Fin 512), initS X5 X6 g10 (ix4 1 c j i) = scM Q K c.val (512 * (nxt p0).1.val + i.val) (512 * (nxt p0).2.val + j.val) := fun c j i => s1.w c j i
  have hsc : Scored Q K 1 (nxt p0) (init X5 X6 g9 g10 g11 g12 g13) := by
    refine ⟨fun c j i => ?_, fun c i => ?_, fun h c i => ?_⟩
    · exact w1 c j i
    · exact s1.top c i
    · exact s1.bot h c i
  exact {
    le := le_refl _
    b := rfl
    a := rfl
    ord := by show Attn.ord p0 = 2 * 0; decide
    ready := ⟨_, ⟨sr.1, sr.2.1, hz⟩⟩
    scored := hsc
    rows := fun q h => absurd h (Nat.not_lt_zero _) }

include hl h5 h6 h7 hV in
theorem walk_before (k : ℕ) (hk : k < 264) : Before Q K V l X8 k (walk X1 X2 X3 X4 X5 X6 X7 X8 (init X5 X6 g9 g10 g11 g12 g13) k) := by
  induction k with
  | zero => exact init_before Q K V l X5 X6 X8 h5 h6 g9 g10 g11 g12 g13
  | succ k ih =>
    unfold walk
    rw [hl]
    exact (trip_before Q K V l X8 X5 X6 X7 h5 h6 h7 hV k (by omega) _ (ih (by omega))).2 hk

theorem ord_le (q : Fin 32) : ord (q, q) < 528 := by revert q; decide +kernel

include hl h5 h6 h7 hV in
/-- The whole result of a grid point: every row is its weighted means' difference, scaled. -/
theorem walk_rows (i : Fin 16384) (e : Fin 128) : (walk X1 X2 X3 X4 X5 X6 X7 X8 (init X5 X6 g9 g10 g11 g12 g13) 264).X9 (ix2 i e)
    = normE (fun e => ((diffR Q K V l i.val e.val : ℝ) : EReal)) (X8 (ix2 0 e)) e := by
  have h := (trip_before Q K V l X8 X5 X6 X7 h5 h6 h7 hV 263 (by omega) _ (walk_before Q K V l X1 X2 X3 X4 X5 X6 X7 X8 hl h5 h6 h7 hV g9 g10 g11 g12 g13 263 (by omega))).1
  have hq := h ⟨i.val / 512, by omega⟩ (ord_le _) ⟨i.val % 512, by omega⟩ e
  have hi : (⟨512 * (i.val / 512) + i.val % 512, by omega⟩ : Fin 16384) = i := Fin.ext (Nat.div_add_mod _ _)
  have hn : 512 * (i.val / 512) + i.val % 512 = i.val := Nat.div_add_mod _ _
  rw [← hl] at hq
  dsimp only at hq
  simp only [hi, hn] at hq
  exact hq

end Cert.Proof.Attn

end
-- ==== Proof.Host.lean ====
/-
  What the kernel's windows read: the arguments, scaled, transposed and padded with ones by the host's lines.
-/
module

public import proofs.«01_k».proof.Proof.Run
public import Idealize.ShloMosaic.Lib.Pointwise

@[expose] public section

set_option maxRecDepth 65536

noncomputable section

namespace Cert.Proof.Attn

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The queries' factor, -/
def scaleH : FVec Ideal S_ .f32 := mulf (constant S_ .f32 0x3E000000#32) (Host.divf (constant S_ .f32 0x3F800000#32) (Host.log (constant S_ .f32 0x40000000#32)))
/-- the queries, -/
def queriesH (A : FVec Ideal S16384x512 .f32) (s : FVec Ideal S_ .f32) : FVec Ideal S16384x512 .bf16 :=
  truncf .bf16 (mulf A (broadcastInDim S16384x512 ![] bcast_S_S16384x512 s)) bitsLt_bf16_f32
/-- the keys, -/
def keysH (A : FVec Ideal S16384x512 .f32) : FVec Ideal S16384x512 .bf16 := truncf .bf16 A bitsLt_bf16_f32
/-- and the values over rows of ones. -/
def valuesH (A : FVec Ideal S16384x512 .f32) : FVec Ideal S4x144x16384 .bf16 :=
  concatenate S4x144x16384 1 [⟨S4x128x16384, shapeCast S4x128x16384 (truncf .bf16 (transpose S512x16384 [1, 0] A transposes_S16384x512_S512x16384_1_0) bitsLt_bf16_f32) shapeCasts_S512x16384_S4x128x16384⟩,
    ⟨S4x16x16384, broadcastInDim S4x16x16384 ![] bcast_S_S4x16x16384 (constant (F := Ideal) S_ .bf16 0x3F80#16)⟩] concatenates_S4x128x16384_S4x16x16384_S4x144x16384_d1

theorem V_queries : V m c main_v5 = queriesH (m ((c.tc : Thread nD τ).loc main_arg4)) scaleH := by
  unfold V; after_results_simp <;> rfl
theorem V_keys : V m c main_v6 = keysH (m ((c.tc : Thread nD τ).loc main_arg5)) := by
  unfold V; after_results_simp <;> rfl
theorem V_values : V m c main_v11 = valuesH (m ((c.tc : Thread nD τ).loc main_arg6)) := by
  unfold V; after_results_simp <;> rfl

theorem scale_apply : scaleH ix0 = Ideal.ofBits .f32 0x3E000000#32 * Ideal.div (Ideal.ofBits .f32 0x3F800000#32) (Ideal.log (Ideal.ofBits .f32 0x40000000#32)) := by
  pointwise [scaleH]
theorem queries_apply (A : FVec Ideal S16384x512 .f32) (s : FVec Ideal S_ .f32) (i : Fin 16384) (j : Fin 512) : queriesH A s (ix2 i j) = A (ix2 i j) * s ix0 := by
  pointwise [queriesH]
theorem keys_apply (A : FVec Ideal S16384x512 .f32) (i : Fin 16384) (j : Fin 512) : keysH A (ix2 i j) = A (ix2 i j) := by
  pointwise [keysH]
theorem values_apply (A : FVec Ideal S16384x512 .f32) (h : Fin 4) (e : Fin 144) (j : Fin 16384) :
    valuesH A (ix3 h e j) = if he : e.val < 128 then A (ix2 j ⟨h.val * 128 + e.val, by omega⟩) else 1 := by
  pointwise [valuesH]

/-- The grid's points are the four heads. -/
def hd (t : Fin cfg0.N) : Fin 4 := ⟨t.val, lt_of_lt_of_eq t.isLt (by decide)⟩

theorem index_queries (t : Fin cfg0.N) : win0_4.index t 0 = 0 ∧ win0_4.index t 1 = (hd t).val := by revert t; decide +kernel
theorem index_keys (t : Fin cfg0.N) : win0_5.index t 0 = 0 ∧ win0_5.index t 1 = (hd t).val := by revert t; decide +kernel
theorem index_values (t : Fin cfg0.N) : win0_6.index t 0 = (hd t).val ∧ win0_6.index t 1 = 0 ∧ win0_6.index t 2 = 0 := by revert t; decide +kernel
theorem index_row (t : Fin cfg0.N) : (∀ a, win0_0.index t a = 0) ∧ (∀ a, win0_1.index t a = 0) ∧ (∀ a, win0_2.index t a = 0) ∧ (∀ a, win0_3.index t a = 0) ∧ ∀ a, win0_7.index t a = 0 := by
  revert t; decide +kernel

theorem blk_queries (t : Fin cfg0.N) (i : Fin 16384) (d : Fin 128) :
    iblk m c 4 t (ix2 i d : S16384x128.Idx) = V m c main_v5 (ix2 i ⟨(hd t).val * 128 + d.val, by omega⟩) := by
  unfold iblk
  rw [View.read_apply]
  show V m c main_v5 _ = V m c main_v5 _
  congr 1
  funext a
  apply Fin.ext
  match a with
  | ⟨0, _⟩ => show win0_4.index t 0 * 16384 + 1 * i.val = i.val; rw [(index_queries t).1]; omega
  | ⟨1, _⟩ => show win0_4.index t 1 * 128 + 1 * d.val = (hd t).val * 128 + d.val; rw [(index_queries t).2]; omega

theorem blk_keys (t : Fin cfg0.N) (i : Fin 16384) (d : Fin 128) :
    iblk m c 5 t (ix2 i d : S16384x128.Idx) = V m c main_v6 (ix2 i ⟨(hd t).val * 128 + d.val, by omega⟩) := by
  unfold iblk
  rw [View.read_apply]
  show V m c main_v6 _ = V m c main_v6 _
  congr 1
  funext a
  apply Fin.ext
  match a with
  | ⟨0, _⟩ => show win0_5.index t 0 * 16384 + 1 * i.val = i.val; rw [(index_keys t).1]; omega
  | ⟨1, _⟩ => show win0_5.index t 1 * 128 + 1 * d.val = (hd t).val * 128 + d.val; rw [(index_keys t).2]; omega

theorem blk_values (t : Fin cfg0.N) (e : Fin 144) (j : Fin 16384) :
    iblk m c 6 t (ix3 0 e j : S1x144x16384.Idx) = V m c main_v11 (ix3 (hd t) e j) := by
  unfold iblk
  rw [View.read_apply]
  show V m c main_v11 _ = V m c main_v11 _
  congr 1
  funext a
  apply Fin.ext
  match a with
  | ⟨0, _⟩ => show win0_6.index t 0 * 1 + 1 * 0 = (hd t).val; rw [(index_values t).1]; omega
  | ⟨1, _⟩ => show win0_6.index t 1 * 144 + 1 * e.val = e.val; rw [(index_values t).2.1]; omega
  | ⟨2, _⟩ => show win0_6.index t 2 * 16384 + 1 * j.val = j.val; rw [(index_values t).2.2]; omega

theorem blk_weight (t : Fin cfg0.N) (e : Fin 128) :
    iblk m c 7 t (ix2 0 e : S1x128.Idx) = m ((c.tc : Thread nD τ).loc main_arg7) (ix2 0 e) := by
  refine Eq.trans ?_ (congrFun (V_main_arg7 m c) _)
  unfold iblk
  rw [View.read_apply]
  show V m c main_arg7 _ = V m c main_arg7 _
  congr 1
  funext a
  apply Fin.ext
  match a with
  | ⟨0, _⟩ => show win0_7.index t 0 * 1 + 1 * 0 = 0; rw [(index_row t).2.2.2.2 0]
  | ⟨1, _⟩ => show win0_7.index t 1 * 128 + 1 * e.val = e.val; rw [(index_row t).2.2.2.2 1]; omega

theorem blk_l0 (t : Fin cfg0.N) (e : Fin 64) : iblk m c 0 t (ix2 0 e : S1x64.Idx) = m ((c.tc : Thread nD τ).loc main_arg0) (ix2 0 e) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 1 + 1 * 0 = 0; rw [(index_row t).1 0]
  | ⟨1, _⟩ => show win0_0.index t 1 * 64 + 1 * e.val = e.val; rw [(index_row t).1 1]; omega

theorem blk_l1 (t : Fin cfg0.N) (e : Fin 64) : iblk m c 1 t (ix2 0 e : S1x64.Idx) = m ((c.tc : Thread nD τ).loc main_arg1) (ix2 0 e) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 1 + 1 * 0 = 0; rw [(index_row t).2.1 0]
  | ⟨1, _⟩ => show win0_1.index t 1 * 64 + 1 * e.val = e.val; rw [(index_row t).2.1 1]; omega

theorem blk_l2 (t : Fin cfg0.N) (e : Fin 64) : iblk m c 2 t (ix2 0 e : S1x64.Idx) = m ((c.tc : Thread nD τ).loc main_arg2) (ix2 0 e) := by
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 1 + 1 * 0 = 0; rw [(index_row t).2.2.1 0]
  | ⟨1, _⟩ => show win0_2.index t 1 * 64 + 1 * e.val = e.val; rw [(index_row t).2.2.1 1]; omega

theorem blk_l3 (t : Fin cfg0.N) (e : Fin 64) : iblk m c 3 t (ix2 0 e : S1x64.Idx) = m ((c.tc : Thread nD τ).loc main_arg3) (ix2 0 e) := by
  refine Eq.trans ?_ (congrFun (V_main_arg3 m c) _)
  unfold iblk
  rw [View.read_apply]
  show V m c main_arg3 _ = V m c main_arg3 _
  congr 1
  funext a
  apply Fin.ext
  match a with
  | ⟨0, _⟩ => show win0_3.index t 0 * 1 + 1 * 0 = 0; rw [(index_row t).2.2.2.1 0]
  | ⟨1, _⟩ => show win0_3.index t 1 * 64 + 1 * e.val = e.val; rw [(index_row t).2.2.2.1 1]; omega

end Cert.Proof.Attn

end
-- ==== Proof.ReadRef.lean ====
/-
  The reference's result, named piece by piece and read at an entry.
-/
module

public import proofs.«01_k».proof.Proof.Gen.ReferenceIdeal.Run
public import Idealize.ShloMosaic.Lib.Pointwise

@[expose] public section

set_option maxRecDepth 65536

noncomputable section

namespace Cert.Proof.Attn.Ref

open Cert.ReferenceIdeal Cert.ReferenceIdeal.Gen
open Idealize.ShloMosaic

/-- The masked scores, -/
def scoreR (A4 A5 : FVec Ideal S16384x512 .f32) : FVec Ideal S4x2x16384x16384 .f32 :=
  (select (broadcastInDim S4x2x16384x16384 ![0, 1, 2, 3] bcast_S1x1x16384x16384_S4x2x16384x16384_0_1_2_3 (broadcastInDim S1x1x16384x16384 ![2, 3] bcast_S16384x16384_S1x1x16384x16384_2_3 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))))) (mulf (Host.dotGeneral dot_S4x2x16384x64_S4x2x16384x64_S4x2x16384x16384_3_3_2_2_01_01 none (transpose S4x2x16384x64 [1, 2, 0, 3] (shapeCast S16384x4x2x64 A4 shapeCasts_S16384x512_S16384x4x2x64) transposes_S16384x4x2x64_S4x2x16384x64_1_2_0_3) (transpose S4x2x16384x64 [1, 2, 0, 3] (shapeCast S16384x4x2x64 A5 shapeCasts_S16384x512_S16384x4x2x64) transposes_S16384x4x2x64_S4x2x16384x64_1_2_0_3)) (broadcastInDim S4x2x16384x16384 ![] bcast_S_S4x2x16384x16384 (constant S_ .f32 0x3E000000#32))) (broadcastInDim S4x2x16384x16384 ![] bcast_S_S4x2x16384x16384 (id (constant S_ .f32 0xFF800000#32))))
/-- the row's maximum, -/
def topR (S : FVec Ideal S4x2x16384x16384 .f32) : FVec Ideal S4x2x16384 .f32 :=
  Host.reduce FloatOps.maximumf S (constant S_ .f32 0xFF800000#32) reducesTo_S4x2x16384x16384_S4x2x16384_d3 h_S_
/-- the exponentials of what is below it, -/
def expR (S : FVec Ideal S4x2x16384x16384 .f32) (M : FVec Ideal S4x2x16384 .f32) : FVec Ideal S4x2x16384x16384 .f32 :=
  (Host.exp (subf S (broadcastInDim S4x2x16384x16384 ![0, 1, 2, 3] bcast_S4x2x16384x1_S4x2x16384x16384_0_1_2_3 (broadcastInDim S4x2x16384x1 ![0, 1, 2] bcast_S4x2x16384_S4x2x16384x1_0_1_2 (maximumf (broadcastInDim S4x2x16384 ![] bcast_S_S4x2x16384 (constant S_ .f32 0xFF800000#32)) M)))))
/-- the softmax's weights, -/
def probR (E : FVec Ideal S4x2x16384x16384 .f32) : FVec Ideal S4x2x16384x16384 .f32 :=
  (Host.divf E (broadcastInDim S4x2x16384x16384 ![0, 1, 2, 3] bcast_S4x2x16384x1_S4x2x16384x16384_0_1_2_3 (broadcastInDim S4x2x16384x1 ![0, 1, 2] bcast_S4x2x16384_S4x2x16384x1_0_1_2 (Host.reduceAdd E (constant S_ .f32 0x00000000#32) reducesTo_S4x2x16384x16384_S4x2x16384_d3 h_S_))))
/-- the second map's factor, -/
def lamR (A0 A1 A2 A3 : FVec Ideal S1x64 .f32) : FVec Ideal S_ .f32 :=
  (addf (subf (Host.exp (Host.reduceAdd (mulf A0 A1) (constant S_ .f32 0x00000000#32) reducesTo_S1x64_S_d0_1 h_S_)) (Host.exp (Host.reduceAdd (mulf A2 A3) (constant S_ .f32 0x00000000#32) reducesTo_S1x64_S_d0_1 h_S_))) (constant S_ .f32 0x3E4CCCCD#32))
/-- the difference of the two maps, -/
def mixR (P : FVec Ideal S4x2x16384x16384 .f32) (L : FVec Ideal S_ .f32) : FVec Ideal S4x16384x16384 .f32 :=
  (subf (shapeCast S4x16384x16384 (extractStridedSlice S4x1x16384x16384 ![0, 0, 0, 0] P slices_S4x2x16384x16384_S4x1x16384x16384_0_0_0_0) shapeCasts_S4x1x16384x16384_S4x16384x16384) (mulf (broadcastInDim S4x16384x16384 ![] bcast_S_S4x16384x16384 L) (shapeCast S4x16384x16384 (extractStridedSlice S4x1x16384x16384 ![0, 1, 0, 0] P slices_S4x2x16384x16384_S4x1x16384x16384_0_1_0_0) shapeCasts_S4x1x16384x16384_S4x16384x16384)))
/-- the weighted values, -/
def outR (D : FVec Ideal S4x16384x16384 .f32) (A6 : FVec Ideal S16384x512 .f32) : FVec Ideal S16384x4x128 .f32 :=
  (transpose S16384x4x128 [1, 0, 2] (Host.dotGeneral dot_S4x16384x16384_S4x16384x128_S4x16384x128_2_1_1_2_0_0 none D (transpose S4x16384x128 [1, 0, 2] (shapeCast S16384x4x128 A6 shapeCasts_S16384x512_S16384x4x128) transposes_S16384x4x128_S4x16384x128_1_0_2)) transposes_S4x16384x128_S16384x4x128_1_0_2)
/-- and the rows scaled by their root mean square. -/
def normR (OUT : FVec Ideal S16384x4x128 .f32) (A7 : FVec Ideal S1x128 .f32) : FVec Ideal S16384x512 .f32 :=
  shapeCast S16384x512 (mulf (mulf (mulf OUT (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf OUT OUT) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x3727C5AC#32)))))) (broadcastInDim S16384x4x128 ![0, 1, 2] bcast_S1x1x128_S16384x4x128_0_1_2 (broadcastInDim S1x1x128 ![1, 2] bcast_S1x128_S1x1x128_1_2 A7))) (broadcastInDim S16384x4x128 ![] bcast_S_S16384x4x128 (constant S_ .f32 0x3F4CCCCD#32))) shapeCasts_S16384x4x128_S16384x512

theorem score_apply (A4 A5 : FVec Ideal S16384x512 .f32) (h : Fin 4) (k : Fin 2) (i j : Fin 16384) : scoreR A4 A5 (ix4 h k i j)
    = Scalar.select (IntOp.cmpi .sge (BitVec.ofNat 32 i.val) (BitVec.ofNat 32 j.val))
      ((∑ x : Fin 64, A4 (ix2 i ⟨h.val * 128 + k.val * 64 + x.val, by omega⟩) * A5 (ix2 j ⟨h.val * 128 + k.val * 64 + x.val, by omega⟩)) * Ideal.ofBits .f32 0x3E000000#32)
      (Ideal.ofBits .f32 0xFF800000#32) := by
  pointwise [scoreR]
  rfl

theorem top_apply (S : FVec Ideal S4x2x16384x16384 .f32) (h : Fin 4) (k : Fin 2) (i : Fin 16384) :
    topR S (ix3 h k i) = Finset.fold max (Ideal.ofBits .f32 0xFF800000#32) (fun x => S (ix4 h k i x)) Finset.univ := by
  pointwise [topR]

theorem exp_apply (S : FVec Ideal S4x2x16384x16384 .f32) (M : FVec Ideal S4x2x16384 .f32) (h : Fin 4) (k : Fin 2) (i j : Fin 16384) :
    expR S M (ix4 h k i j) = Ideal.exp (S (ix4 h k i j) - max (Ideal.ofBits .f32 0xFF800000#32) (M (ix3 h k i))) := by
  pointwise [expR]

theorem prob_apply (E : FVec Ideal S4x2x16384x16384 .f32) (h : Fin 4) (k : Fin 2) (i j : Fin 16384) :
    probR E (ix4 h k i j) = Ideal.div (E (ix4 h k i j)) (∑ x, E (ix4 h k i x)) := by
  pointwise [probR]

theorem lam_apply (A0 A1 A2 A3 : FVec Ideal S1x64 .f32) : lamR A0 A1 A2 A3 ix0
    = Ideal.exp (∑ x : Fin 1, ∑ y : Fin 64, A0 (ix2 x y) * A1 (ix2 x y)) - Ideal.exp (∑ x : Fin 1, ∑ y : Fin 64, A2 (ix2 x y) * A3 (ix2 x y)) + Ideal.ofBits .f32 0x3E4CCCCD#32 := by
  pointwise [lamR]

theorem mix_apply (P : FVec Ideal S4x2x16384x16384 .f32) (L : FVec Ideal S_ .f32) (h : Fin 4) (i j : Fin 16384) :
    mixR P L (ix3 h i j) = P (ix4 h 0 i j) - L ix0 * P (ix4 h 1 i j) := by
  pointwise [mixR]

theorem out_apply (D : FVec Ideal S4x16384x16384 .f32) (A6 : FVec Ideal S16384x512 .f32) (h : Fin 4) (i : Fin 16384) (e : Fin 128) :
    outR D A6 (ix3 i h e) = ∑ x : Fin 16384, D (ix3 h i x) * A6 (ix2 x ⟨h.val * 128 + e.val, by omega⟩) := by
  pointwise [outR]

theorem norm_apply (O : FVec Ideal S16384x4x128 .f32) (A7 : FVec Ideal S1x128 .f32) (h : Fin 4) (i : Fin 16384) (e : Fin 128) :
    normR O A7 (ix2 i ⟨h.val * 128 + e.val, by omega⟩) = O (ix3 i h e)
      * Ideal.rsqrt (Ideal.div (∑ x, O (ix3 i h x) * O (ix3 i h x)) (Ideal.ofBits .f32 0x43000000#32) + Ideal.ofBits .f32 0x3727C5AC#32) * A7 (ix2 0 e) * Ideal.ofBits .f32 0x3F4CCCCD#32 := by
  pointwise [normR]

/-- The result in these pieces. -/
theorem res_eq (m : (ℓ : Loc nD τ sig) → Buf (Elt Ideal) ℓ) (c : Dev nD) :
    Cert.ReferenceIdeal.Value.res_main_v60 m c = normR (outR (mixR (probR (expR (scoreR (m (c.tc.loc main_arg4)) (m (c.tc.loc main_arg5))) (topR (scoreR (m (c.tc.loc main_arg4)) (m (c.tc.loc main_arg5))))))
      (lamR (m (c.tc.loc main_arg0)) (m (c.tc.loc main_arg1)) (m (c.tc.loc main_arg2)) (m (c.tc.loc main_arg3)))) (m (c.tc.loc main_arg6))) (m (c.tc.loc main_arg7)) := by
  delta Cert.ReferenceIdeal.Value.res_main_v60 normR outR mixR probR expR topR scoreR lamR
  rfl

end Cert.Proof.Attn.Ref

end
-- ==== Proof.RefValue.lean ====
/-
  The reference's result in real numbers: a softmax of scores in natural units is the softmax of the scores in powers of
  two, whatever is subtracted from them.
-/
module

public import proofs.«01_k».proof.Proof.Walk
public import proofs.«01_k».proof.Proof.ReadRef

@[expose] public section

set_option maxRecDepth 65536

noncomputable section

namespace Cert.Proof.Attn

open Idealize.ShloMosaic

/-- A head's queries in powers of two, -/
def Qh (q : ℕ → ℕ → ℝ) (h : ℕ) : ℕ → ℕ → ℝ := fun i d => q i (h * 128 + d) * (1 / 8 * (1 / Real.log 2))
/-- its keys, -/
def Kh (k : ℕ → ℕ → ℝ) (h : ℕ) : ℕ → ℕ → ℝ := fun j d => k j (h * 128 + d)
/-- and its values over a row of ones. -/
def Vh (v : ℕ → ℕ → ℝ) (h : ℕ) : ℕ → ℕ → ℝ := fun e j => if e < 128 then v j (h * 128 + e) else 1

theorem log_two_ne : Real.log 2 ≠ 0 := ne_of_gt (Real.log_pos (by norm_num))
theorem eighth : Ideal.ofBits .f32 0x3E000000#32 = ((1 / 8 : ℝ) : EReal) := by
  simp [Ideal.ofBits, Ideal.ieee, -EReal.coe_mul]; norm_num

/-- An exponential as a power of two. -/
theorem exp_two (s M : ℝ) : Real.exp (s * Real.log 2 - M) = Real.rpow 2 (s - M / Real.log 2) := by
  have e : s * Real.log 2 - M = Real.log 2 * (s - M / Real.log 2) := by
    have := log_two_ne
    field_simp
  rw [e]
  exact (Real.rpow_def_of_pos (by norm_num) _).symm

namespace Ref

open Cert.ReferenceIdeal Cert.ReferenceIdeal.Gen

theorem sge_select (a b : ℕ) (ha : a < 2 ^ 20) (hb : b < 2 ^ 20) (x y : EReal) :
    Scalar.select (IntOp.cmpi .sge (BitVec.ofNat 32 a) (BitVec.ofNat 32 b)) x y = if b ≤ a then x else y :=
  sle_select b a hb ha x y

variable (q k v : ℕ → ℕ → ℝ) (l : ℝ) (h : Fin 4)
variable (A4 A5 A6 : FVec Ideal S16384x512 .f32)
variable (hq : ∀ (i : Fin 16384) (j : Fin 512), A4 (ix2 i j) = ((q i.val j.val : ℝ) : EReal))
variable (hk : ∀ (i : Fin 16384) (j : Fin 512), A5 (ix2 i j) = ((k i.val j.val : ℝ) : EReal))
variable (hv : ∀ (i : Fin 16384) (j : Fin 512), A6 (ix2 i j) = ((v i.val j.val : ℝ) : EReal))

include hq hk in
/-- A score in natural units. -/
theorem score_real (c : Fin 2) (i j : Fin 16384) : scoreR A4 A5 (ix4 h c i j)
    = if j.val ≤ i.val then ((sc (Qh q h.val) (Kh k h.val) c.val i.val j.val * Real.log 2 : ℝ) : EReal) else ⊥ := by
  rw [score_apply, sge_select _ _ (by omega) (by omega), neg_inf, eighth,
    sum_coe _ _ (fun d => q i.val (h.val * 128 + c.val * 64 + d)) (fun d => k j.val (h.val * 128 + c.val * 64 + d)) (fun d => hq _ _) (fun d => hk _ _),
    ← EReal.coe_mul]
  congr 2
  unfold sc Qh Kh
  rw [Finset.sum_mul, Finset.sum_mul]
  refine Finset.sum_congr rfl fun d _ => ?_
  have e : h.val * 128 + c.val * 64 + d = h.val * 128 + (64 * c.val + d) := by omega
  rw [e]
  have := log_two_ne
  field_simp

include hq hk in
/-- A row's maximum is real. -/
theorem top_real (c : Fin 2) (i : Fin 16384) : ∃ M : ℝ, max (Ideal.ofBits .f32 0xFF800000#32) (topR (scoreR A4 A5) (ix3 h c i)) = (M : EReal) := by
  rw [top_apply, neg_inf, max_eq_right bot_le]
  refine ⟨_, (EReal.coe_toReal (fold_max_ne_top _ _ fun x _ => ?_) (fold_max_ne_bot _ _ i (Finset.mem_univ i) ?_)).symm⟩
  · rw [score_real q k h A4 A5 hq hk]; split; exacts [EReal.coe_ne_top _, bot_ne_top]
  · rw [score_real q k h A4 A5 hq hk, if_pos le_rfl]; exact EReal.coe_ne_bot _

include hq hk in
/-- A weight before it is normalized is the power of two, at the maximum's shift. -/
theorem exp_real (c : Fin 2) (i : Fin 16384) : ∃ μ : ℝ, ∀ j : Fin 16384, expR (scoreR A4 A5) (topR (scoreR A4 A5)) (ix4 h c i j)
    = ((wt (Qh q h.val) (Kh k h.val) μ c.val i.val j.val : ℝ) : EReal) := by
  obtain ⟨M, hM⟩ := top_real q k h A4 A5 hq hk c i
  refine ⟨M / Real.log 2, fun j => ?_⟩
  rw [exp_apply, hM, score_real q k h A4 A5 hq hk]
  unfold wt
  split
  · rw [← EReal.coe_sub, Ideal.exp_coe, exp_two]
  · rw [EReal.bot_sub, Ideal.exp_bot, EReal.coe_zero]

/-- The sum of a row's weights. -/
theorem sum_wt (Q K : ℕ → ℕ → ℝ) (μ : ℝ) (c : ℕ) (i : Fin 16384) :
    ∑ x : Fin 16384, wt Q K μ c i.val x.val = accR Q K (Vh v h.val) μ c i.val 128 (i.val + 1) := by
  rw [← accR_past Q K (Vh v h.val) μ c i.val 128 16384 i.isLt]
  unfold accR
  rw [Finset.sum_range]
  exact Finset.sum_congr rfl fun x _ => (one_mul _).symm

include hq hk in
/-- A normalized weight. -/
theorem prob_real (c : Fin 2) (i : Fin 16384) : ∃ μ : ℝ, ∀ j : Fin 16384, probR (expR (scoreR A4 A5) (topR (scoreR A4 A5))) (ix4 h c i j)
    = ((wt (Qh q h.val) (Kh k h.val) μ c.val i.val j.val / accR (Qh q h.val) (Kh k h.val) (Vh v h.val) μ c.val i.val 128 (i.val + 1) : ℝ) : EReal) := by
  obtain ⟨μ, hμ⟩ := exp_real q k h A4 A5 hq hk c i
  refine ⟨μ, fun j => ?_⟩
  rw [prob_apply, hμ, Finset.sum_congr rfl fun x _ => hμ x, coe_sum_fin, sum_wt v h]
  exact div_real _ _ (ne_of_gt (accR_ones_pos _ _ _ _ _ _ _ fun j _ => rfl))

/-- A weighted mean, its division before or after the sum. -/
theorem sum_mean (Q K : ℕ → ℕ → ℝ) (μ : ℝ) (c : ℕ) (i : Fin 16384) (e : Fin 128) (Z : ℝ) :
    ∑ x : Fin 16384, wt Q K μ c i.val x.val / Z * v x.val (h.val * 128 + e.val) = accR Q K (Vh v h.val) μ c i.val e.val (i.val + 1) / Z := by
  rw [← accR_past Q K (Vh v h.val) μ c i.val e.val 16384 i.isLt]
  unfold accR
  rw [Finset.sum_range, Finset.sum_div]
  refine Finset.sum_congr rfl fun x _ => ?_
  unfold Vh
  rw [if_pos e.isLt]
  ring

include hq hk hv in
/-- The weighted values' difference. -/
theorem out_real (L : FVec Ideal S_ .f32) (hl : L ix0 = (l : EReal)) (i : Fin 16384) (e : Fin 128) :
    outR (mixR (probR (expR (scoreR A4 A5) (topR (scoreR A4 A5)))) L) A6 (ix3 i h e)
    = ((diffR (Qh q h.val) (Kh k h.val) (Vh v h.val) l i.val e.val : ℝ) : EReal) := by
  obtain ⟨μ, hμ⟩ := prob_real q k v h A4 A5 hq hk 0 i
  obtain ⟨ν, hν⟩ := prob_real q k v h A4 A5 hq hk 1 i
  rw [out_apply, Finset.sum_congr rfl fun x _ => (by rw [mix_apply, hμ, hν, hl, hv, ← EReal.coe_mul, ← EReal.coe_sub, ← EReal.coe_mul]), coe_sum_fin]
  congr 1
  unfold diffR
  rw [accR_div _ _ _ 0 μ, accR_div _ _ _ 0 ν, ← sum_mean v h _ _ μ, ← sum_mean v h _ _ ν, Finset.mul_sum, ← Finset.sum_sub_distrib]
  exact Finset.sum_congr rfl fun x _ => by rw [sub_mul, mul_assoc]; rfl

include hq hk hv in
/-- The reference's result. -/
theorem norm_real (L : FVec Ideal S_ .f32) (hl : L ix0 = (l : EReal)) (A7 : FVec Ideal S1x128 .f32) (i : Fin 16384) (e : Fin 128) :
    normR (outR (mixR (probR (expR (scoreR A4 A5) (topR (scoreR A4 A5)))) L) A6) A7 (ix2 i ⟨h.val * 128 + e.val, by omega⟩)
    = normE (fun e => ((diffR (Qh q h.val) (Kh k h.val) (Vh v h.val) l i.val e.val : ℝ) : EReal)) (A7 (ix2 0 e)) e := by
  rw [norm_apply]
  unfold normE
  simp only [out_real q k v l h A4 A5 A6 hq hk hv L hl]

variable (A0 A1 A2 A3 : FVec Ideal S1x64 .f32)

/-- The second map's factor is real. -/
theorem lam_real (a0 a1 a2 a3 : ℕ → ℕ → ℝ)
    (h0 : ∀ (i : Fin 1) (j : Fin 64), A0 (ix2 i j) = ((a0 i.val j.val : ℝ) : EReal)) (h1 : ∀ (i : Fin 1) (j : Fin 64), A1 (ix2 i j) = ((a1 i.val j.val : ℝ) : EReal))
    (h2 : ∀ (i : Fin 1) (j : Fin 64), A2 (ix2 i j) = ((a2 i.val j.val : ℝ) : EReal)) (h3 : ∀ (i : Fin 1) (j : Fin 64), A3 (ix2 i j) = ((a3 i.val j.val : ℝ) : EReal)) :
    ∃ l : ℝ, lamR A0 A1 A2 A3 ix0 = (l : EReal) := by
  have hc : ∃ z : ℝ, Ideal.ofBits .f32 0x3E4CCCCD#32 = (z : EReal) := by
    refine ⟨(Ideal.ofBits .f32 0x3E4CCCCD#32).toReal, (EReal.coe_toReal ?_ ?_).symm⟩ <;> simp [Ideal.ofBits, Ideal.ieee, -EReal.coe_mul]
  obtain ⟨z, hz⟩ := hc
  rw [lam_apply, hz]
  simp only [sum_coe _ _ _ _ (h0 _) (h1 _), sum_coe _ _ _ _ (h2 _) (h3 _), coe_sum_fin, Ideal.exp_coe, ← EReal.coe_sub, ← EReal.coe_add]
  exact ⟨_, rfl⟩

end Ref

end Cert.Proof.Attn

end
-- ==== Proof.Result.lean ====
/-
  The kernel's result array, entry by entry: each grid point writes its head's columns.
-/
module

public import proofs.«01_k».proof.Proof.Begin
public import proofs.«01_k».proof.Proof.Host
public import proofs.«01_k».proof.Proof.RefValue

@[expose] public section

set_option maxRecDepth 65536

noncomputable section

namespace Cert.Proof.Attn

open Cert.KernelIdeal Cert.KernelIdeal.Gen
open Idealize.ShloMosaic Idealize.ShloMosaic.TcCoe Idealize.SL.Sem

/-- The second map's factor. -/
def lamE (A0 A1 A2 A3 : S1x64.Idx → EReal) : EReal :=
  Ideal.exp (∑ x : Fin 1, ∑ y : Fin 64, A0 (ix2 x y) * A1 (ix2 x y)) - Ideal.exp (∑ x : Fin 1, ∑ y : Fin 64, A2 (ix2 x y) * A3 (ix2 x y)) + Ideal.ofBits .f32 0x3E4CCCCD#32

theorem window_row (X : Vec Ideal S1x64 .f32) (x : Fin 1) (y : Fin 64) : VecWindow.window X ![0, 0] S1x64.size inb_S1x64_S1x64_0_0 (ix2 x y) = X (ix2 x y) :=
  window_at X _ _ _ _ _ fun a => match a with
    | ⟨0, _⟩ => (Nat.zero_add _).symm
    | ⟨1, _⟩ => (Nat.zero_add _).symm

theorem lam_pay (X1 X2 X3 X4 : Vec Ideal S1x64 .f32) : k0_pay251 X1 X2 X3 X4 = lamE X1 X2 X3 X4 := by
  pointwise [k0_pay251, lamE]
  simp only [Fin.sum_univ_one]
  rfl

theorem lamE_congr (A0 A1 A2 A3 B0 B1 B2 B3 : S1x64.Idx → EReal) (h0 : ∀ y : Fin 64, B0 (ix2 0 y) = A0 (ix2 0 y)) (h1 : ∀ y : Fin 64, B1 (ix2 0 y) = A1 (ix2 0 y))
    (h2 : ∀ y : Fin 64, B2 (ix2 0 y) = A2 (ix2 0 y)) (h3 : ∀ y : Fin 64, B3 (ix2 0 y) = A3 (ix2 0 y)) : lamE B0 B1 B2 B3 = lamE A0 A1 A2 A3 := by
  unfold lamE
  simp only [Fin.sum_univ_one, h0, h1, h2, h3]

theorem lamOf_apply (X1 X2 X3 X4 : Vec Ideal S1x64 .f32) : lamOf X1 X2 X3 X4 = lamE X1 X2 X3 X4 :=
  (lam_pay _ _ _ _).trans (lamE_congr _ _ _ _ _ _ _ _ (window_row X1 0) (window_row X2 0) (window_row X3 0) (window_row X4 0))

theorem scale_real : scaleH ix0 = ((1 / 8 * (1 / Real.log 2) : ℝ) : EReal) := by
  have h1 : Ideal.ofBits .f32 0x3F800000#32 = ((1 : ℝ) : EReal) := by simp [Ideal.ofBits, Ideal.ieee, -EReal.coe_mul]; norm_num
  have h2 : Ideal.ofBits .f32 0x40000000#32 = ((2 : ℝ) : EReal) := by simp [Ideal.ofBits, Ideal.ieee, -EReal.coe_mul]; norm_num
  rw [scale_apply, eighth, h1, h2, Ideal.log_coe, if_neg (by norm_num), div_real _ _ log_two_ne, ← EReal.coe_mul]

variable (m : (ℓ : Loc nD τ sig) → Buf (Elt Ideal) ℓ) (c : Dev nD)
variable (q k v : ℕ → ℕ → ℝ) (l : ℝ)
variable (hq : ∀ (i : Fin 16384) (j : Fin 512), m ((c.tc : Thread nD τ).loc main_arg4) (ix2 i j : S16384x512.Idx) = ((q i.val j.val : ℝ) : EReal))
variable (hk : ∀ (i : Fin 16384) (j : Fin 512), m ((c.tc : Thread nD τ).loc main_arg5) (ix2 i j : S16384x512.Idx) = ((k i.val j.val : ℝ) : EReal))
variable (hv : ∀ (i : Fin 16384) (j : Fin 512), m ((c.tc : Thread nD τ).loc main_arg6) (ix2 i j : S16384x512.Idx) = ((v i.val j.val : ℝ) : EReal))
variable (hl : lamE (m ((c.tc : Thread nD τ).loc main_arg0)) (m ((c.tc : Thread nD τ).loc main_arg1)) (m ((c.tc : Thread nD τ).loc main_arg2)) (m ((c.tc : Thread nD τ).loc main_arg3)) = (l : EReal))

include hq hk hv hl in
/-- What a grid point writes. -/
theorem out_entry (t : Fin cfg0.N) (g9 : Vec Ideal S16384x128 .f32) (g10 : Vec Ideal S2x2x512x512 .f32) (g11 : Vec Ideal S2x2x512x512 .bf16)
    (g12 : Vec Ideal S2x2x1x512 .f32) (g13 : Vec Ideal S2x2x144x512 .f32) (i : Fin 16384) (e : Fin 128) :
    outAt m c t g9 g10 g11 g12 g13 (ix2 i e)
    = normE (fun e => ((diffR (Qh q (hd t).val) (Kh k (hd t).val) (Vh v (hd t).val) l i.val e.val : ℝ) : EReal)) (m ((c.tc : Thread nD τ).loc main_arg7) (ix2 0 e : S1x128.Idx)) e := by
  rw [← blk_weight m c t e]
  refine walk_rows (Qh q (hd t).val) (Kh k (hd t).val) (Vh v (hd t).val) l _ _ _ _ _ _ _ _ ?_ ?_ ?_ ?_ (fun j _ => rfl) g9 g10 g11 g12 g13 i e
  · exact (lamOf_apply _ _ _ _).trans ((lamE_congr _ _ _ _ _ _ _ _ (blk_l0 m c t) (blk_l1 m c t) (blk_l2 m c t) (blk_l3 m c t)).trans hl)
  · intro i d
    rw [blk_queries, V_queries, queries_apply, scale_real, hq, ← EReal.coe_mul]
    rfl
  · intro i d
    rw [blk_keys, V_keys, keys_apply, hk]
    rfl
  · intro e j
    rw [blk_values, V_values, values_apply]
    unfold Vh
    split
    · exact hv _ _
    · exact EReal.coe_one.symm

theorem index_out (t : Fin cfg0.N) : win0_8.index t 0 = 0 ∧ win0_8.index t 1 = (hd t).val := by revert t; decide +kernel
theorem size_out (t : Fin cfg0.N) : win0_8.xsize (grid0.coords t) 0 = 16384 ∧ win0_8.xsize (grid0.coords t) 1 = 128 := by revert t; decide +kernel

include hq hk hv hl in
/-- The result array after a run. -/
theorem final_out {r : PUnit × MemSt nD τ sig (Elt Ideal)}
    (h : Pipeline.RDat.FramePost (cfgs 0) (fun c => (dats m 0 c).toRRel fgt0 (Rl0 m c)) (V m) r) (res : FVec Ideal S16384x512 .f32)
    (hres : ∀ (h : Fin 4) (i : Fin 16384) (e : Fin 128), res (ix2 i ⟨h.val * 128 + e.val, by omega⟩)
      = normE (fun e => ((diffR (Qh q h.val) (Kh k h.val) (Vh v h.val) l i.val e.val : ℝ) : EReal)) (m ((c.tc : Thread nD τ).loc main_arg7) (ix2 0 e : S1x128.Idx)) e) :
    r.2.mem ((c.tc : Thread nD τ).loc main_v12) = res := by
  obtain ⟨after, hle, hm⟩ := Pipeline.RDat.FramePost.exists_exact h c
  refine (hm 8).trans ?_
  refine (((dats m 0 c).toRRel fgt0 (Rl0 m c)).withAfter after).arrAt_eq_of_cover 8 res (fun t hf => ?_) fun i => ?_
  · obtain ⟨g9, g10, g11, g12, g13, hX⟩ : ∃ g9 g10 g11 g12 g13, after 8 t = outAt m c t g9 g10 g11 g12 g13 := (dats m 0 c).toRRel_leaves rfl (hle 8 t hf)
    show (cfg0.win 8).cut (grid0.coords t) (after 8 t) = _
    rw [hX]
    funext y
    rw [View.read_apply]
    have hy0 : (y 0 : Nat) < 16384 := lt_of_lt_of_eq (y 0).isLt (size_out t).1
    have hy1 : (y 1 : Nat) < 128 := lt_of_lt_of_eq (y 1).isLt (size_out t).2
    have e1 := out_entry m c q k v l hq hk hv hl t g9 g10 g11 g12 g13 ⟨(y 0 : Nat), hy0⟩ ⟨(y 1 : Nat), hy1⟩
    rw [← hres (hd t)] at e1
    refine Eq.trans (congrArg (outAt m c t g9 g10 g11 g12 g13) ?_) (e1.trans (congrArg res ?_))
    · funext a
      apply Fin.ext
      match a with
      | ⟨0, _⟩ => rfl
      | ⟨1, _⟩ => rfl
    · funext a
      apply Fin.ext
      match a with
      | ⟨0, _⟩ => show (y 0 : Nat) = win0_8.index t 0 * 16384 + 1 * (y 0 : Nat); rw [(index_out t).1]; omega
      | ⟨1, _⟩ => show (hd t).val * 128 + (y 1 : Nat) = win0_8.index t 1 * 128 + 1 * (y 1 : Nat); rw [(index_out t).2]; omega
  · have h1 : (i 1 : Nat) < 512 := (i 1).isLt
    have h0 : (i 0 : Nat) < 16384 := (i 0).isLt
    obtain ⟨t, ht⟩ : ∃ t : Fin cfg0.N, (hd t).val = (i 1 : Nat) / 128 := ⟨⟨(i 1 : Nat) / 128, lt_of_lt_of_eq (by omega : (i 1 : Nat) / 128 < 4) (by decide)⟩, rfl⟩
    refine ⟨t, flush0_8 t, ?_⟩
    show i ∈ ((View.whole main_v12).slice (win0_8.rect t)).set
    rw [View.set_slice_whole, Rect.mem_set_unit]
    intro a
    match a with
    | ⟨0, _⟩ =>
      show win0_8.index t 0 * 16384 ≤ (i 0 : Nat) ∧ (i 0 : Nat) < win0_8.index t 0 * 16384 + win0_8.xsize (grid0.coords t) 0
      rw [(index_out t).1, (size_out t).1]; omega
    | ⟨1, _⟩ =>
      show win0_8.index t 1 * 128 ≤ (i 1 : Nat) ∧ (i 1 : Nat) < win0_8.index t 1 * 128 + win0_8.xsize (grid0.coords t) 1
      rw [(index_out t).2, (size_out t).2, ht]; omega

end Cert.Proof.Attn

end
-- ==== Proof.lean ====
/-
  The proof of `Cert.Claim`. The kernel's frames and its value are one run, `Attn.run_main`, proved for any float values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Gen.Pre_finite
public import proofs.«01_k».proof.Proof.Same
public import proofs.«01_k».proof.Proof.Finite
public import proofs.«01_k».proof.Proof.Result

@[expose] public section

set_option maxRecDepth 65536

noncomputable section

namespace Cert.Proof

open Idealize.ShloMosaic Idealize.SL.Sem

/-- The kernel runs over floats, its arguments unchanged and its counters at zero. -/
theorem frame_kernel : Cert.quiescent_Kernel := by
  intro m ρ _
  rw [defs_same]
  exact (θ_run Cert.KernelIdeal.defs _ _).mono (fun _ h => h) (Attn.frame_any (F := Bits) m ρ)

/-- The kernel runs over extended reals. -/
theorem frame_ideal : Cert.quiescent_KernelIdeal := fun m ρ _ =>
  (θ_run Cert.KernelIdeal.defs _ _).mono (fun _ h => h) (Attn.frame_any (F := Ideal) m ρ)

/-- The reference runs; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite arguments the kernel's result is the reference's. -/
theorem value : Cert.algebraic_KernelIdeal_ReferenceIdeal_pre_finite := by
  intro m g m' g' hpre hargs
  refine ⟨fun c => Cert.ReferenceIdeal.Value.res_main_v60 m' c, ?_, Cert.ReferenceIdeal.Value.run (F := Ideal) m' g'⟩
  refine (θ_run Cert.KernelIdeal.defs _ _).mono (fun r h c => ⟨?_, Attn.args_of m h c⟩) (Attn.run_main (F := Ideal) m g)
  obtain ⟨a0, a1, a2, a3, a4, a5, a6⟩ := Attn.finite_all _ _ _ _ _ _ _ _ (hpre c)
  obtain ⟨l, hl⟩ := Attn.Ref.lam_real _ _ _ _ _ _ _ _ (Attn.row_real _ a0) (Attn.row_real _ a1) (Attn.row_real _ a2) (Attn.row_real _ a3)
  have hq := Attn.mat_real _ a4
  have hk := Attn.mat_real _ a5
  have hv := Attn.mat_real _ a6
  refine Attn.final_out m c _ _ _ l hq hk hv ((Attn.Ref.lam_apply _ _ _ _).symm.trans hl) h.1 _ fun hd i e => ?_
  obtain ⟨e0, e1, e2, e3, e4, e5, e6, e7⟩ := hargs c
  refine (congrFun (Attn.Ref.res_eq m' c) _).trans ?_
  rw [e0, e1, e2, e3, e4, e5, e6, e7]
  exact Attn.Ref.norm_real _ _ _ l hd _ _ _ hq hk hv _ hl _ i e

theorem claim : Cert.Claim :=
  ⟨Cert.Kernel.Gen.facts, Cert.KernelIdeal.Gen.facts, Cert.ReferenceIdeal.Gen.facts, Cert.Pre_finite.Gen.facts, frame_kernel, frame_ideal,
    fun m ρ _ => frame_ideal m ρ trivial, frame_reference, fun m ρ _ => frame_reference m ρ trivial, trivial, value⟩

end Cert.Proof

end
